-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_tables_ok [hPre_tables_ok : Cert.Pre_tables_ok.Facts] (m : (ℓ : Loc Cert.KernelIdeal.nD Cert.KernelIdeal.τ Cert.KernelIdeal.sig) → Buf (Elt Ideal) ℓ) : Prop :=
  ∀ c : Dev Cert.KernelIdeal.nD,
    (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_ok [hPre_tables_ok : Cert.Pre_tables_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Fwd [hPre_list_in_range : Cert.Pre_list_in_range.Facts] (m : (ℓ : Loc Cert.Fwd.nD Cert.Fwd.τ Cert.Fwd.sig) → Buf (Elt Bits) ℓ) : Prop :=
  ∀ c : Dev Cert.Fwd.nD,
    (Cert.Pre_list_in_range.fn (F := Bits) (m ((c.tc : Thread Cert.Fwd.nD Cert.Fwd.τ).loc Cert.Fwd.main_arg0)) (m ((c.tc : Thread Cert.Fwd.nD Cert.Fwd.τ).loc Cert.Fwd.main_arg1)) (m ((c.tc : Thread Cert.Fwd.nD Cert.Fwd.τ).loc Cert.Fwd.main_arg2)) (m ((c.tc : Thread Cert.Fwd.nD Cert.Fwd.τ).loc Cert.Fwd.main_arg3)) (m ((c.tc : Thread Cert.Fwd.nD Cert.Fwd.τ).loc Cert.Fwd.main_arg4)) (m ((c.tc : Thread Cert.Fwd.nD Cert.Fwd.τ).loc Cert.Fwd.main_arg5)) (m ((c.tc : Thread Cert.Fwd.nD Cert.Fwd.τ).loc Cert.Fwd.main_arg6)) (m ((c.tc : Thread Cert.Fwd.nD Cert.Fwd.τ).loc Cert.Fwd.main_arg7)) (m ((c.tc : Thread Cert.Fwd.nD Cert.Fwd.τ).loc Cert.Fwd.main_arg8))) = (fun _ => 1#1)

def Pre_FwdIdeal [hPre_list_in_range : Cert.Pre_list_in_range.Facts] (m : (ℓ : Loc Cert.FwdIdeal.nD Cert.FwdIdeal.τ Cert.FwdIdeal.sig) → Buf (Elt Ideal) ℓ) : Prop :=
  ∀ c : Dev Cert.FwdIdeal.nD,
    (Cert.Pre_list_in_range.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6)) (m ((c.tc : Thread Cert.FwdIdeal.nD Cert.FwdIdeal.τ).loc Cert.FwdIdeal.main_arg7)) (m ((c.tc : Thread Cert.FwdIdeal.nD Cert.FwdIdeal.τ).loc Cert.FwdIdeal.main_arg8))) = (fun _ => 1#1)

def Pre_FwdIdeal_list_complete [hPre_list_complete : Cert.Pre_list_complete.Facts] (m : (ℓ : Loc Cert.FwdIdeal.nD Cert.FwdIdeal.τ Cert.FwdIdeal.sig) → Buf (Elt Ideal) ℓ) : Prop :=
  ∀ c : Dev Cert.FwdIdeal.nD,
    (Cert.Pre_list_complete.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6)) (m ((c.tc : Thread Cert.FwdIdeal.nD Cert.FwdIdeal.τ).loc Cert.FwdIdeal.main_arg7)) (m ((c.tc : Thread Cert.FwdIdeal.nD Cert.FwdIdeal.τ).loc Cert.FwdIdeal.main_arg8))) = (fun _ => 1#1)

def Pre_FwdReferenceIdeal (m : (ℓ : Loc Cert.FwdReferenceIdeal.nD Cert.FwdReferenceIdeal.τ Cert.FwdReferenceIdeal.sig) → Buf (Elt Ideal) ℓ) : Prop :=
  True

def Pre_FwdReferenceIdeal_list_complete [hPre_list_complete : Cert.Pre_list_complete.Facts] (m : (ℓ : Loc Cert.FwdReferenceIdeal.nD Cert.FwdReferenceIdeal.τ Cert.FwdReferenceIdeal.sig) → Buf (Elt Ideal) ℓ) : Prop :=
  ∀ c : Dev Cert.FwdReferenceIdeal.nD,
    (Cert.Pre_list_complete.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2)) (m ((c.tc : Thread Cert.FwdReferenceIdeal.nD Cert.FwdReferenceIdeal.τ).loc Cert.FwdReferenceIdeal.main_arg3)) (m ((c.tc : Thread Cert.FwdReferenceIdeal.nD Cert.FwdReferenceIdeal.τ).loc Cert.FwdReferenceIdeal.main_arg4)) (m ((c.tc : Thread Cert.FwdReferenceIdeal.nD Cert.FwdReferenceIdeal.τ).loc Cert.FwdReferenceIdeal.main_arg5)) (m ((c.tc : Thread Cert.FwdReferenceIdeal.nD Cert.FwdReferenceIdeal.τ).loc Cert.FwdReferenceIdeal.main_arg6)) (m ((c.tc : Thread Cert.FwdReferenceIdeal.nD Cert.FwdReferenceIdeal.τ).loc Cert.FwdReferenceIdeal.main_arg7)) (m ((c.tc : Thread Cert.FwdReferenceIdeal.nD Cert.FwdReferenceIdeal.τ).loc Cert.FwdReferenceIdeal.main_arg8))) = (fun _ => 1#1)

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_tables_ok [hKernelIdeal : Cert.KernelIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tables_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_tables_ok [hReferenceIdeal : Cert.ReferenceIdeal.Facts] [hPre_tables_ok : Cert.Pre_tables_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Fwd [hFwd : Cert.Fwd.Facts] [hPre_list_in_range : Cert.Pre_list_in_range.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6)
      ∧ r.2.mem ((c.tc : Thread Cert.Fwd.nD Cert.Fwd.τ).loc Cert.Fwd.main_arg7) = m ((c.tc : Thread Cert.Fwd.nD Cert.Fwd.τ).loc Cert.Fwd.main_arg7)
      ∧ r.2.mem ((c.tc : Thread Cert.Fwd.nD Cert.Fwd.τ).loc Cert.Fwd.main_arg8) = m ((c.tc : Thread Cert.Fwd.nD Cert.Fwd.τ).loc Cert.Fwd.main_arg8))
      ∧ r.2.sem = fun _ => 0)

def quiescent_FwdIdeal [hFwdIdeal : Cert.FwdIdeal.Facts] [hPre_list_in_range : Cert.Pre_list_in_range.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
      ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8))
      ∧ r.2.sem = fun _ => 0)

def quiescent_FwdIdeal_pre_list_complete [hFwdIdeal : Cert.FwdIdeal.Facts] [hPre_list_complete : Cert.Pre_list_complete.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_list_complete m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
      ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4)
      ∧ r.2.mem ((c.tc : Thread Cert.FwdReferenceIdeal.nD Cert.FwdReferenceIdeal.τ).loc Cert.FwdReferenceIdeal.main_arg5) = m ((c.tc : Thread Cert.FwdReferenceIdeal.nD Cert.FwdReferenceIdeal.τ).loc Cert.FwdReferenceIdeal.main_arg5)
      ∧ r.2.mem ((c.tc : Thread Cert.FwdReferenceIdeal.nD Cert.FwdReferenceIdeal.τ).loc Cert.FwdReferenceIdeal.main_arg6) = m ((c.tc : Thread Cert.FwdReferenceIdeal.nD Cert.FwdReferenceIdeal.τ).loc Cert.FwdReferenceIdeal.main_arg6)
      ∧ r.2.mem ((c.tc : Thread Cert.FwdReferenceIdeal.nD Cert.FwdReferenceIdeal.τ).loc Cert.FwdReferenceIdeal.main_arg7) = m ((c.tc : Thread Cert.FwdReferenceIdeal.nD Cert.FwdReferenceIdeal.τ).loc Cert.FwdReferenceIdeal.main_arg7)
      ∧ r.2.mem ((c.tc : Thread Cert.FwdReferenceIdeal.nD Cert.FwdReferenceIdeal.τ).loc Cert.FwdReferenceIdeal.main_arg8) = m ((c.tc : Thread Cert.FwdReferenceIdeal.nD Cert.FwdReferenceIdeal.τ).loc Cert.FwdReferenceIdeal.main_arg8))
      ∧ r.2.sem = fun _ => 0)

def quiescent_FwdReferenceIdeal_pre_list_complete [hFwdReferenceIdeal : Cert.FwdReferenceIdeal.Facts] [hPre_list_complete : Cert.Pre_list_complete.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal_list_complete m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4)
      ∧ r.2.mem ((c.tc : Thread Cert.FwdReferenceIdeal.nD Cert.FwdReferenceIdeal.τ).loc Cert.FwdReferenceIdeal.main_arg5) = m ((c.tc : Thread Cert.FwdReferenceIdeal.nD Cert.FwdReferenceIdeal.τ).loc Cert.FwdReferenceIdeal.main_arg5)
      ∧ r.2.mem ((c.tc : Thread Cert.FwdReferenceIdeal.nD Cert.FwdReferenceIdeal.τ).loc Cert.FwdReferenceIdeal.main_arg6) = m ((c.tc : Thread Cert.FwdReferenceIdeal.nD Cert.FwdReferenceIdeal.τ).loc Cert.FwdReferenceIdeal.main_arg6)
      ∧ r.2.mem ((c.tc : Thread Cert.FwdReferenceIdeal.nD Cert.FwdReferenceIdeal.τ).loc Cert.FwdReferenceIdeal.main_arg7) = m ((c.tc : Thread Cert.FwdReferenceIdeal.nD Cert.FwdReferenceIdeal.τ).loc Cert.FwdReferenceIdeal.main_arg7)
      ∧ r.2.mem ((c.tc : Thread Cert.FwdReferenceIdeal.nD Cert.FwdReferenceIdeal.τ).loc Cert.FwdReferenceIdeal.main_arg8) = m ((c.tc : Thread Cert.FwdReferenceIdeal.nD Cert.FwdReferenceIdeal.τ).loc Cert.FwdReferenceIdeal.main_arg8))
      ∧ r.2.sem = fun _ => 0)

def preserves_Kernel_KernelIdeal : Prop :=
  True

def algebraic_KernelIdeal_ReferenceIdeal_pre_tables_ok [hKernelIdeal : Cert.KernelIdeal.Facts] [hReferenceIdeal : Cert.ReferenceIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tables_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10_0) = v0 c
          ∧ r.2.mem ((c.tc : Thread Cert.ReferenceIdeal.nD Cert.ReferenceIdeal.τ).loc Cert.ReferenceIdeal.main_v10_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Fwd_FwdIdeal : Prop :=
  True

def algebraic_FwdIdeal_FwdReferenceIdeal_pre_list_complete [hFwdIdeal : Cert.FwdIdeal.Facts] [hFwdReferenceIdeal : Cert.FwdReferenceIdeal.Facts] [hPre_list_complete : Cert.Pre_list_complete.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdIdeal_list_complete m →
    (∀ c : Dev Cert.FwdIdeal.nD,
      m' ((c.tc : Thread Cert.FwdReferenceIdeal.nD Cert.FwdReferenceIdeal.τ).loc Cert.FwdReferenceIdeal.main_arg0) = m ((c.tc : Thread Cert.FwdIdeal.nD Cert.FwdIdeal.τ).loc Cert.FwdIdeal.main_arg0)
      ∧ m' ((c.tc : Thread Cert.FwdReferenceIdeal.nD Cert.FwdReferenceIdeal.τ).loc Cert.FwdReferenceIdeal.main_arg1) = m ((c.tc : Thread Cert.FwdIdeal.nD Cert.FwdIdeal.τ).loc Cert.FwdIdeal.main_arg1)
      ∧ m' ((c.tc : Thread Cert.FwdReferenceIdeal.nD Cert.FwdReferenceIdeal.τ).loc Cert.FwdReferenceIdeal.main_arg2) = m ((c.tc : Thread Cert.FwdIdeal.nD Cert.FwdIdeal.τ).loc Cert.FwdIdeal.main_arg2)
      ∧ m' ((c.tc : Thread Cert.FwdReferenceIdeal.nD Cert.FwdReferenceIdeal.τ).loc Cert.FwdReferenceIdeal.main_arg3) = m ((c.tc : Thread Cert.FwdIdeal.nD Cert.FwdIdeal.τ).loc Cert.FwdIdeal.main_arg3)
      ∧ m' ((c.tc : Thread Cert.FwdReferenceIdeal.nD Cert.FwdReferenceIdeal.τ).loc Cert.FwdReferenceIdeal.main_arg4) = m ((c.tc : Thread Cert.FwdIdeal.nD Cert.FwdIdeal.τ).loc Cert.FwdIdeal.main_arg4)
      ∧ m' ((c.tc : Thread Cert.FwdReferenceIdeal.nD Cert.FwdReferenceIdeal.τ).loc Cert.FwdReferenceIdeal.main_arg5) = m ((c.tc : Thread Cert.FwdIdeal.nD Cert.FwdIdeal.τ).loc Cert.FwdIdeal.main_arg5)
      ∧ m' ((c.tc : Thread Cert.FwdReferenceIdeal.nD Cert.FwdReferenceIdeal.τ).loc Cert.FwdReferenceIdeal.main_arg6) = m ((c.tc : Thread Cert.FwdIdeal.nD Cert.FwdIdeal.τ).loc Cert.FwdIdeal.main_arg6)
      ∧ m' ((c.tc : Thread Cert.FwdReferenceIdeal.nD Cert.FwdReferenceIdeal.τ).loc Cert.FwdReferenceIdeal.main_arg7) = m ((c.tc : Thread Cert.FwdIdeal.nD Cert.FwdIdeal.τ).loc Cert.FwdIdeal.main_arg7)
      ∧ m' ((c.tc : Thread Cert.FwdReferenceIdeal.nD Cert.FwdReferenceIdeal.τ).loc Cert.FwdReferenceIdeal.main_arg8) = m ((c.tc : Thread Cert.FwdIdeal.nD Cert.FwdIdeal.τ).loc Cert.FwdIdeal.main_arg8)) →
    ∃ (v0 : (c : Dev Cert.FwdIdeal.nD) → Buf (Elt Ideal) ((c.tc : Thread Cert.FwdIdeal.nD Cert.FwdIdeal.τ).loc Cert.FwdIdeal.main_v1_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v1_1) = v0 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
          ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
          ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v12) = v0 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4)
          ∧ r.2.mem ((c.tc : Thread Cert.FwdReferenceIdeal.nD Cert.FwdReferenceIdeal.τ).loc Cert.FwdReferenceIdeal.main_arg5) = m' ((c.tc : Thread Cert.FwdReferenceIdeal.nD Cert.FwdReferenceIdeal.τ).loc Cert.FwdReferenceIdeal.main_arg5)
          ∧ r.2.mem ((c.tc : Thread Cert.FwdReferenceIdeal.nD Cert.FwdReferenceIdeal.τ).loc Cert.FwdReferenceIdeal.main_arg6) = m' ((c.tc : Thread Cert.FwdReferenceIdeal.nD Cert.FwdReferenceIdeal.τ).loc Cert.FwdReferenceIdeal.main_arg6)
          ∧ r.2.mem ((c.tc : Thread Cert.FwdReferenceIdeal.nD Cert.FwdReferenceIdeal.τ).loc Cert.FwdReferenceIdeal.main_arg7) = m' ((c.tc : Thread Cert.FwdReferenceIdeal.nD Cert.FwdReferenceIdeal.τ).loc Cert.FwdReferenceIdeal.main_arg7)
          ∧ r.2.mem ((c.tc : Thread Cert.FwdReferenceIdeal.nD Cert.FwdReferenceIdeal.τ).loc Cert.FwdReferenceIdeal.main_arg8) = m' ((c.tc : Thread Cert.FwdReferenceIdeal.nD Cert.FwdReferenceIdeal.τ).loc Cert.FwdReferenceIdeal.main_arg8))

def Claim : Prop :=
  ∃ (hKernel : Cert.Kernel.Facts) (hKernelIdeal : Cert.KernelIdeal.Facts) (hReferenceIdeal : Cert.ReferenceIdeal.Facts) (hFwd : Cert.Fwd.Facts) (hFwdIdeal : Cert.FwdIdeal.Facts) (hFwdReferenceIdeal : Cert.FwdReferenceIdeal.Facts) (hPre_tables_in_range : Cert.Pre_tables_in_range.Facts) (hPre_tables_ok : Cert.Pre_tables_ok.Facts) (hPre_list_in_range : Cert.Pre_list_in_range.Facts) (hPre_list_complete : Cert.Pre_list_complete.Facts),
    quiescent_Kernel (hKernel := hKernel) (hPre_tables_in_range := hPre_tables_in_range)
    ∧ quiescent_KernelIdeal (hKernelIdeal := hKernelIdeal) (hPre_tables_in_range := hPre_tables_in_range)
    ∧ quiescent_KernelIdeal_pre_tables_ok (hKernelIdeal := hKernelIdeal) (hPre_tables_ok := hPre_tables_ok)
    ∧ quiescent_ReferenceIdeal (hReferenceIdeal := hReferenceIdeal)
    ∧ quiescent_ReferenceIdeal_pre_tables_ok (hReferenceIdeal := hReferenceIdeal) (hPre_tables_ok := hPre_tables_ok)
    ∧ quiescent_Fwd (hFwd := hFwd) (hPre_list_in_range := hPre_list_in_range)
    ∧ quiescent_FwdIdeal (hFwdIdeal := hFwdIdeal) (hPre_list_in_range := hPre_list_in_range)
    ∧ quiescent_FwdIdeal_pre_list_complete (hFwdIdeal := hFwdIdeal) (hPre_list_complete := hPre_list_complete)
    ∧ quiescent_FwdReferenceIdeal (hFwdReferenceIdeal := hFwdReferenceIdeal)
    ∧ quiescent_FwdReferenceIdeal_pre_list_complete (hFwdReferenceIdeal := hFwdReferenceIdeal) (hPre_list_complete := hPre_list_complete)
    ∧ preserves_Kernel_KernelIdeal
    ∧ algebraic_KernelIdeal_ReferenceIdeal_pre_tables_ok (hKernelIdeal := hKernelIdeal) (hReferenceIdeal := hReferenceIdeal) (hPre_tables_ok := hPre_tables_ok)
    ∧ preserves_Fwd_FwdIdeal
    ∧ algebraic_FwdIdeal_FwdReferenceIdeal_pre_list_complete (hFwdIdeal := hFwdIdeal) (hFwdReferenceIdeal := hFwdReferenceIdeal) (hPre_list_complete := hPre_list_complete)
-- ==== Pre_list_complete.lean ====
abbrev S251 : Shape := ⟨1, ![251]⟩
abbrev S1 : Shape := ⟨1, ![1]⟩
abbrev S960x3072 : Shape := ⟨2, ![960, 3072]⟩
abbrev S960x1 : Shape := ⟨2, ![960, 1]⟩
abbrev S128512x3072 : Shape := ⟨2, ![128512, 3072]⟩
abbrev S251x1x512 : Shape := ⟨3, ![251, 1, 512]⟩
abbrev S960x4096 : Shape := ⟨2, ![960, 4096]⟩
abbrev S1x251 : Shape := ⟨2, ![1, 251]⟩
abbrev S251x1 : Shape := ⟨2, ![251, 1]⟩
abbrev S251x251 : Shape := ⟨2, ![251, 251]⟩
abbrev S_ : Shape := ⟨0, ![]⟩
abbrev S251x16 : Shape := ⟨2, ![251, 16]⟩
abbrev S1x4016 : Shape := ⟨2, ![1, 4016]⟩
abbrev S1x4008 : Shape := ⟨2, ![1, 4008]⟩
abbrev S960x4008 : Shape := ⟨2, ![960, 4008]⟩

class Facts : Prop where
  bcast_S251_S1x251_1 : S251.BroadcastsInDim S1x251 (![1] : Fin 1 → Fin S1x251.rank)
  bcast_S251_S251x1_0 : S251.BroadcastsInDim S251x1 (![0] : Fin 1 → Fin S251x1.rank)
  bcast_S1x251_S251x251_0_1 : S1x251.BroadcastsInDim S251x251 (![0, 1] : Fin 2 → Fin S251x251.rank)
  bcast_S251x1_S251x251_0_1 : S251x1.BroadcastsInDim S251x251 (![0, 1] : Fin 2 → Fin S251x251.rank)
  shapeCasts_S1_S_ : S1.ShapeCasts S_
  bcast_S_S1x251 : S_.BroadcastsInDim S1x251 (![] : Fin 0 → Fin S1x251.rank)
  reducesTo_S251x251_S251_d1 : S251x251.ReducesTo [1] S251
  h_S_ : 0 < S_.numel
  bcast_S251x1_S251x16_0_1 : S251x1.BroadcastsInDim S251x16 (![0, 1] : Fin 2 → Fin S251x16.rank)
  shapeCasts_S251x16_S1x4016 : S251x16.ShapeCasts S1x4016
  slices_S1x4016_S1x4008_0_0 : S1x4016.Slices ![0, 0] S1x4008
  bcast_S_S251 : S_.BroadcastsInDim S251 (![] : Fin 0 → Fin S251.rank)
  reducesTo_S251_S_d0 : S251.ReducesTo [0] S_
  slices_S960x4096_S960x4008_0_0 : S960x4096.Slices ![0, 0] S960x4008
  bcast_S_S960x4008 : S_.BroadcastsInDim S960x4008 (![] : Fin 0 → Fin S960x4008.rank)
  bcast_S1x4008_S960x4008_0_1 : S1x4008.BroadcastsInDim S960x4008 (![0, 1] : Fin 2 → Fin S960x4008.rank)
  reducesTo_S960x4008_S_d0_1 : S960x4008.ReducesTo [0, 1] S_

variable [Facts]

def fn_part2 {F : FTy → Type} [FloatOps F] (main_v33 : IVec S_ 1) (main_v39 : IVec S_ 1) : IVec S_ 1 :=
  let main_v40 : IVec S_ 1 := andi main_v33 main_v39
  main_v40

def fn_part1 {F : FTy → Type} [FloatOps F] (main_arg0 : IVec S251 32) (main_arg1 : IVec S1 32) (main_arg8 : IVec S960x4096 32) (main_v16 : IVec S1x4008 1) (main_v20 : IVec S251 1) (main_v21 : IVec S_ 32) (main_c_0 : IVec S_ 32) : IVec S_ 1 :=
  let main_v22 : IVec S_ 1 := cmpi .sge main_v21 main_c_0
  let main_v23 : IVec S_ 32 := shapeCast S_ main_arg1 shapeCasts_S1_S_
  let main_c_1 : IVec S_ 32 := constantI S_ 32 251#32
  let main_v24 : IVec S_ 1 := cmpi .sle main_v23 main_c_1
  let main_v25 : IVec S_ 1 := andi main_v22 main_v24
  let main_c_2 : IVec S_ 32 := constantI S_ 32 0#32
  let main_v26 : IVec S251 32 := broadcastInDim S251 ![] bcast_S_S251 main_c_2
  let main_v27 : IVec S251 1 := cmpi .sge main_arg0 main_v26
  let main_c_3 : IVec S_ 32 := constantI S_ 32 251#32
  let main_v28 : IVec S251 32 := broadcastInDim S251 ![] bcast_S_S251 main_c_3
  let main_v29 : IVec S251 1 := cmpi .slt main_arg0 main_v28
  let main_v30 : IVec S251 1 := andi main_v27 main_v29
  let main_v31 : IVec S251 1 := ori main_v20 main_v30
  let main_c_4 : IVec S_ 1 := constantI S_ 1 1#1
  let main_v32 : IVec S_ 1 := (fun x v => Host.reduce IntOp.andi x v reducesTo_S251_S_d0 h_S_) main_v31 main_c_4
  let main_v33 : IVec S_ 1 := andi main_v25 main_v32
  let main_v34 : IVec S960x4008 32 := (extractStridedSlice S960x4008 ![0, 0] · slices_S960x4096_S960x4008_0_0) main_arg8
  let main_c_5 : IVec S_ 32 := constantI S_ 32 0#32
  let main_v35 : IVec S960x4008 32 := broadcastInDim S960x4008 ![] bcast_S_S960x4008 main_c_5
  let main_v36 : IVec S960x4008 1 := cmpi .eq main_v34 main_v35
  let main_v37 : IVec S960x4008 1 := broadcastInDim S960x4008 ![0, 1] bcast_S1x4008_S960x4008_0_1 main_v16
  let main_v38 : IVec S960x4008 1 := ori main_v37 main_v36
  let main_c_6 : IVec S_ 1 := constantI S_ 1 1#1
  let main_v39 : IVec S_ 1 := (fun x v => Host.reduce IntOp.andi x v reducesTo_S960x4008_S_d0_1 h_S_) main_v38 main_c_6
  fn_part2 (F := F) main_v33 main_v39

def fn {F : FTy → Type} [FloatOps F] (main_arg0 : IVec S251 32) (main_arg1 : IVec S1 32) (main_arg2 : FVec F S960x3072 .fp8e4m3) (main_arg3 : FVec F S960x1 .f32) (main_arg4 : IVec S960x1 32) (main_arg5 : IVec S960x1 32) (main_arg6 : FVec F S128512x3072 .fp8e4m3) (main_arg7 : FVec F S251x1x512 .f32) (main_arg8 : IVec S960x4096 32) : IVec S_ 1 :=
  let main_v0 : IVec S251 32 := iotaInDim S251 32 0
  let main_v1 : IVec S1x251 32 := broadcastInDim S1x251 ![1] bcast_S251_S1x251_1 main_arg0
  let main_v2 : IVec S251x1 32 := broadcastInDim S251x1 ![0] bcast_S251_S251x1_0 main_v0
  let main_v3 : IVec S251x251 32 := broadcastInDim S251x251 ![0, 1] bcast_S1x251_S251x251_0_1 main_v1
  let main_v4 : IVec S251x251 32 := broadcastInDim S251x251 ![0, 1] bcast_S251x1_S251x251_0_1 main_v2
  let main_v5 : IVec S251x251 1 := cmpi .eq main_v3 main_v4
  let main_v6 : IVec S1x251 32 := broadcastInDim S1x251 ![1] bcast_S251_S1x251_1 main_v0
  let main_v7 : IVec S_ 32 := shapeCast S_ main_arg1 shapeCasts_S1_S_
  let main_v8 : IVec S1x251 32 := broadcastInDim S1x251 ![] bcast_S_S1x251 main_v7
  let main_v9 : IVec S1x251 1 := cmpi .slt main_v6 main_v8
  let main_v10 : IVec S251x251 1 := broadcastInDim S251x251 ![0, 1] bcast_S1x251_S251x251_0_1 main_v9
  let main_v11 : IVec S251x251 1 := andi main_v5 main_v10
  let main_c : IVec S_ 1 := constantI S_ 1 0#1
  let main_v12 : IVec S251 1 := (fun x v => Host.reduce IntOp.ori x v reducesTo_S251x251_S251_d1 h_S_) main_v11 main_c
  let main_v13 : IVec S251x1 1 := broadcastInDim S251x1 ![0] bcast_S251_S251x1_0 main_v12
  let main_v14 : IVec S251x16 1 := broadcastInDim S251x16 ![0, 1] bcast_S251x1_S251x16_0_1 main_v13
  let main_v15 : IVec S1x4016 1 := shapeCast S1x4016 main_v14 shapeCasts_S251x16_S1x4016
  let main_v16 : IVec S1x4008 1 := (extractStridedSlice S1x4008 ![0, 0] · slices_S1x4016_S1x4008_0_0) main_v15
  let main_v17 : IVec S251 32 := iotaInDim S251 32 0
  let main_v18 : IVec S_ 32 := shapeCast S_ main_arg1 shapeCasts_S1_S_
  let main_v19 : IVec S251 32 := broadcastInDim S251 ![] bcast_S_S251 main_v18
  let main_v20 : IVec S251 1 := cmpi .sge main_v17 main_v19
  let main_v21 : IVec S_ 32 := shapeCast S_ main_arg1 shapeCasts_S1_S_
  let main_c_0 : IVec S_ 32 := constantI S_ 32 1#32
  fn_part1 (F := F) main_arg0 main_arg1 main_arg8 main_v16 main_v20 main_v21 main_c_0
-- ==== Pre_list_in_range.lean ====
abbrev S251 : Shape := ⟨1, ![251]⟩
abbrev S1 : Shape := ⟨1, ![1]⟩
abbrev S960x3072 : Shape := ⟨2, ![960, 3072]⟩
abbrev S960x1 : Shape := ⟨2, ![960, 1]⟩
abbrev S128512x3072 : Shape := ⟨2, ![128512, 3072]⟩
abbrev S251x1x512 : Shape := ⟨3, ![251, 1, 512]⟩
abbrev S960x4096 : Shape := ⟨2, ![960, 4096]⟩
abbrev S_ : Shape := ⟨0, ![]⟩

class Facts : Prop where
  shapeCasts_S1_S_ : S1.ShapeCasts S_
  bcast_S_S251 : S_.BroadcastsInDim S251 (![] : Fin 0 → Fin S251.rank)
  reducesTo_S251_S_d0 : S251.ReducesTo [0] S_
  h_S_ : 0 < S_.numel

variable [Facts]

def fn {F : FTy → Type} [FloatOps F] (main_arg0 : IVec S251 32) (main_arg1 : IVec S1 32) (main_arg2 : FVec F S960x3072 .fp8e4m3) (main_arg3 : FVec F S960x1 .f32) (main_arg4 : IVec S960x1 32) (main_arg5 : IVec S960x1 32) (main_arg6 : FVec F S128512x3072 .fp8e4m3) (main_arg7 : FVec F S251x1x512 .f32) (main_arg8 : IVec S960x4096 32) : IVec S_ 1 :=
  let main_v0 : IVec S251 32 := iotaInDim S251 32 0
  let main_v1 : IVec S_ 32 := shapeCast S_ main_arg1 shapeCasts_S1_S_
  let main_v2 : IVec S251 32 := broadcastInDim S251 ![] bcast_S_S251 main_v1
  let main_v3 : IVec S251 1 := cmpi .sge main_v0 main_v2
  let main_v4 : IVec S_ 32 := shapeCast S_ main_arg1 shapeCasts_S1_S_
  let main_c : IVec S_ 32 := constantI S_ 32 1#32
  let main_v5 : IVec S_ 1 := cmpi .sge main_v4 main_c
  let main_v6 : IVec S_ 32 := shapeCast S_ main_arg1 shapeCasts_S1_S_
  let main_c_0 : IVec S_ 32 := constantI S_ 32 251#32
  let main_v7 : IVec S_ 1 := cmpi .sle main_v6 main_c_0
  let main_v8 : IVec S_ 1 := andi main_v5 main_v7
  let main_c_1 : IVec S_ 32 := constantI S_ 32 0#32
  let main_v9 : IVec S251 32 := broadcastInDim S251 ![] bcast_S_S251 main_c_1
  let main_v10 : IVec S251 1 := cmpi .sge main_arg0 main_v9
  let main_c_2 : IVec S_ 32 := constantI S_ 32 251#32
  let main_v11 : IVec S251 32 := broadcastInDim S251 ![] bcast_S_S251 main_c_2
  let main_v12 : IVec S251 1 := cmpi .slt main_arg0 main_v11
  let main_v13 : IVec S251 1 := andi main_v10 main_v12
  let main_v14 : IVec S251 1 := ori main_v3 main_v13
  let main_c_3 : IVec S_ 1 := constantI S_ 1 1#1
  let main_v15 : IVec S_ 1 := (fun x v => Host.reduce IntOp.andi x v reducesTo_S251_S_d0 h_S_) main_v14 main_c_3
  let main_v16 : IVec S_ 1 := andi main_v8 main_v15
  main_v16
-- ==== Pre_tables_in_range.lean ====
abbrev S251 : Shape := ⟨1, ![251]⟩
abbrev S251x960x512 : Shape := ⟨3, ![251, 960, 512]⟩
abbrev S128512x3072 : Shape := ⟨2, ![128512, 3072]⟩
abbrev S251x1x512 : Shape := ⟨3, ![251, 1, 512]⟩
abbrev S960x1 : Shape := ⟨2, ![960, 1]⟩
abbrev S_ : Shape := ⟨0, ![]⟩

class Facts : Prop where
  bcast_S_S251 : S_.BroadcastsInDim S251 (![] : Fin 0 → Fin S251.rank)
  reducesTo_S251_S_d0 : S251.ReducesTo [0] S_
  h_S_ : 0 < S_.numel

variable [Facts]

def fn {F : FTy → Type} [FloatOps F] (main_arg0 : IVec S251 32) (main_arg1 : IVec S251 32) (main_arg2 : IVec S251 32) (main_arg3 : FVec F S251x960x512 .f32) (main_arg4 : FVec F S128512x3072 .fp8e4m3) (main_arg5 : FVec F S251x1x512 .f32) (main_arg6 : IVec S960x1 32) (main_arg7 : FVec F S960x1 .f32) (main_arg8 : FVec F S960x1 .f32) (main_arg9 : FVec F S960x1 .f32) : IVec S_ 1 :=
  let main_c : IVec S_ 32 := constantI S_ 32 0#32
  let main_v0 : IVec S251 32 := broadcastInDim S251 ![] bcast_S_S251 main_c
  let main_v1 : IVec S251 1 := cmpi .sge main_arg0 main_v0
  let main_c_0 : IVec S_ 32 := constantI S_ 32 251#32
  let main_v2 : IVec S251 32 := broadcastInDim S251 ![] bcast_S_S251 main_c_0
  let main_v3 : IVec S251 1 := cmpi .slt main_arg0 main_v2
  let main_v4 : IVec S251 1 := andi main_v1 main_v3
  let main_c_1 : IVec S_ 1 := constantI S_ 1 1#1
  let main_v5 : IVec S_ 1 := (fun x v => Host.reduce IntOp.andi x v reducesTo_S251_S_d0 h_S_) main_v4 main_c_1
  let main_c_2 : IVec S_ 32 := constantI S_ 32 0#32
  let main_v6 : IVec S251 32 := broadcastInDim S251 ![] bcast_S_S251 main_c_2
  let main_v7 : IVec S251 1 := cmpi .sge main_arg2 main_v6
  let main_c_3 : IVec S_ 32 := constantI S_ 32 251#32
  let main_v8 : IVec S251 32 := broadcastInDim S251 ![] bcast_S_S251 main_c_3
  let main_v9 : IVec S251 1 := cmpi .slt main_arg2 main_v8
  let main_v10 : IVec S251 1 := andi main_v7 main_v9
  let main_c_4 : IVec S_ 1 := constantI S_ 1 1#1
  let main_v11 : IVec S_ 1 := (fun x v => Host.reduce IntOp.andi x v reducesTo_S251_S_d0 h_S_) main_v10 main_c_4
  let main_v12 : IVec S_ 1 := andi main_v5 main_v11
  main_v12
-- ==== Pre_tables_ok.lean ====
abbrev S251 : Shape := ⟨1, ![251]⟩
abbrev S251x960x512 : Shape := ⟨3, ![251, 960, 512]⟩
abbrev S128512x3072 : Shape := ⟨2, ![128512, 3072]⟩
abbrev S251x1x512 : Shape := ⟨3, ![251, 1, 512]⟩
abbrev S960x1 : Shape := ⟨2, ![960, 1]⟩
abbrev S_ : Shape := ⟨0, ![]⟩

class Facts : Prop where
  bcast_S_S251 : S_.BroadcastsInDim S251 (![] : Fin 0 → Fin S251.rank)
  reducesTo_S251_S_d0 : S251.ReducesTo [0] S_
  h_S_ : 0 < S_.numel

variable [Facts]

def fn_part1 {F : FTy → Type} [FloatOps F] (main_v12 : IVec S_ 1) (main_v14 : IVec S251 1) (main_v16 : IVec S251 1) : IVec S_ 1 :=
  let main_v17 : IVec S251 1 := ori main_v14 main_v16
  let main_c_6 : IVec S_ 1 := constantI S_ 1 1#1
  let main_v18 : IVec S_ 1 := (fun x v => Host.reduce IntOp.andi x v reducesTo_S251_S_d0 h_S_) main_v17 main_c_6
  let main_v19 : IVec S_ 1 := andi main_v12 main_v18
  main_v19

def fn {F : FTy → Type} [FloatOps F] (main_arg0 : IVec S251 32) (main_arg1 : IVec S251 32) (main_arg2 : IVec S251 32) (main_arg3 : FVec F S251x960x512 .f32) (main_arg4 : FVec F S128512x3072 .fp8e4m3) (main_arg5 : FVec F S251x1x512 .f32) (main_arg6 : IVec S960x1 32) (main_arg7 : FVec F S960x1 .f32) (main_arg8 : FVec F S960x1 .f32) (main_arg9 : FVec F S960x1 .f32) : IVec S_ 1 :=
  let main_c : IVec S_ 32 := constantI S_ 32 0#32
  let main_v0 : IVec S251 32 := broadcastInDim S251 ![] bcast_S_S251 main_c
  let main_v1 : IVec S251 1 := cmpi .sge main_arg0 main_v0
  let main_c_0 : IVec S_ 32 := constantI S_ 32 251#32
  let main_v2 : IVec S251 32 := broadcastInDim S251 ![] bcast_S_S251 main_c_0
  let main_v3 : IVec S251 1 := cmpi .slt main_arg0 main_v2
  let main_v4 : IVec S251 1 := andi main_v1 main_v3
  let main_c_1 : IVec S_ 1 := constantI S_ 1 1#1
  let main_v5 : IVec S_ 1 := (fun x v => Host.reduce IntOp.andi x v reducesTo_S251_S_d0 h_S_) main_v4 main_c_1
  let main_c_2 : IVec S_ 32 := constantI S_ 32 0#32
  let main_v6 : IVec S251 32 := broadcastInDim S251 ![] bcast_S_S251 main_c_2
  let main_v7 : IVec S251 1 := cmpi .sge main_arg2 main_v6
  let main_c_3 : IVec S_ 32 := constantI S_ 32 251#32
  let main_v8 : IVec S251 32 := broadcastInDim S251 ![] bcast_S_S251 main_c_3
  let main_v9 : IVec S251 1 := cmpi .slt main_arg2 main_v8
  let main_v10 : IVec S251 1 := andi main_v7 main_v9
  let main_c_4 : IVec S_ 1 := constantI S_ 1 1#1
  let main_v11 : IVec S_ 1 := (fun x v => Host.reduce IntOp.andi x v reducesTo_S251_S_d0 h_S_) main_v10 main_c_4
  let main_v12 : IVec S_ 1 := andi main_v5 main_v11
  let main_c_5 : IVec S_ 32 := constantI S_ 32 0#32
  let main_v13 : IVec S251 32 := broadcastInDim S251 ![] bcast_S_S251 main_c_5
  let main_v14 : IVec S251 1 := cmpi .eq main_arg1 main_v13
  let main_v15 : IVec S251 32 := iotaInDim S251 32 0
  let main_v16 : IVec S251 1 := cmpi .eq main_arg2 main_v15
  fn_part1 (F := F) main_v12 main_v14 main_v16
-- ==== Kernel.lean ====
abbrev S251 : Shape := ⟨1, ![251]⟩
abbrev S251x960x512 : Shape := ⟨3, ![251, 960, 512]⟩
abbrev S128512x3072 : Shape := ⟨2, ![128512, 3072]⟩
abbrev S251x1x512 : Shape := ⟨3, ![251, 1, 512]⟩
abbrev S960x1 : Shape := ⟨2, ![960, 1]⟩
abbrev S960x128256 : Shape := ⟨2, ![960, 128256]⟩
abbrev S960x3072 : Shape := ⟨2, ![960, 3072]⟩
abbrev S1x960x512 : Shape := ⟨3, ![1, 960, 512]⟩
abbrev S1 : Shape := ⟨1, ![1]⟩
abbrev S512x3072 : Shape := ⟨2, ![512, 3072]⟩
abbrev S1x1x512 : Shape := ⟨3, ![1, 1, 512]⟩
abbrev S960x512 : Shape := ⟨2, ![960, 512]⟩
abbrev S192x512 : Shape := ⟨2, ![192, 512]⟩
abbrev S192x1 : Shape := ⟨2, ![192, 1]⟩
abbrev S1x192x512 : Shape := ⟨3, ![1, 192, 512]⟩
abbrev S1x512 : Shape := ⟨2, ![1, 512]⟩
abbrev S192x3072 : Shape := ⟨2, ![192, 3072]⟩

abbrev nBuf : Space → Nat
  | .hbm => 9
  | .vmem => 14
  | .smem => 3
  | _ => 0

abbrev bufTy : (tb : Table) → Fin (tcTables nBuf tb) → BufTy
  | .hbm, ⟨0, _⟩ => ⟨S251x960x512, .f32⟩
  | .hbm, ⟨1, _⟩ => ⟨S128512x3072, .fp8e4m3⟩
  | .hbm, ⟨2, _⟩ => ⟨S251x1x512, .f32⟩
  | .hbm, ⟨3, _⟩ => ⟨S960x1, .i32⟩
  | .hbm, ⟨4, _⟩ => ⟨S960x1, .f32⟩
  | .hbm, ⟨5, _⟩ => ⟨S960x1, .f32⟩
  | .hbm, ⟨6, _⟩ => ⟨S960x1, .f32⟩
  | .hbm, ⟨7, _⟩ => ⟨S960x128256, .fp8e5m2⟩
  | .hbm, ⟨8, _⟩ => ⟨S960x3072, .bf16⟩
  | .local _ .vmem, ⟨0, _⟩ => ⟨S1x960x512, .f32⟩
  | .local _ .vmem, ⟨1, _⟩ => ⟨S1x960x512, .f32⟩
  | .local _ .vmem, ⟨2, _⟩ => ⟨S512x3072, .fp8e4m3⟩
  | .local _ .vmem, ⟨3, _⟩ => ⟨S512x3072, .fp8e4m3⟩
  | .local _ .vmem, ⟨4, _⟩ => ⟨S1x1x512, .f32⟩
  | .local _ .vmem, ⟨5, _⟩ => ⟨S1x1x512, .f32⟩
  | .local _ .vmem, ⟨6, _⟩ => ⟨S960x1, .i32⟩
  | .local _ .vmem, ⟨7, _⟩ => ⟨S960x1, .f32⟩
  | .local _ .vmem, ⟨8, _⟩ => ⟨S960x1, .f32⟩
  | .local _ .vmem, ⟨9, _⟩ => ⟨S960x1, .f32⟩
  | .local _ .vmem, ⟨10, _⟩ => ⟨S960x512, .fp8e5m2⟩
  | .local _ .vmem, ⟨11, _⟩ => ⟨S960x512, .fp8e5m2⟩
  | .local _ .vmem, ⟨12, _⟩ => ⟨S960x3072, .bf16⟩
  | .local _ .vmem, ⟨13, _⟩ => ⟨S960x3072, .f32⟩
  | .local _ .smem, ⟨0, _⟩ => ⟨S251, .i32⟩
  | .local _ .smem, ⟨1, _⟩ => ⟨S251, .i32⟩
  | .local _ .smem, ⟨2, _⟩ => ⟨S251, .i32⟩
  | _, _ => ⟨S251x960x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_arg9 : Ref sig .tc := ⟨.hbm, 6, rfl⟩
abbrev main_v0_0 : Ref sig .tc := ⟨.hbm, 7, rfl⟩
abbrev main_v0_1 : Ref sig .tc := ⟨.hbm, 8, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![251], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v8 : Index := Scalar.indexCast arg0
  ![v8.toNat]
def k0_cond2 (v4 : BitVec 32) : BitVec 1 :=
  let c0_i32_1 : BitVec 32 := 0#32
  let v5 : BitVec 1 := Scalar.cmpi .eq v4 c0_i32_1
  let v6 : BitVec 32 := Scalar.extui v5
  let c0_i32_2 : BitVec 32 := 0#32
  let v7 : BitVec 1 := Scalar.cmpi .ne v6 c0_i32_2
  v7

def k0_cond3 (v9 : BitVec 32) : BitVec 1 :=
  let c0_i32_3 : BitVec 32 := 0#32
  let v10 : BitVec 1 := Scalar.cmpi .ne v9 c0_i32_3
  let v11 : BitVec 32 := Scalar.extui v10
  let c0_i32_4 : BitVec 32 := 0#32
  let v12 : BitVec 1 := Scalar.cmpi .ne v11 c0_i32_4
  v12

def k0_cond4 (i : grid0.Coords) : BitVec 1 :=
  let arg0 : BitVec 32 := BitVec.ofNat 32 (i 0).val
  let c250_i32 : BitVec 32 := 250#32
  let v13 : BitVec 1 := Scalar.cmpi .eq arg0 c250_i32
  let v14 : BitVec 32 := Scalar.extui v13
  let c0_i32_5 : BitVec 32 := 0#32
  let v15 : BitVec 1 := Scalar.cmpi .ne v14 c0_i32_5
  v15

def cc0_transform_0 (k0_off1_inb : ∀ i : grid0.Coords, ∀ a, (k0_off1 i) a + S1.size a ≤ S251.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S251) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S251.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S251) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S251.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S251) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x960x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S960x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S960x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S960x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S960x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S960x512 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S960x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S251 : Shape := ⟨1, ![251]⟩
abbrev S251x960x512 : Shape := ⟨3, ![251, 960, 512]⟩
abbrev S128512x3072 : Shape := ⟨2, ![128512, 3072]⟩
abbrev S251x1x512 : Shape := ⟨3, ![251, 1, 512]⟩
abbrev S960x1 : Shape := ⟨2, ![960, 1]⟩
abbrev S251x1 : Shape := ⟨2, ![251, 1]⟩
abbrev S960x251x512 : Shape := ⟨3, ![960, 251, 512]⟩
abbrev S960x128512 : Shape := ⟨2, ![960, 128512]⟩
abbrev S960x128256 : Shape := ⟨2, ![960, 128256]⟩
abbrev S251x512 : Shape := ⟨2, ![251, 512]⟩
abbrev S1x128512 : Shape := ⟨2, ![1, 128512]⟩
abbrev S1x128256 : Shape := ⟨2, ![1, 128256]⟩
abbrev S128512x1 : Shape := ⟨2, ![128512, 1]⟩
abbrev S128256x1 : Shape := ⟨2, ![128256, 1]⟩
abbrev S960x3072 : Shape := ⟨2, ![960, 3072]⟩
abbrev S128256x3072 : Shape := ⟨2, ![128256, 3072]⟩

abbrev nBuf : Space → Nat
  | .hbm => 23
  | .vmem => 10
  | .smem => 0
  | _ => 0

abbrev bufTy : (tb : Table) → Fin (tcTables nBuf tb) → BufTy
  | .hbm, ⟨0, _⟩ => ⟨S251, .i32⟩
  | .hbm, ⟨1, _⟩ => ⟨S251, .i32⟩
  | .hbm, ⟨2, _⟩ => ⟨S251, .i32⟩
  | .hbm, ⟨3, _⟩ => ⟨S251x960x512, .f32⟩
  | .hbm, ⟨4, _⟩ => ⟨S128512x3072, .fp8e4m3⟩
  | .hbm, ⟨5, _⟩ => ⟨S251x1x512, .f32⟩
  | .hbm, ⟨6, _⟩ => ⟨S960x1, .i32⟩
  | .hbm, ⟨7, _⟩ => ⟨S960x1, .f32⟩
  | .hbm, ⟨8, _⟩ => ⟨S960x1, .f32⟩
  | .hbm, ⟨9, _⟩ => ⟨S960x1, .f32⟩
  | .hbm, ⟨10, _⟩ => ⟨S251x1, .i32⟩
  | .hbm, ⟨11, _⟩ => ⟨S251x960x512, .f32⟩
  | .hbm, ⟨12, _⟩ => ⟨S960x251x512, .f32⟩
  | .hbm, ⟨13, _⟩ => ⟨S960x128512, .f32⟩
  | .hbm, ⟨14, _⟩ => ⟨S960x128256, .f32⟩
  | .hbm, ⟨15, _⟩ => ⟨S251x1, .i32⟩
  | .hbm, ⟨16, _⟩ => ⟨S251x512, .i32⟩
  | .hbm, ⟨17, _⟩ => ⟨S1x128512, .i32⟩
  | .hbm, ⟨18, _⟩ => ⟨S1x128256, .i32⟩
  | .hbm, ⟨19, _⟩ => ⟨S128512x1, .f32⟩
  | .hbm, ⟨20, _⟩ => ⟨S128256x1, .f32⟩
  | .hbm, ⟨21, _⟩ => ⟨S960x128256, .fp8e5m2⟩
  | .hbm, ⟨22, _⟩ => ⟨S960x3072, .bf16⟩
  | .local _ .vmem, ⟨0, _⟩ => ⟨S960x128256, .f32⟩
  | .local _ .vmem, ⟨1, _⟩ => ⟨S1x128256, .i32⟩
  | .local _ .vmem, ⟨2, _⟩ => ⟨S128512x3072, .fp8e4m3⟩
  | .local _ .vmem, ⟨3, _⟩ => ⟨S128256x1, .f32⟩
  | .local _ .vmem, ⟨4, _⟩ => ⟨S960x1, .i32⟩
  | .local _ .vmem, ⟨5, _⟩ => ⟨S960x1, .f32⟩
  | .local _ .vmem, ⟨6, _⟩ => ⟨S960x1, .f32⟩
  | .local _ .vmem, ⟨7, _⟩ => ⟨S960x1, .f32⟩
  | .local _ .vmem, ⟨8, _⟩ => ⟨S960x128256, .fp8e5m2⟩
  | .local _ .vmem, ⟨9, _⟩ => ⟨S960x3072, .bf16⟩
  | _, _ => ⟨S251, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S960x128256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128512x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S960x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S960x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S960x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S960x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S960x128256 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S960x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Fwd.lean ====
abbrev S251 : Shape := ⟨1, ![251]⟩
abbrev S1 : Shape := ⟨1, ![1]⟩
abbrev S960x3072 : Shape := ⟨2, ![960, 3072]⟩
abbrev S960x1 : Shape := ⟨2, ![960, 1]⟩
abbrev S128512x3072 : Shape := ⟨2, ![128512, 3072]⟩
abbrev S251x1x512 : Shape := ⟨3, ![251, 1, 512]⟩
abbrev S960x4096 : Shape := ⟨2, ![960, 4096]⟩
abbrev S_ : Shape := ⟨0, ![]⟩
abbrev S251x960x512 : Shape := ⟨3, ![251, 960, 512]⟩
abbrev S960x256 : Shape := ⟨2, ![960, 256]⟩
abbrev S512x3072 : Shape := ⟨2, ![512, 3072]⟩
abbrev S1x1x512 : Shape := ⟨3, ![1, 1, 512]⟩
abbrev S960x128 : Shape := ⟨2, ![960, 128]⟩
abbrev S1x960x512 : Shape := ⟨3, ![1, 960, 512]⟩
abbrev S1x512 : Shape := ⟨2, ![1, 512]⟩
abbrev S64x128 : Shape := ⟨2, ![64, 128]⟩
abbrev S64x3072 : Shape := ⟨2, ![64, 3072]⟩
abbrev S64x512 : Shape := ⟨2, ![64, 512]⟩
abbrev S64x1 : Shape := ⟨2, ![64, 1]⟩
abbrev S64x128x1 : Shape := ⟨3, ![64, 128, 1]⟩
abbrev S1x64x512 : Shape := ⟨3, ![1, 64, 512]⟩
abbrev S64 : Shape := ⟨1, ![64]⟩
abbrev S64x256 : Shape := ⟨2, ![64, 256]⟩

abbrev nBuf : Space → Nat
  | .hbm => 12
  | .vmem => 20
  | .smem => 3
  | _ => 0

abbrev bufTy : (tb : Table) → Fin (tcTables nBuf tb) → BufTy
  | .hbm, ⟨0, _⟩ => ⟨S960x3072, .fp8e4m3⟩
  | .hbm, ⟨1, _⟩ => ⟨S960x1, .f32⟩
  | .hbm, ⟨2, _⟩ => ⟨S960x1, .i32⟩
  | .hbm, ⟨3, _⟩ => ⟨S960x1, .i32⟩
  | .hbm, ⟨4, _⟩ => ⟨S128512x3072, .fp8e4m3⟩
  | .hbm, ⟨5, _⟩ => ⟨S251x1x512, .f32⟩
  | .hbm, ⟨6, _⟩ => ⟨S960x4096, .i32⟩
  | .hbm, ⟨7, _⟩ => ⟨S251x960x512, .f32⟩
  | .hbm, ⟨8, _⟩ => ⟨S960x256, .f32⟩
  | .hbm, ⟨9, _⟩ => ⟨S960x1, .f32⟩
  | .hbm, ⟨10, _⟩ => ⟨S960x1, .f32⟩
  | .hbm, ⟨11, _⟩ => ⟨S960x1, .f32⟩
  | .local _ .vmem, ⟨0, _⟩ => ⟨S960x3072, .fp8e4m3⟩
  | .local _ .vmem, ⟨1, _⟩ => ⟨S960x1, .f32⟩
  | .local _ .vmem, ⟨2, _⟩ => ⟨S960x1, .i32⟩
  | .local _ .vmem, ⟨3, _⟩ => ⟨S960x1, .i32⟩
  | .local _ .vmem, ⟨4, _⟩ => ⟨S512x3072, .fp8e4m3⟩
  | .local _ .vmem, ⟨5, _⟩ => ⟨S512x3072, .fp8e4m3⟩
  | .local _ .vmem, ⟨6, _⟩ => ⟨S1x1x512, .f32⟩
  | .local _ .vmem, ⟨7, _⟩ => ⟨S1x1x512, .f32⟩
  | .local _ .vmem, ⟨8, _⟩ => ⟨S960x128, .i32⟩
  | .local _ .vmem, ⟨9, _⟩ => ⟨S960x128, .i32⟩
  | .local _ .vmem, ⟨10, _⟩ => ⟨S1x960x512, .f32⟩
  | .local _ .vmem, ⟨11, _⟩ => ⟨S1x960x512, .f32⟩
  | .local _ .vmem, ⟨12, _⟩ => ⟨S960x256, .f32⟩
  | .local _ .vmem, ⟨13, _⟩ => ⟨S960x1, .f32⟩
  | .local _ .vmem, ⟨14, _⟩ => ⟨S960x1, .f32⟩
  | .local _ .vmem, ⟨15, _⟩ => ⟨S960x1, .f32⟩
  | .local _ .vmem, ⟨16, _⟩ => ⟨S960x1, .f32⟩
  | .local _ .vmem, ⟨17, _⟩ => ⟨S960x1, .f32⟩
  | .local _ .vmem, ⟨18, _⟩ => ⟨S960x1, .f32⟩
  | .local _ .vmem, ⟨19, _⟩ => ⟨S960x1, .f32⟩
  | .local _ .smem, ⟨0, _⟩ => ⟨S_, .i32⟩
  | .local _ .smem, ⟨1, _⟩ => ⟨S251, .i32⟩
  | .local _ .smem, ⟨2, _⟩ => ⟨S1, .i32⟩
  | _, _ => ⟨S960x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v0 : Ref sig .tc := ⟨.smem, 0, rfl⟩
abbrev main_arg0 : Ref sig .tc := ⟨.smem, 1, rfl⟩
abbrev main_arg1 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![0], ![true]⟩

abbrev pre0 : Pipeline.Prefetch sig := ⟨3, ![main_v0.idx, main_arg0.idx, main_arg1.idx], fun | 0 => main_v0.names | 1 => main_arg0.names | 2 => main_arg1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def dynb0 (pf : pre0.Contents (Elt F)) : grid0.Bounds := ![(pf 0 fun a => a.elim0).toNat]

def k0_off1 (b : grid0.Bounds) (i : (grid0.at b).Coords) : Fin 1 → Nat :=
  let arg0 : BitVec 32 := BitVec.ofNat 32 (i 0).val
  let v0 : Index := Scalar.indexCast arg0
  ![v0.toNat]

def k0_off2 (arg0 : BitVec 32) : Fin 1 → Nat :=
  let v0 : Index := Scalar.indexCast arg0
  ![v0.toNat]

def k0_chk1 (arg0 : BitVec 32) : Prop :=
  (∀ a, (k0_off2 arg0) a + S1.size a ≤ S251.size a)
theorem k0_off2_inb : ∀ (arg0 : BitVec 32) (k0_hw1 : k0_chk1 arg0), ∀ a, (k0_off2 arg0) a + S1.size a ≤ S251.size a := fun arg0 k0_hw1 => k0_hw1

def k0_cond2 (arg0 : BitVec 32) (v3471 : BitVec 32) : BitVec 1 :=
  let c1_i32_1618 : BitVec 32 := 1#32
  let v3472 : BitVec 32 := Scalar.subi v3471 c1_i32_1618
  let v3473 : BitVec 1 := Scalar.cmpi .eq arg0 v3472
  let v3474 : BitVec 32 := Scalar.extui v3473
  let c0_i32_1619 : BitVec 32 := 0#32
  let v3475 : BitVec 1 := Scalar.cmpi .ne v3474 c0_i32_1619
  v3475

def cc0_transform_0 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (pf : pre0.Contents (Elt F)) (b : grid0.Bounds) (i : (grid0.at b).Coords) : Fin 2 → Nat :=
  let arg0 : BitVec 32 := BitVec.ofNat 32 (i 0).val
  let v0 : Index := Scalar.indexCast arg0
  let v1 : BitVec 32 := pf.atD 1 ![v0.toNat]
  let c0_i32 : BitVec 32 := 0#32
  let c0_i32_0 : BitVec 32 := 0#32
  ![v1.toNat, c0_i32.toNat]

def cc0_transform_5 (pf : pre0.Contents (Elt F)) (b : grid0.Bounds) (i : (grid0.at b).Coords) : Fin 3 → Nat :=
  let arg0 : BitVec 32 := BitVec.ofNat 32 (i 0).val
  let v0 : Index := Scalar.indexCast arg0
  let v1 : BitVec 32 := pf.atD 1 ![v0.toNat]
  let c0_i32 : BitVec 32 := 0#32
  let c0_i32_0 : BitVec 32 := 0#32
  let c0_i32_1 : BitVec 32 := 0#32
  ![v1.toNat, c0_i32.toNat, c0_i32_0.toNat]

def cc0_transform_6 (pf : pre0.Contents (Elt F)) (b : grid0.Bounds) (i : (grid0.at b).Coords) : Fin 2 → Nat :=
  let arg0 : BitVec 32 := BitVec.ofNat 32 (i 0).val
  let v0 : Index := Scalar.indexCast arg0
  let v1 : BitVec 32 := pf.atD 1 ![v0.toNat]
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![c0_i32_4.toNat, v18.toNat]

def cc0_transform_7 (b : grid0.Bounds) (i : (grid0.at b).Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S960x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S960x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S960x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S960x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S960x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x960x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S960x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S960x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S960x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S960x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FwdReferenceIdeal.lean ====
abbrev S251 : Shape := ⟨1, ![251]⟩
abbrev S1 : Shape := ⟨1, ![1]⟩
abbrev S960x3072 : Shape := ⟨2, ![960, 3072]⟩
abbrev S960x1 : Shape := ⟨2, ![960, 1]⟩
abbrev S128512x3072 : Shape := ⟨2, ![128512, 3072]⟩
abbrev S251x1x512 : Shape := ⟨3, ![251, 1, 512]⟩
abbrev S960x4096 : Shape := ⟨2, ![960, 4096]⟩
abbrev S960x4008 : Shape := ⟨2, ![960, 4008]⟩
abbrev S960x4008x1 : Shape := ⟨3, ![960, 4008, 1]⟩
abbrev S32 : Shape := ⟨1, ![32]⟩
abbrev S1x1x32 : Shape := ⟨3, ![1, 1, 32]⟩
abbrev S960x4008x32 : Shape := ⟨3, ![960, 4008, 32]⟩
abbrev S_ : Shape := ⟨0, ![]⟩
abbrev S960x128256 : Shape := ⟨2, ![960, 128256]⟩
abbrev S960x128512 : Shape := ⟨2, ![960, 128512]⟩
abbrev S1x128512 : Shape := ⟨2, ![1, 128512]⟩
abbrev S960x256 : Shape := ⟨2, ![960, 256]⟩
abbrev S960x251x512 : Shape := ⟨3, ![960, 251, 512]⟩
abbrev S960x251 : Shape := ⟨2, ![960, 251]⟩
abbrev S960x251x1 : Shape := ⟨3, ![960, 251, 1]⟩
abbrev S960x5 : Shape := ⟨2, ![960, 5]⟩

abbrev nBuf : Space → Nat
  | .hbm => 25
  | .vmem => 6
  | .smem => 0
  | _ => 0

abbrev bufTy : (tb : Table) → Fin (tcTables nBuf tb) → BufTy
  | .hbm, ⟨0, _⟩ => ⟨S251, .i32⟩
  | .hbm, ⟨1, _⟩ => ⟨S1, .i32⟩
  | .hbm, ⟨2, _⟩ => ⟨S960x3072, .fp8e4m3⟩
  | .hbm, ⟨3, _⟩ => ⟨S960x1, .f32⟩
  | .hbm, ⟨4, _⟩ => ⟨S960x1, .i32⟩
  | .hbm, ⟨5, _⟩ => ⟨S960x1, .i32⟩
  | .hbm, ⟨6, _⟩ => ⟨S128512x3072, .fp8e4m3⟩
  | .hbm, ⟨7, _⟩ => ⟨S251x1x512, .f32⟩
  | .hbm, ⟨8, _⟩ => ⟨S960x4096, .i32⟩
  | .hbm, ⟨9, _⟩ => ⟨S960x4008, .i32⟩
  | .hbm, ⟨10, _⟩ => ⟨S960x4008x1, .i32⟩
  | .hbm, ⟨11, _⟩ => ⟨S32, .i32⟩
  | .hbm, ⟨12, _⟩ => ⟨S1x1x32, .i32⟩
  | .hbm, ⟨13, _⟩ => ⟨S960x4008x32, .i32⟩
  | .hbm, ⟨14, _⟩ => ⟨S960x4008x32, .i32⟩
  | .hbm, ⟨15, _⟩ => ⟨S960x4008x32, .i32⟩
  | .hbm, ⟨16, _⟩ => ⟨S_, .i32⟩
  | .hbm, ⟨17, _⟩ => ⟨S960x4008x32, .i32⟩
  | .hbm, ⟨18, _⟩ => ⟨S960x4008x32, .i32⟩
  | .hbm, ⟨19, _⟩ => ⟨S960x128256, .i32⟩
  | .hbm, ⟨20, _⟩ => ⟨S_, .i32⟩
  | .hbm, ⟨21, _⟩ => ⟨S_, .i32⟩
  | .hbm, ⟨22, _⟩ => ⟨S960x128512, .i32⟩
  | .hbm, ⟨23, _⟩ => ⟨S1x128512, .f32⟩
  | .hbm, ⟨24, _⟩ => ⟨S960x256, .f32⟩
  | .local _ .vmem, ⟨0, _⟩ => ⟨S960x3072, .fp8e4m3⟩
  | .local _ .vmem, ⟨1, _⟩ => ⟨S960x1, .f32⟩
  | .local _ .vmem, ⟨2, _⟩ => ⟨S128512x3072, .fp8e4m3⟩
  | .local _ .vmem, ⟨3, _⟩ => ⟨S1x128512, .f32⟩
  | .local _ .vmem, ⟨4, _⟩ => ⟨S960x128512, .i32⟩
  | .local _ .vmem, ⟨5, _⟩ => ⟨S960x256, .f32⟩
  | _, _ => ⟨S251, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S960x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S960x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128512x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S960x128512 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S960x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Tables.lean ====
/- What the preconditions say of the prefetched tables, element by element. -/
module

public import proofs.«01_k».proof.Proof.Gen.Pre_tables_in_range
public import proofs.«01_k».proof.Proof.Gen.Pre_tables_ok
public import Idealize.ShloMosaic.Lib.ReduceAll
public import Idealize.ShloMosaic.Lib.WordCmp
public import Idealize.ShloMosaic.Lib.Affine

@[expose] public section

set_option maxRecDepth 16384

namespace Cert.Tables

open Idealize.ShloMosaic

/-- A signed word between 0 and 251 is below 251 as a natural number. -/
theorem lt_of_cmp (x : BitVec 32) (h : IntOp.andi (IntOp.cmpi .sge x 0#32) (IntOp.cmpi .slt x 251#32) = 1#1) : x.toNat < 251 := by
  obtain ⟨h1, h2⟩ := IntOp.andi_eq_one.1 h
  have h1 : BitVec.ofBool (decide ((0#32).toInt ≤ x.toInt)) = 1#1 := h1
  have h2 : BitVec.ofBool (decide (x.toInt < (251#32).toInt)) = 1#1 := h2
  have hb : ∀ b : Bool, BitVec.ofBool b = 1#1 → b = true := by decide
  have e1 : (0#32).toInt ≤ x.toInt := of_decide_eq_true (hb _ h1)
  have e2 : x.toInt < (251#32).toInt := of_decide_eq_true (hb _ h2)
  simp [BitVec.toInt] at e1 e2
  have := x.isLt
  split at e1 <;> omega

/-- Words that compare equal are equal. -/
theorem eq_of_cmp (x y : BitVec 32) (h : IntOp.cmpi .eq x y = 1#1) : x = y := by
  have hb : ∀ b : Bool, BitVec.ofBool b = 1#1 → b = true := by decide
  exact eq_of_beq (hb _ h)

instance : Subsingleton (Cert.Pre_tables_in_range.S_).Idx := ⟨fun a b => funext fun i => i.elim0⟩

/-- The first precondition, element by element. -/
theorem in_range {F : FTy → Type} [FloatOps F] (p a w : IVec Cert.Pre_tables_in_range.S251 32) (lg wc ws t l gs gi)
    (h : Cert.Pre_tables_in_range.fn (F := F) p a w lg wc ws t l gs gi = fun _ => 1#1) (j : Cert.Pre_tables_in_range.S251.Idx) :
    (p j).toNat < 251 ∧ (w j).toNat < 251 := by
  have e := congrFun h (fun i => i.elim0)
  unfold Cert.Pre_tables_in_range.fn at e
  dsimp only at e
  obtain ⟨e1, e2⟩ := IntOp.andi_eq_one.1 e
  have f1 := Host.reduce_andi_all _ _ _ _ _ e1 j
  have f2 := Host.reduce_andi_all _ _ _ _ _ e2 j
  exact ⟨lt_of_cmp _ f1, lt_of_cmp _ f2⟩

/-- The second precondition, element by element. -/
theorem ok {F : FTy → Type} [FloatOps F] (p a w : IVec Cert.Pre_tables_ok.S251 32) (lg wc ws t l gs gi)
    (h : Cert.Pre_tables_ok.fn (F := F) p a w lg wc ws t l gs gi = fun _ => 1#1) (j : Cert.Pre_tables_ok.S251.Idx) :
    (p j).toNat < 251 ∧ (w j).toNat < 251 ∧ (a j = 0#32 ∨ (w j).toNat = (j 0).val) := by
  have e := congrFun h (fun i => i.elim0)
  unfold Cert.Pre_tables_ok.fn Cert.Pre_tables_ok.fn_part1 at e
  dsimp only at e
  obtain ⟨e0, e3⟩ := IntOp.andi_eq_one.1 e
  obtain ⟨e1, e2⟩ := IntOp.andi_eq_one.1 e0
  have f1 := Host.reduce_andi_all _ _ _ _ _ e1 j
  have f2 := Host.reduce_andi_all _ _ _ _ _ e2 j
  have f3 := Host.reduce_andi_all _ _ _ _ _ e3 j
  refine ⟨lt_of_cmp _ f1, lt_of_cmp _ f2, ?_⟩
  have ho : ∀ x y : BitVec 1, IntOp.ori x y = 1#1 → x = 1#1 ∨ y = 1#1 := by decide
  rcases ho _ _ f3 with g | g
  · left
    have : IntOp.cmpi .eq (a j) 0#32 = 1#1 := g
    exact eq_of_cmp _ _ this
  · right
    have g' : IntOp.cmpi .eq (w j) (BitVec.ofNat 32 (j 0).val) = 1#1 := g
    have hw : w j = BitVec.ofNat 32 (j 0).val := eq_of_cmp _ _ g'
    rw [hw, BitVec.toNat_ofNat]
    have : (j 0).val < 251 := (j 0).isLt
    omega

end Cert.Tables
-- ==== Proof.K.Points.lean ====
/- The schedule of the kernel on its static grid: at which points each window is fetched and written back. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0: no schedule fact — its index map reads a prefetched table, so where it is fetched or written back depends on the tables' contents
-- window 1: no schedule fact — its index map reads a prefetched table, so where it is fetched or written back depends on the tables' contents
-- window 2: no schedule fact — its index map reads a prefetched table, so where it is fetched or written back depends on the tables' contents
/-- Window 3 (operand 6 (%arg6)) is fetched at the first point only, at any contents of the tables (its index map reads none). -/
theorem fetch0_3 (a : (pcfg0 (F := F)).Adm) : ∀ t : Fin (cfg0 a).N, ((cfg0 a).win 3).fetch t = true ↔ t.val % 251 = 0 :=
  (fun t => Pipeline.Window.fetchOf_const cc0_transform_3 (fun _ _ => rfl) (n := 251) (by decide) t : ∀ t : Fin grid0.N, Pipeline.Window.fetchOf grid0 false cc0_transform_3 t = true ↔ t.val % 251 = 0)
/-- Window 4 (operand 7 (%arg7)) is fetched at the first point only, at any contents of the tables (its index map reads none). -/
theorem fetch0_4 (a : (pcfg0 (F := F)).Adm) : ∀ t : Fin (cfg0 a).N, ((cfg0 a).win 4).fetch t = true ↔ t.val % 251 = 0 :=
  (fun t => Pipeline.Window.fetchOf_const cc0_transform_4 (fun _ _ => rfl) (n := 251) (by decide) t : ∀ t : Fin grid0.N, Pipeline.Window.fetchOf grid0 false cc0_transform_4 t = true ↔ t.val % 251 = 0)
/-- Window 5 (operand 8 (%arg8)) is fetched at the first point only, at any contents of the tables (its index map reads none). -/
theorem fetch0_5 (a : (pcfg0 (F := F)).Adm) : ∀ t : Fin (cfg0 a).N, ((cfg0 a).win 5).fetch t = true ↔ t.val % 251 = 0 :=
  (fun t => Pipeline.Window.fetchOf_const cc0_transform_5 (fun _ _ => rfl) (n := 251) (by decide) t : ∀ t : Fin grid0.N, Pipeline.Window.fetchOf grid0 false cc0_transform_5 t = true ↔ t.val % 251 = 0)
/-- Window 6 (operand 9 (%arg9)) is fetched at the first point only, at any contents of the tables (its index map reads none). -/
theorem fetch0_6 (a : (pcfg0 (F := F)).Adm) : ∀ t : Fin (cfg0 a).N, ((cfg0 a).win 6).fetch t = true ↔ t.val % 251 = 0 :=
  (fun t => Pipeline.Window.fetchOf_const cc0_transform_6 (fun _ _ => rfl) (n := 251) (by decide) t : ∀ t : Fin grid0.N, Pipeline.Window.fetchOf grid0 false cc0_transform_6 t = true ↔ t.val % 251 = 0)
/-- Window 7 (result 0 (%0#0)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 1 (fun _ => rfl) (by decide)) (P := 1) (m := 0) (by decide) rfl t).mpr (Nat.mod_one _) : ∀ t : Fin grid0.N, Pipeline.Window.flushOf grid0 true cc0_transform_7 t = true)
/-- Window 8 (result 1 (%0#1)) is written back at the last point only, at any contents of the tables (its index map reads none). -/
theorem flush0_8 (a : (pcfg0 (F := F)).Adm) : ∀ t : Fin (cfg0 a).N, ((cfg0 a).win 8).flush t = true ↔ t.val % 251 = 250 :=
  (fun t => Pipeline.Window.flushOf_const cc0_transform_8 (fun _ _ => rfl) (n := 251) (by decide) rfl t : ∀ t : Fin grid0.N, Pipeline.Window.flushOf grid0 true cc0_transform_8 t = true ↔ t.val % 251 = 250)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_bwd (grid0.coords t) (Memref.whole main_arg0) (Memref.isWhole_whole _) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _)

end Cert.Kernel.Gen

end
-- ==== Proof.K.Runs.lean ====
/- What the frame of the kernel needs besides the body runs: the tables, the blocks, the branch conditions, idleness. -/
module

public import proofs.«01_k».proof.Proof.Gen.Kernel.Launch
public import proofs.«01_k».proof.Proof.Gen.Kernel.Skeleton
public import proofs.«01_k».proof.Proof.K.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S251 .i32 := Memref.whole main_arg0
abbrev htbM0_0 : tbM0_0.IsWhole := Memref.isWhole_whole _
abbrev tbM0_1 : Memref sig .tc .smem S251 .i32 := Memref.whole main_arg1
abbrev htbM0_1 : tbM0_1.IsWhole := Memref.isWhole_whole _
abbrev tbM0_2 : Memref sig .tc .smem S251 .i32 := Memref.whole main_arg2
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 0).trans (((dats 0 c).arrAt_in 0 rfl _).trans ((hA c 0).trans (V_main_arg3 m c))),
      ((h c).1 1).trans (((dats 0 c).arrAt_in 1 rfl _).trans ((hA c 1).trans (V_main_arg4 m c))),
      ((h c).1 2).trans (((dats 0 c).arrAt_in 2 rfl _).trans ((hA c 2).trans (V_main_arg5 m c))),
      ((h c).1 3).trans (((dats 0 c).arrAt_in 3 rfl _).trans ((hA c 3).trans (V_main_arg6 m c))),
      ((h c).1 4).trans (((dats 0 c).arrAt_in 4 rfl _).trans ((hA c 4).trans (V_main_arg7 m c))),
      ((h c).1 5).trans (((dats 0 c).arrAt_in 5 rfl _).trans ((hA c 5).trans (V_main_arg8 m c))),
      ((h c).1 6).trans (((dats 0 c).arrAt_in 6 rfl _).trans ((hA c 6).trans (V_main_arg9 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 251 = 0 :=
  (fun t => by
    have ht : t.val < 251 := Nat.lt_of_lt_of_eq t.isLt N_0
    have e0 : (grid0.coords t 0).val = t.val / 1 % 251 := Pipeline.Grid.coords_val t 0 (by decide) rfl
    simp only [cond0_0, e0]
    word_cmp
   : ∀ t : Fin grid0.N, cond0_0 (grid0.coords t) ↔ t.val % 251 = 0)

/-- The condition of the body's `scf.if` 1 (`k0_h2`), from the grid coordinates (the skeleton's scalar
    chain substituted). -/
abbrev cond0_1 (i : grid0.Coords) : Prop := k0_cond4 i = 1#1
/-- It holds at the last point only — by arithmetic of the point. -/
theorem hcond0_1 : ∀ t : Fin grid0.N, cond0_1 (grid0.coords t) ↔ t.val % 251 = 250 :=
  (fun t => by
    have ht : t.val < 251 := Nat.lt_of_lt_of_eq t.isLt N_0
    have e0 : (grid0.coords t 0).val = t.val / 1 % 251 := Pipeline.Grid.coords_val t 0 (by decide) rfl
    simp only [cond0_1, k0_cond4, e0]
    word_cmp
   : ∀ t : Fin grid0.N, cond0_1 (grid0.coords t) ↔ t.val % 251 = 250)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  fun _ => rfl
/-- Window 1 is never idle (an input). -/
theorem liveAt0_1 (hO : Ok m) : ∀ t : Fin (cfgM m hO).N, (cfgM m hO).idle 1 (grid0.coords t) = false :=
  fun _ => rfl
/-- Window 2 is never idle (an input). -/
theorem liveAt0_2 (hO : Ok m) : ∀ t : Fin (cfgM m hO).N, (cfgM m hO).idle 2 (grid0.coords t) = false :=
  fun _ => rfl
/-- Window 3 is never idle (an input). -/
theorem liveAt0_3 (hO : Ok m) : ∀ t : Fin (cfgM m hO).N, (cfgM m hO).idle 3 (grid0.coords t) = false :=
  fun _ => rfl
/-- Window 4 is never idle (an input). -/
theorem liveAt0_4 (hO : Ok m) : ∀ t : Fin (cfgM m hO).N, (cfgM m hO).idle 4 (grid0.coords t) = false :=
  fun _ => rfl
/-- Window 5 is never idle (an input). -/
theorem liveAt0_5 (hO : Ok m) : ∀ t : Fin (cfgM m hO).N, (cfgM m hO).idle 5 (grid0.coords t) = false :=
  fun _ => rfl
/-- Window 6 is never idle (an input). -/
theorem liveAt0_6 (hO : Ok m) : ∀ t : Fin (cfgM m hO).N, (cfgM m hO).idle 6 (grid0.coords t) = false :=
  fun _ => rfl
/-- The two conditions on the word of the activity table are complementary. -/
theorem cond_act (w : BitVec 32) : k0_cond2 w = 1#1 ↔ ¬k0_cond3 w = 1#1 := by
  simp only [k0_cond2, k0_cond3]
  by_cases h : w = 0#32
  · subst h; decide
  · have hb : (w == 0#32) = false := by simpa using h
    simp [Scalar.cmpi, Scalar.extui, IntOp.cmpi, hb, bne]
/-- Window 7 is never idle: whichever way the word of the activity table falls, the block is stored. -/
theorem liveAt0_7 (hO : Ok m) (t : Fin (cfgM m hO).N) : (cfgM m hO).idle 7 (grid0.coords t) = false := by
  show (!(k0_cond2 ((tbl m).atD 1 (k0_off1 (grid0.coords t))) == 1#1) && !(k0_cond3 ((tbl m).atD 1 (k0_off2 (grid0.coords t))) == 1#1)) = false
  have e : k0_off1 (grid0.coords t) = k0_off2 (grid0.coords t) := rfl
  rw [e]
  by_cases h : k0_cond3 ((tbl m).atD 1 (k0_off2 (grid0.coords t))) = 1#1
  · simp [h]
  · simp [h, (cond_act _).2 h]
/-- Except at the last point window 8 is idle: nothing is stored into it. -/
theorem idleAt0_8 (hO : Ok m) : ∀ t : Fin (cfgM m hO).N, ¬cond0_1 (grid0.coords t) → (cfgM m hO).idle 8 (grid0.coords t) = true :=
  (by intro t h; simp [cond0_1] at h; simp [h] : ∀ t : Fin grid0.N, ¬cond0_1 (grid0.coords t) → (!(k0_cond4 (grid0.coords t) == 1#1)) = true)
/-- Except at the last point window 8's block is not written back. -/
theorem noFlush0_8 (hO : Ok m) : ∀ t : Fin (cfgM m hO).N, ¬cond0_1 (grid0.coords t) → ((cfgM m hO).win 8).flush t = false :=
  (by decide +kernel : ∀ t : Fin grid0.N, ¬cond0_1 (grid0.coords t) → Pipeline.Window.flushOf grid0 true cc0_transform_8 t = false)
/-- At the last point window 8 is stored. -/
theorem liveAt0_8 (hO : Ok m) : ∀ t : Fin (cfgM m hO).N, cond0_1 (grid0.coords t) → (cfgM m hO).idle 8 (grid0.coords t) = false :=
  (by intro t h; simp [cond0_1] at h; simp [h] : ∀ t : Fin grid0.N, cond0_1 (grid0.coords t) → (!(k0_cond4 (grid0.coords t) == 1#1)) = false)

/-! ## The kernel body on any staging memrefs: a subtype the run finds -/

/-- One staging buffer of output window 7, through which its contents are stated (`View.read_writes_of_cover`: the
    choice does not matter). -/
abbrev VO0_7 : View sig .tc .vmem S960x512 .fp8e5m2 := (Memref.whole cc0_stg7_0 : Memref sig .tc .vmem S960x512 .fp8e5m2).view
/-- One staging buffer of output window 8, through which its contents are stated (`View.read_writes_of_cover`: the
    choice does not matter). -/
abbrev VO0_8 : View sig .tc .vmem S960x3072 .bf16 := (Memref.whole cc0_stg8_0 : Memref sig .tc .vmem S960x3072 .bf16).view
/-- Each window's current staging memref at point `t`, spelled as the pipeline passes it (`bodyAt0`), and its wholeness. -/
abbrev ms0_0 (hO : Ok m) (t : Fin (cfgM m hO).N) : Memref sig .tc .vmem S1x960x512 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x3072 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S960x1 .i32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S960x1 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S960x1 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S960x1 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S960x512 .fp8e5m2 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S960x3072 .bf16 := spec0_8.stage ((cfgM m hO).slots t 8)
abbrev hs0_8 (hO : Ok m) (t : Fin (cfgM m hO).N) : (ms0_8 m hO t).IsWhole := hstage0_8 (((cfgM m hO).slots t 8).cast nbuf0_8)
/-- The word of the activity table at the point `i`, as the body reads it (twice: once per condition). -/
abbrev actw (c : Dev nD) (xt1 : TbBuf0 (F := F) c tbM0_1) (i : grid0.Coords) : BitVec 32 :=
  View.readAt (Elt F) tbM0_1.view (Rect.unit (s := S251) (k0_off2 i) S1.size (k0_off2_inb i)).toLoadRect xt1 (Shape.Idx.first (numel1_S1.symm ▸ Nat.one_pos))

/-- The scratch operands: whole scoped buffers of the kernel's own, passed beside the windows. -/
abbrev scM0_0 : Memref sig .tc .vmem S960x3072 .f32 := Memref.whole cc0_scratch0
/-- The scratch `arg13` the kernel carries between points, as a view: what it holds is stated through it. -/
abbrev VS0_0 : View sig .tc .vmem S960x3072 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.K.RunA0.lean ====
module

public import proofs.«01_k».proof.Proof.K.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body run at the first point, the block inactive: what it stores, as pieces, with the proof that it runs. -/
noncomputable def kernelRun_A0 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) :
    Σ' (L7 : List (View.Piece (Elt F) S960x512 .fp8e5m2)), Σ' (L8 : List (View.Piece (Elt F) S960x3072 .bf16)), { LS0 : List (View.Piece (Elt F) S960x3072 .f32) //
      ∀ (xi8 : Vec F S960x3072 .bf16) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ owns (c : Thread nD τ) arg12 fullShare xi8 ∗ (∃ d, owns (c : Thread nD τ) arg13 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f, arg11.view.loc (c : Thread nD τ) ↦[arg11.view.set]{fullShare} arg11.view.writes (Elt F) f L7) ∗ owns (c : Thread nD τ) arg12 fullShare xi8 ∗ (∃ f, arg13.view.loc (c : Thread nD τ) ↦[arg13.view.set]{fullShare} arg13.view.writes (Elt F) f LS0) ∗ tbPt0 c tbM0_0 xt0 ∗ tbPt0 c tbM0_1 xt1 ∗ tbPt0 c tbM0_2 xt2) -∗ K ⟨⟩))
          ⊢ wp frame (wpE (defs₀ (F := F)) Variants.none c none) E (cc0_bwd i tbM0_0 htbM0_0 tbM0_1 htbM0_1 tbM0_2 htbM0_2 arg4 harg4 arg5 harg5 arg6 harg6 arg7 harg7 arg8 harg8 arg9 harg9 arg10 harg10 arg11 harg11 arg12 harg12 arg13 harg13) K } := by
  refine ⟨?_, [], ?_, fun xi8 E K => ?run⟩
  case run =>
    simp only [cc0_bwd_eq_skeleton]; unfold cc0_bwd_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg12.eq_unread hf8
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists _; iexact H7
    isplitl [H8]
    · iexists _; isplitr; · ipureintro; exact harg12.read_unread _
      iexact H8
    isplitl [HS0]; · iexists _; iexact HS0
    isplitl [HT0]; · iexact HT0
    isplitl [HT1]; · iexact HT1
    iexact HT2

end Cert.Kernel.Gen

end
-- ==== Proof.K.RunA1.lean ====
module

public import proofs.«01_k».proof.Proof.K.RunA0

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body run at the first point, the block active: what it stores, as pieces, with the proof that it runs. -/
noncomputable def kernelRun_A1 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) :
    Σ' (L7 : List (View.Piece (Elt F) S960x512 .fp8e5m2)), Σ' (L8 : List (View.Piece (Elt F) S960x3072 .bf16)), { LS0 : List (View.Piece (Elt F) S960x3072 .f32) //
      ∀ (xi8 : Vec F S960x3072 .bf16) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ owns (c : Thread nD τ) arg12 fullShare xi8 ∗ (∃ d, owns (c : Thread nD τ) arg13 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f, arg11.view.loc (c : Thread nD τ) ↦[arg11.view.set]{fullShare} arg11.view.writes (Elt F) f L7) ∗ owns (c : Thread nD τ) arg12 fullShare xi8 ∗ (∃ f, arg13.view.loc (c : Thread nD τ) ↦[arg13.view.set]{fullShare} arg13.view.writes (Elt F) f LS0) ∗ tbPt0 c tbM0_0 xt0 ∗ tbPt0 c tbM0_1 xt1 ∗ tbPt0 c tbM0_2 xt2) -∗ K ⟨⟩))
          ⊢ wp frame (wpE (defs₀ (F := F)) Variants.none c none) E (cc0_bwd i tbM0_0 htbM0_0 tbM0_1 htbM0_1 tbM0_2 htbM0_2 arg4 harg4 arg5 harg5 arg6 harg6 arg7 harg7 arg8 harg8 arg9 harg9 arg10 harg10 arg11 harg11 arg12 harg12 arg13 harg13) K } := by
  refine ⟨?_, [], ?_, fun xi8 E K => ?run⟩
  case run =>
    simp only [cc0_bwd_eq_skeleton]; unfold cc0_bwd_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg12.eq_unread hf8
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists _; iexact H7
    isplitl [H8]
    · iexists _; isplitr; · ipureintro; exact harg12.read_unread _
      iexact H8
    isplitl [HS0]; · iexists _; iexact HS0
    isplitl [HT0]; · iexact HT0
    isplitl [HT1]; · iexact HT1
    iexact HT2

end Cert.Kernel.Gen

end
-- ==== Proof.K.RunB0.lean ====
module

public import proofs.«01_k».proof.Proof.K.RunA1

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body run between the first point and the last, the block inactive: what it stores, as pieces, with the proof that it runs. -/
noncomputable def kernelRun_B0 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : ¬cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) (xs0 : Vec F S960x3072 .f32) :
    Σ' (L7 : List (View.Piece (Elt F) S960x512 .fp8e5m2)), Σ' (L8 : List (View.Piece (Elt F) S960x3072 .bf16)), { LS0 : List (View.Piece (Elt F) S960x3072 .f32) //
      ∀ (xi8 : Vec F S960x3072 .bf16) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ owns (c : Thread nD τ) arg12 fullShare xi8 ∗ owns (c : Thread nD τ) arg13 fullShare xs0 ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f, arg11.view.loc (c : Thread nD τ) ↦[arg11.view.set]{fullShare} arg11.view.writes (Elt F) f L7) ∗ owns (c : Thread nD τ) arg12 fullShare xi8 ∗ owns (c : Thread nD τ) arg13 fullShare xs0 ∗ tbPt0 c tbM0_0 xt0 ∗ tbPt0 c tbM0_1 xt1 ∗ tbPt0 c tbM0_2 xt2) -∗ K ⟨⟩))
          ⊢ wp frame (wpE (defs₀ (F := F)) Variants.none c none) E (cc0_bwd i tbM0_0 htbM0_0 tbM0_1 htbM0_1 tbM0_2 htbM0_2 arg4 harg4 arg5 harg5 arg6 harg6 arg7 harg7 arg8 harg8 arg9 harg9 arg10 harg10 arg11 harg11 arg12 harg12 arg13 harg13) K } := by
  refine ⟨?_, [], [], fun xi8 E K => ?run⟩
  case run =>
    simp only [cc0_bwd_eq_skeleton]; unfold cc0_bwd_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg12.eq_unread hf8; obtain rfl := harg13.eq_unread hfs0
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists _; iexact H7
    isplitl [H8]
    · iexists _; isplitr; · ipureintro; exact harg12.read_unread _
      iexact H8
    isplitl [HS0]
    · iexists _; isplitr; · ipureintro; exact harg13.read_unread _
      iexact HS0
    isplitl [HT0]; · iexact HT0
    isplitl [HT1]; · iexact HT1
    iexact HT2

end Cert.Kernel.Gen

end
-- ==== Proof.K.RunB1.lean ====
module

public import proofs.«01_k».proof.Proof.K.RunB0

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body run between the first point and the last, the block active: what it stores, as pieces, with the proof that it runs. -/
noncomputable def kernelRun_B1 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : ¬cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (xs0 : Vec F S960x3072 .f32) :
    Σ' (L7 : List (View.Piece (Elt F) S960x512 .fp8e5m2)), Σ' (L8 : List (View.Piece (Elt F) S960x3072 .bf16)), { LS0 : List (View.Piece (Elt F) S960x3072 .f32) //
      ∀ (xi8 : Vec F S960x3072 .bf16) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ owns (c : Thread nD τ) arg12 fullShare xi8 ∗ owns (c : Thread nD τ) arg13 fullShare xs0 ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f, arg11.view.loc (c : Thread nD τ) ↦[arg11.view.set]{fullShare} arg11.view.writes (Elt F) f L7) ∗ owns (c : Thread nD τ) arg12 fullShare xi8 ∗ (∃ f, arg13.view.loc (c : Thread nD τ) ↦[arg13.view.set]{fullShare} arg13.view.writes (Elt F) f LS0) ∗ tbPt0 c tbM0_0 xt0 ∗ tbPt0 c tbM0_1 xt1 ∗ tbPt0 c tbM0_2 xt2) -∗ K ⟨⟩))
          ⊢ wp frame (wpE (defs₀ (F := F)) Variants.none c none) E (cc0_bwd i tbM0_0 htbM0_0 tbM0_1 htbM0_1 tbM0_2 htbM0_2 arg4 harg4 arg5 harg5 arg6 harg6 arg7 harg7 arg8 harg8 arg9 harg9 arg10 harg10 arg11 harg11 arg12 harg12 arg13 harg13) K } := by
  refine ⟨?_, [], ?_, fun xi8 E K => ?run⟩
  case run =>
    simp only [cc0_bwd_eq_skeleton]; unfold cc0_bwd_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg12.eq_unread hf8; obtain rfl := harg13.eq_unread hfs0
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists _; iexact H7
    isplitl [H8]
    · iexists _; isplitr; · ipureintro; exact harg12.read_unread _
      iexact H8
    isplitl [HS0]; · iexists _; iexact HS0
    isplitl [HT0]; · iexact HT0
    isplitl [HT1]; · iexact HT1
    iexact HT2

end Cert.Kernel.Gen

end
-- ==== Proof.K.RunC0.lean ====
module

public import proofs.«01_k».proof.Proof.K.RunB1

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body run at the last point, the block inactive: what it stores, as pieces, with the proof that it runs. -/
noncomputable def kernelRun_C0 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : ¬cond0_0 i) (hc1 : cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) (xs0 : Vec F S960x3072 .f32) :
    Σ' (L7 : List (View.Piece (Elt F) S960x512 .fp8e5m2)), Σ' (L8 : List (View.Piece (Elt F) S960x3072 .bf16)), { LS0 : List (View.Piece (Elt F) S960x3072 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ owns (c : Thread nD τ) arg13 fullShare xs0 ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f, arg11.view.loc (c : Thread nD τ) ↦[arg11.view.set]{fullShare} arg11.view.writes (Elt F) f L7) ∗ (∃ f, arg12.view.loc (c : Thread nD τ) ↦[arg12.view.set]{fullShare} arg12.view.writes (Elt F) f L8) ∗ owns (c : Thread nD τ) arg13 fullShare xs0 ∗ tbPt0 c tbM0_0 xt0 ∗ tbPt0 c tbM0_1 xt1 ∗ tbPt0 c tbM0_2 xt2) -∗ K ⟨⟩))
          ⊢ wp frame (wpE (defs₀ (F := F)) Variants.none c none) E (cc0_bwd i tbM0_0 htbM0_0 tbM0_1 htbM0_1 tbM0_2 htbM0_2 arg4 harg4 arg5 harg5 arg6 harg6 arg7 harg7 arg8 harg8 arg9 harg9 arg10 harg10 arg11 harg11 arg12 harg12 arg13 harg13) K } := by
  refine ⟨?_, ?_, [], fun E K => ?run⟩
  case run =>
    simp only [cc0_bwd_eq_skeleton]; unfold cc0_bwd_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg13.eq_unread hfs0
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists _; iexact H7
    isplitl [H8]; · iexists _; iexact H8
    isplitl [HS0]
    · iexists _; isplitr; · ipureintro; exact harg13.read_unread _
      iexact HS0
    isplitl [HT0]; · iexact HT0
    isplitl [HT1]; · iexact HT1
    iexact HT2

end Cert.Kernel.Gen

end
-- ==== Proof.K.RunC1.lean ====
module

public import proofs.«01_k».proof.Proof.K.RunC0

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body run at the last point, the block active: what it stores, as pieces, with the proof that it runs. -/
noncomputable def kernelRun_C1 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : ¬cond0_0 i) (hc1 : cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (xs0 : Vec F S960x3072 .f32) :
    Σ' (L7 : List (View.Piece (Elt F) S960x512 .fp8e5m2)), Σ' (L8 : List (View.Piece (Elt F) S960x3072 .bf16)), { LS0 : List (View.Piece (Elt F) S960x3072 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ owns (c : Thread nD τ) arg13 fullShare xs0 ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f, arg11.view.loc (c : Thread nD τ) ↦[arg11.view.set]{fullShare} arg11.view.writes (Elt F) f L7) ∗ (∃ f, arg12.view.loc (c : Thread nD τ) ↦[arg12.view.set]{fullShare} arg12.view.writes (Elt F) f L8) ∗ (∃ f, arg13.view.loc (c : Thread nD τ) ↦[arg13.view.set]{fullShare} arg13.view.writes (Elt F) f LS0) ∗ tbPt0 c tbM0_0 xt0 ∗ tbPt0 c tbM0_1 xt1 ∗ tbPt0 c tbM0_2 xt2) -∗ K ⟨⟩))
          ⊢ wp frame (wpE (defs₀ (F := F)) Variants.none c none) E (cc0_bwd i tbM0_0 htbM0_0 tbM0_1 htbM0_1 tbM0_2 htbM0_2 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_bwd_eq_skeleton]; unfold cc0_bwd_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg13.eq_unread hfs0
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists _; iexact H7
    isplitl [H8]; · iexists _; iexact H8
    isplitl [HS0]; · iexists _; iexact HS0
    isplitl [HT0]; · iexact HT0
    isplitl [HT1]; · iexact HT1
    iexact HT2

end Cert.Kernel.Gen

end
-- ==== Proof.K.Frame.lean ====
module

public import proofs.«01_k».proof.Proof.K.RunC1
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Contents

variable (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole)
  (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole)

/-- At the first point, the block inactive: the stores cover the buffer. -/
theorem cover_A0_7 (hc0 : cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) (y : S960x512.Idx) :
    ∃ pc ∈ (kernelRun_A0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3).1, y ∈ pc.1.set :=
  View.cover_of_tiledL (kernelRun_A0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3).1 S960x512.size (by sl_kernel_rfl) y

/-- At the first point, the block inactive: what the body leaves in the block of the codes. -/
def out_A0_7 (hc0 : cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) : Vec F S960x512 .fp8e5m2 :=
  VO0_7.read (Elt F) (VO0_7.writes (Elt F) VO0_7.junk (kernelRun_A0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3).1)

/-- At the first point, the block inactive: the stores cover the buffer. -/
theorem scover_A0 (hc0 : cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) (y : S960x3072.Idx) :
    ∃ pc ∈ (kernelRun_A0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3).2.2.1, y ∈ pc.1.set :=
  View.cover_of_wholeMem (kernelRun_A0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3).2.2.1 (by sl_whole_mem) y

/-- At the first point, the block inactive: what the body leaves in the accumulator. -/
def sout_A0 (hc0 : cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) : Vec F S960x3072 .f32 :=
  VS0_0.read (Elt F) (VS0_0.writes (Elt F) VS0_0.junk (kernelRun_A0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3).2.2.1)

/-- At the first point, the block active: the stores cover the buffer. -/
theorem cover_A1_7 (hc0 : cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (y : S960x512.Idx) :
    ∃ pc ∈ (kernelRun_A1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3).1, y ∈ pc.1.set :=
  View.cover_of_tiledL (kernelRun_A1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3).1 S192x512.size (by sl_kernel_rfl) y

/-- At the first point, the block active: what the body leaves in the block of the codes. -/
def out_A1_7 (hc0 : cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) : Vec F S960x512 .fp8e5m2 :=
  VO0_7.read (Elt F) (VO0_7.writes (Elt F) VO0_7.junk (kernelRun_A1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3).1)

/-- At the first point, the block active: the stores cover the buffer. -/
theorem scover_A1 (hc0 : cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (y : S960x3072.Idx) :
    ∃ pc ∈ (kernelRun_A1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3).2.2.1, y ∈ pc.1.set :=
  View.cover_of_wholeMem (kernelRun_A1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3).2.2.1 (by sl_whole_mem) y

/-- At the first point, the block active: what the body leaves in the accumulator. -/
def sout_A1 (hc0 : cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) : Vec F S960x3072 .f32 :=
  VS0_0.read (Elt F) (VS0_0.writes (Elt F) VS0_0.junk (kernelRun_A1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3).2.2.1)

/-- At a middle point, the block inactive: the stores cover the buffer. -/
theorem cover_B0_7 (hc0 : ¬cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) (xs0 : Vec F S960x3072 .f32) (y : S960x512.Idx) :
    ∃ pc ∈ (kernelRun_B0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).1, y ∈ pc.1.set :=
  View.cover_of_tiledL (kernelRun_B0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).1 S960x512.size (by sl_kernel_rfl) y

/-- At a middle point, the block inactive: what the body leaves in the block of the codes. -/
def out_B0_7 (hc0 : ¬cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) (xs0 : Vec F S960x3072 .f32) : Vec F S960x512 .fp8e5m2 :=
  VO0_7.read (Elt F) (VO0_7.writes (Elt F) VO0_7.junk (kernelRun_B0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).1)

/-- At a middle point, the block active: the stores cover the buffer. -/
theorem cover_B1_7 (hc0 : ¬cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (xs0 : Vec F S960x3072 .f32) (y : S960x512.Idx) :
    ∃ pc ∈ (kernelRun_B1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).1, y ∈ pc.1.set :=
  View.cover_of_tiledL (kernelRun_B1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).1 S192x512.size (by sl_kernel_rfl) y

/-- At a middle point, the block active: what the body leaves in the block of the codes. -/
def out_B1_7 (hc0 : ¬cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (xs0 : Vec F S960x3072 .f32) : Vec F S960x512 .fp8e5m2 :=
  VO0_7.read (Elt F) (VO0_7.writes (Elt F) VO0_7.junk (kernelRun_B1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).1)

/-- At a middle point, the block active: the stores cover the buffer. -/
theorem scover_B1 (hc0 : ¬cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (xs0 : Vec F S960x3072 .f32) (y : S960x3072.Idx) :
    ∃ pc ∈ (kernelRun_B1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).2.2.1, y ∈ pc.1.set :=
  View.cover_of_tiledL (kernelRun_B1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).2.2.1 S192x3072.size (by sl_kernel_rfl) y

/-- At a middle point, the block active: what the body leaves in the accumulator. -/
def sout_B1 (hc0 : ¬cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (xs0 : Vec F S960x3072 .f32) : Vec F S960x3072 .f32 :=
  VS0_0.read (Elt F) (VS0_0.writes (Elt F) VS0_0.junk (kernelRun_B1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).2.2.1)

/-- At the last point, the block inactive: the stores cover the buffer. -/
theorem cover_C0_7 (hc0 : ¬cond0_0 i) (hc1 : cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) (xs0 : Vec F S960x3072 .f32) (y : S960x512.Idx) :
    ∃ pc ∈ (kernelRun_C0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).1, y ∈ pc.1.set :=
  View.cover_of_tiledL (kernelRun_C0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).1 S960x512.size (by sl_kernel_rfl) y

/-- At the last point, the block inactive: what the body leaves in the block of the codes. -/
def out_C0_7 (hc0 : ¬cond0_0 i) (hc1 : cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) (xs0 : Vec F S960x3072 .f32) : Vec F S960x512 .fp8e5m2 :=
  VO0_7.read (Elt F) (VO0_7.writes (Elt F) VO0_7.junk (kernelRun_C0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).1)

/-- At the last point, the block inactive: the stores cover the buffer. -/
theorem cover_C0_8 (hc0 : ¬cond0_0 i) (hc1 : cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) (xs0 : Vec F S960x3072 .f32) (y : S960x3072.Idx) :
    ∃ pc ∈ (kernelRun_C0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).2.1, y ∈ pc.1.set :=
  View.cover_of_tiledL (kernelRun_C0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).2.1 S960x3072.size (by sl_kernel_rfl) y

/-- At the last point, the block inactive: what the body leaves in the block of the gradient. -/
def out_C0_8 (hc0 : ¬cond0_0 i) (hc1 : cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) (xs0 : Vec F S960x3072 .f32) : Vec F S960x3072 .bf16 :=
  VO0_8.read (Elt F) (VO0_8.writes (Elt F) VO0_8.junk (kernelRun_C0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).2.1)

/-- At the last point, the block active: the stores cover the buffer. -/
theorem cover_C1_7 (hc0 : ¬cond0_0 i) (hc1 : cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (xs0 : Vec F S960x3072 .f32) (y : S960x512.Idx) :
    ∃ pc ∈ (kernelRun_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).1, y ∈ pc.1.set :=
  View.cover_of_tiledL (kernelRun_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).1 S192x512.size (by sl_kernel_rfl) y

/-- At the last point, the block active: what the body leaves in the block of the codes. -/
def out_C1_7 (hc0 : ¬cond0_0 i) (hc1 : cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (xs0 : Vec F S960x3072 .f32) : Vec F S960x512 .fp8e5m2 :=
  VO0_7.read (Elt F) (VO0_7.writes (Elt F) VO0_7.junk (kernelRun_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).1)

/-- At the last point, the block active: the stores cover the buffer. -/
theorem cover_C1_8 (hc0 : ¬cond0_0 i) (hc1 : cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (xs0 : Vec F S960x3072 .f32) (y : S960x3072.Idx) :
    ∃ pc ∈ (kernelRun_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).2.1, y ∈ pc.1.set :=
  View.cover_of_tiledL (kernelRun_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).2.1 S960x3072.size (by sl_kernel_rfl) y

/-- At the last point, the block active: what the body leaves in the block of the gradient. -/
def out_C1_8 (hc0 : ¬cond0_0 i) (hc1 : cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (xs0 : Vec F S960x3072 .f32) : Vec F S960x3072 .bf16 :=
  VO0_8.read (Elt F) (VO0_8.writes (Elt F) VO0_8.junk (kernelRun_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).2.1)

/-- At the last point, the block active: the stores cover the buffer. -/
theorem scover_C1 (hc0 : ¬cond0_0 i) (hc1 : cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (xs0 : Vec F S960x3072 .f32) (y : S960x3072.Idx) :
    ∃ pc ∈ (kernelRun_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).2.2.1, y ∈ pc.1.set :=
  View.cover_of_tiledL (kernelRun_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).2.2.1 S192x3072.size (by sl_kernel_rfl) y

/-- At the last point, the block active: what the body leaves in the accumulator. -/
def sout_C1 (hc0 : ¬cond0_0 i) (hc1 : cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (xs0 : Vec F S960x3072 .f32) : Vec F S960x3072 .f32 :=
  VS0_0.read (Elt F) (VS0_0.writes (Elt F) VS0_0.junk (kernelRun_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).2.2.1)

end Contents

/-! ## What the outputs hold after each point -/

/-- The placeholder for the gradient's block at a point that does not store it. -/
def junk8 : Vec F S960x3072 .bf16 := VO0_8.read (Elt F) VO0_8.junk

/-- The activity word at the point `t`. -/
abbrev act_at (c : Dev nD) (t : Fin grid0.N) : BitVec 32 := actw c (tbl m 1) (grid0.coords t)

/-- At an inactive block the zeroing condition holds. -/
theorem act_off {w : BitVec 32} (h : ¬k0_cond3 w = 1#1) : k0_cond2 w = 1#1 := (cond_act w).2 h
/-- At an active block it does not. -/
theorem act_on {w : BitVec 32} (h : k0_cond3 w = 1#1) : ¬k0_cond2 w = 1#1 := fun h2 => (cond_act w).1 h2 h

/-- What the first point leaves, the block inactive: the codes' block, the gradient's block, the accumulator. -/
def tup_A0 (hO : Ok m) (c : Dev nD) (t : Fin (cfgM m hO).N) (hc0 : cond0_0 (grid0.coords t)) (hc1 : ¬cond0_1 (grid0.coords t)) (hc3 : ¬k0_cond3 (act_at m c t) = 1#1) :
    Vec F S960x512 .fp8e5m2 × Vec F S960x3072 .bf16 × Vec F S960x3072 .f32 :=
  (out_A0_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_off hc3) hc3, junk8, sout_A0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_off hc3) hc3)

/-- What the first point leaves, the block active: the codes' block, the gradient's block, the accumulator. -/
def tup_A1 (hO : Ok m) (c : Dev nD) (t : Fin (cfgM m hO).N) (hc0 : cond0_0 (grid0.coords t)) (hc1 : ¬cond0_1 (grid0.coords t)) (hc3 : k0_cond3 (act_at m c t) = 1#1) :
    Vec F S960x512 .fp8e5m2 × Vec F S960x3072 .bf16 × Vec F S960x3072 .f32 :=
  (out_A1_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_on hc3) hc3, junk8, sout_A1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_on hc3) hc3)

/-- What a middle point leaves, the block inactive: the codes' block, the gradient's block, the accumulator. -/
def tup_B0 (hO : Ok m) (c : Dev nD) (t : Fin (cfgM m hO).N) (hc0 : ¬cond0_0 (grid0.coords t)) (hc1 : ¬cond0_1 (grid0.coords t)) (hc3 : ¬k0_cond3 (act_at m c t) = 1#1) (prev : Vec F S960x3072 .f32) :
    Vec F S960x512 .fp8e5m2 × Vec F S960x3072 .bf16 × Vec F S960x3072 .f32 :=
  (out_B0_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_off hc3) hc3 prev, junk8, prev)

/-- What a middle point leaves, the block active: the codes' block, the gradient's block, the accumulator. -/
def tup_B1 (hO : Ok m) (c : Dev nD) (t : Fin (cfgM m hO).N) (hc0 : ¬cond0_0 (grid0.coords t)) (hc1 : ¬cond0_1 (grid0.coords t)) (hc3 : k0_cond3 (act_at m c t) = 1#1) (prev : Vec F S960x3072 .f32) :
    Vec F S960x512 .fp8e5m2 × Vec F S960x3072 .bf16 × Vec F S960x3072 .f32 :=
  (out_B1_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_on hc3) hc3 prev, junk8, sout_B1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_on hc3) hc3 prev)

/-- What the last point leaves, the block inactive: the codes' block, the gradient's block, the accumulator. -/
def tup_C0 (hO : Ok m) (c : Dev nD) (t : Fin (cfgM m hO).N) (hc0 : ¬cond0_0 (grid0.coords t)) (hc1 : cond0_1 (grid0.coords t)) (hc3 : ¬k0_cond3 (act_at m c t) = 1#1) (prev : Vec F S960x3072 .f32) :
    Vec F S960x512 .fp8e5m2 × Vec F S960x3072 .bf16 × Vec F S960x3072 .f32 :=
  (out_C0_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_off hc3) hc3 prev, out_C0_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_off hc3) hc3 prev, prev)

/-- What the last point leaves, the block active: the codes' block, the gradient's block, the accumulator. -/
def tup_C1 (hO : Ok m) (c : Dev nD) (t : Fin (cfgM m hO).N) (hc0 : ¬cond0_0 (grid0.coords t)) (hc1 : cond0_1 (grid0.coords t)) (hc3 : k0_cond3 (act_at m c t) = 1#1) (prev : Vec F S960x3072 .f32) :
    Vec F S960x512 .fp8e5m2 × Vec F S960x3072 .bf16 × Vec F S960x3072 .f32 :=
  (out_C1_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_on hc3) hc3 prev, out_C1_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_on hc3) hc3 prev, sout_C1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_on hc3) hc3 prev)

/-- The first point is not the last. -/
theorem not_last_of_first (t : Fin grid0.N) (h : cond0_0 (grid0.coords t)) : ¬cond0_1 (grid0.coords t) := fun h' => by
  have a := (hcond0_0 t).mp h; have b := (hcond0_1 t).mp h'; omega

open Classical in
/-- One point's step: what the body leaves over the accumulator `prev` that the point before left. -/
def stepAt (hO : Ok m) (c : Dev nD) (t : Fin (cfgM m hO).N) (prev : Vec F S960x3072 .f32) : Vec F S960x512 .fp8e5m2 × Vec F S960x3072 .bf16 × Vec F S960x3072 .f32 :=
  if h0 : cond0_0 (grid0.coords t) then
    if h3 : k0_cond3 (act_at m c t) = 1#1 then tup_A1 m hO c t h0 (not_last_of_first t h0) h3 else tup_A0 m hO c t h0 (not_last_of_first t h0) h3
  else if h1 : cond0_1 (grid0.coords t) then
    if h3 : k0_cond3 (act_at m c t) = 1#1 then tup_C1 m hO c t h0 h1 h3 prev else tup_C0 m hO c t h0 h1 h3 prev
  else
    if h3 : k0_cond3 (act_at m c t) = 1#1 then tup_B1 m hO c t h0 h1 h3 prev else tup_B0 m hO c t h0 h1 h3 prev

/-- What the outputs and the accumulator hold after the body at position `n`. -/
def outsAt0 (hO : Ok m) (c : Dev nD) : (n : ℕ) → n < (cfgM m hO).N → Vec F S960x512 .fp8e5m2 × Vec F S960x3072 .bf16 × Vec F S960x3072 .f32
  | 0, hn => stepAt m hO c ⟨0, hn⟩ (VS0_0.read (Elt F) VS0_0.junk)
  | n + 1, hn => stepAt m hO c ⟨n + 1, hn⟩ (outsAt0 hO c n (Nat.lt_of_succ_lt hn)).2.2

/-- `outsAt0` at the first point, the block inactive. -/
theorem outsAt0_A0 (hO : Ok m) (c : Dev nD) (t : Fin (cfgM m hO).N) (hc0 : cond0_0 (grid0.coords t)) (hc1 : ¬cond0_1 (grid0.coords t)) (hc3 : ¬k0_cond3 (act_at m c t) = 1#1) :
    outsAt0 m hO c t.val t.isLt = tup_A0 m hO c t hc0 hc1 hc3 := by
  obtain ⟨n, hn⟩ := t
  cases n with
  | zero => exact (show stepAt m hO c _ _ = _ by unfold stepAt; rw [dif_pos hc0, dif_neg hc3])
  | succ n => exact (show stepAt m hO c _ _ = _ by unfold stepAt; rw [dif_pos hc0, dif_neg hc3])

/-- `outsAt0` at the first point, the block active. -/
theorem outsAt0_A1 (hO : Ok m) (c : Dev nD) (t : Fin (cfgM m hO).N) (hc0 : cond0_0 (grid0.coords t)) (hc1 : ¬cond0_1 (grid0.coords t)) (hc3 : k0_cond3 (act_at m c t) = 1#1) :
    outsAt0 m hO c t.val t.isLt = tup_A1 m hO c t hc0 hc1 hc3 := by
  obtain ⟨n, hn⟩ := t
  cases n with
  | zero => exact (show stepAt m hO c _ _ = _ by unfold stepAt; rw [dif_pos hc0, dif_pos hc3])
  | succ n => exact (show stepAt m hO c _ _ = _ by unfold stepAt; rw [dif_pos hc0, dif_pos hc3])

/-- `outsAt0` at a middle point, the block inactive. -/
theorem outsAt0_B0 (hO : Ok m) (c : Dev nD) (t : Fin (cfgM m hO).N) (hc0 : ¬cond0_0 (grid0.coords t)) (hc1 : ¬cond0_1 (grid0.coords t)) (hc3 : ¬k0_cond3 (act_at m c t) = 1#1) :
    outsAt0 m hO c t.val t.isLt = tup_B0 m hO c t hc0 hc1 hc3 (outsAt0 m hO c (t.val - 1) (by omega)).2.2 := by
  obtain ⟨n, hn⟩ := t
  cases n with
  | zero => exact absurd ((hcond0_0 ⟨0, hn⟩).mpr (Nat.zero_mod _)) hc0
  | succ n => exact (show stepAt m hO c _ _ = _ by unfold stepAt; rw [dif_neg hc0, dif_neg hc1, dif_neg hc3]; rfl)

/-- `outsAt0` at a middle point, the block active. -/
theorem outsAt0_B1 (hO : Ok m) (c : Dev nD) (t : Fin (cfgM m hO).N) (hc0 : ¬cond0_0 (grid0.coords t)) (hc1 : ¬cond0_1 (grid0.coords t)) (hc3 : k0_cond3 (act_at m c t) = 1#1) :
    outsAt0 m hO c t.val t.isLt = tup_B1 m hO c t hc0 hc1 hc3 (outsAt0 m hO c (t.val - 1) (by omega)).2.2 := by
  obtain ⟨n, hn⟩ := t
  cases n with
  | zero => exact absurd ((hcond0_0 ⟨0, hn⟩).mpr (Nat.zero_mod _)) hc0
  | succ n => exact (show stepAt m hO c _ _ = _ by unfold stepAt; rw [dif_neg hc0, dif_neg hc1, dif_pos hc3]; rfl)

/-- `outsAt0` at the last point, the block inactive. -/
theorem outsAt0_C0 (hO : Ok m) (c : Dev nD) (t : Fin (cfgM m hO).N) (hc0 : ¬cond0_0 (grid0.coords t)) (hc1 : cond0_1 (grid0.coords t)) (hc3 : ¬k0_cond3 (act_at m c t) = 1#1) :
    outsAt0 m hO c t.val t.isLt = tup_C0 m hO c t hc0 hc1 hc3 (outsAt0 m hO c (t.val - 1) (by omega)).2.2 := by
  obtain ⟨n, hn⟩ := t
  cases n with
  | zero => exact absurd ((hcond0_0 ⟨0, hn⟩).mpr (Nat.zero_mod _)) hc0
  | succ n => exact (show stepAt m hO c _ _ = _ by unfold stepAt; rw [dif_neg hc0, dif_pos hc1, dif_neg hc3]; rfl)

/-- `outsAt0` at the last point, the block active. -/
theorem outsAt0_C1 (hO : Ok m) (c : Dev nD) (t : Fin (cfgM m hO).N) (hc0 : ¬cond0_0 (grid0.coords t)) (hc1 : cond0_1 (grid0.coords t)) (hc3 : k0_cond3 (act_at m c t) = 1#1) :
    outsAt0 m hO c t.val t.isLt = tup_C1 m hO c t hc0 hc1 hc3 (outsAt0 m hO c (t.val - 1) (by omega)).2.2 := by
  obtain ⟨n, hn⟩ := t
  cases n with
  | zero => exact absurd ((hcond0_0 ⟨0, hn⟩).mpr (Nat.zero_mod _)) hc0
  | succ n => exact (show stepAt m hO c _ _ = _ by unfold stepAt; rw [dif_neg hc0, dif_pos hc1, dif_pos hc3]; rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => (outsAt0 m hO c t.val t.isLt).1
    | ⟨8, _⟩ => (outsAt0 m hO c t.val t.isLt).2.1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = (outsAt0 m hO c t.val t.isLt).1 := by dsimp only [dats]; try rfl
theorem after0_8 (hO : Ok m) (c : Dev nD) (t : Fin (cfgM m hO).N) : (dats m hO 0 c).after 8 t = (outsAt0 m hO c t.val t.isLt).2.1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t)

set_option maxHeartbeats 9600000 in
/-- The body at any point: the inputs hold their blocks, the run of the point's case applies, the invariant hands the body the accumulator and takes it back. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 251 := lt_of_lt_of_eq t.isLt (show (cfgM m hO).N = 251 from N_0)
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  by_cases hc0 : cond0_0 (grid0.coords t)
  · have hc1 := not_last_of_first t hc0
    have hz : t.val = 0 := by have := (hcond0_0 t).mp hc0; omega
    rw [Dat.leavesExact_idle (dats m hO 0 c) 8 t (idleAt0_8 m hO t hc1) (noFlush0_8 m hO t hc1)]
    rw [PhiS_castSucc m hO c t, PhiS_zero m hO c _ _ hz, PhiT0_eq, PhiA0_eq]
    by_cases hc3 : k0_cond3 (act_at m c t) = 1#1
    · rw [outsAt0_A1 m hO c t hc0 hc1 hc3]
      unfold tup_A1 out_A1_7 sout_A1; (try dsimp only)
      iintro ⟨⟨⟨HS0, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun_A1 c (grid0.coords t) _ _ _ _ _ _ _ _ _ _ _ _ _ _ _ _ _ _ _ _  hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_on hc3) hc3).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS0]; · iexact HS0
      isplitl [HT0]; · iexact HT0
      isplitl [HT1]; · iexact HT1
      isplitl [HT2]; · iexact HT2
      iintro ⟨H0, H1, H2, H3, H4, H5, H6, ⟨%e7, H7⟩, H8, ⟨%es0, HS0⟩, HT0, HT1, HT2⟩
      isplitl [HS0 Hg HT0 HT1 HT2]
      · isplitl [HS0 Hg]
        · isplitl [HS0]
          · unfold owns; iexists _; isplitr
            swap; · iexact HS0
            ipureintro; exact View.read_writes_of_cover _ _ _ _ _ (scover_A1 c (grid0.coords t) _ _ _ _ _ _ _ _ _ _ _ _ _ _ _ _ _ _ _ _  hc0 hc1 _ _ _ _ _ _ _ _ _ _  _ hc3)
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover_A1_7 c (grid0.coords t) _ _ _ _ _ _ _ _ _ _ _ _ _ _ _ _ _ _ _ _  hc0 hc1 _ _ _ _ _ _ _ _ _ _  _ hc3)
      iexists _; iexact H8
    · rw [outsAt0_A0 m hO c t hc0 hc1 hc3]
      unfold tup_A0 out_A0_7 sout_A0; (try dsimp only)
      iintro ⟨⟨⟨HS0, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun_A0 c (grid0.coords t) _ _ _ _ _ _ _ _ _ _ _ _ _ _ _ _ _ _ _ _  hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_off hc3) hc3).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS0]; · iexact HS0
      isplitl [HT0]; · iexact HT0
      isplitl [HT1]; · iexact HT1
      isplitl [HT2]; · iexact HT2
      iintro ⟨H0, H1, H2, H3, H4, H5, H6, ⟨%e7, H7⟩, H8, ⟨%es0, HS0⟩, HT0, HT1, HT2⟩
      isplitl [HS0 Hg HT0 HT1 HT2]
      · isplitl [HS0 Hg]
        · isplitl [HS0]
          · unfold owns; iexists _; isplitr
            swap; · iexact HS0
            ipureintro; exact View.read_writes_of_cover _ _ _ _ _ (scover_A0 c (grid0.coords t) _ _ _ _ _ _ _ _ _ _ _ _ _ _ _ _ _ _ _ _  hc0 hc1 _ _ _ _ _ _ _ _ _ _  _ hc3)
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover_A0_7 c (grid0.coords t) _ _ _ _ _ _ _ _ _ _ _ _ _ _ _ _ _ _ _ _  hc0 hc1 _ _ _ _ _ _ _ _ _ _  _ hc3)
      iexists _; iexact H8
  · have hz : t.val ≠ 0 := fun h => hc0 ((hcond0_0 t).mpr (by omega))
    rw [PhiS_castSucc m hO c t, PhiS_pos m hO c _ _ hz, PhiT0_eq]
    by_cases hc1 : cond0_1 (grid0.coords t)
    · rw [show (dats m hO 0 c).leavesExact 8 t = owns (c : Thread nD τ) (ms0_8 m hO t) fullShare ((dats m hO 0 c).after 8 t) from by
        unfold Dat.leavesExact; rw [liveAt0_8 m hO t hc1]; try rfl, after0_8]
      by_cases hc3 : k0_cond3 (act_at m c t) = 1#1
      · rw [outsAt0_C1 m hO c t hc0 hc1 hc3]
        unfold tup_C1 out_C1_7 out_C1_8 sout_C1; (try dsimp only)
        iintro ⟨⟨⟨HS0, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun_C1 c (grid0.coords t) _ _ _ _ _ _ _ _ _ _ _ _ _ _ _ _ _ _ _ _  hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_on hc3) hc3 _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HT0]; · iexact HT0
        isplitl [HT1]; · iexact HT1
        isplitl [HT2]; · iexact HT2
        iintro ⟨H0, H1, H2, H3, H4, H5, H6, ⟨%e7, H7⟩, ⟨%e8, H8⟩, ⟨%es0, HS0⟩, HT0, HT1, HT2⟩
        isplitl [HS0 Hg HT0 HT1 HT2]
        · isplitl [HS0 Hg]
          · isplitl [HS0]
            · unfold owns; iexists _; isplitr
              swap; · iexact HS0
              ipureintro; exact View.read_writes_of_cover _ _ _ _ _ (scover_C1 c (grid0.coords t) _ _ _ _ _ _ _ _ _ _ _ _ _ _ _ _ _ _ _ _  hc0 hc1 _ _ _ _ _ _ _ _ _ _  _ hc3 _)
            iexact Hg
          isplitl [HT0]; · iexact HT0
          isplitl [HT1]; · iexact HT1
          iexact HT2
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover_C1_7 c (grid0.coords t) _ _ _ _ _ _ _ _ _ _ _ _ _ _ _ _ _ _ _ _  hc0 hc1 _ _ _ _ _ _ _ _ _ _  _ hc3 _)
        unfold owns; iexists _; isplitr
        swap; · iexact H8
        ipureintro; exact View.read_writes_of_cover _ _ _ _ _ (cover_C1_8 c (grid0.coords t) _ _ _ _ _ _ _ _ _ _ _ _ _ _ _ _ _ _ _ _  hc0 hc1 _ _ _ _ _ _ _ _ _ _  _ hc3 _)
      · rw [outsAt0_C0 m hO c t hc0 hc1 hc3]
        unfold tup_C0 out_C0_7 out_C0_8; (try dsimp only)
        iintro ⟨⟨⟨HS0, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun_C0 c (grid0.coords t) _ _ _ _ _ _ _ _ _ _ _ _ _ _ _ _ _ _ _ _  hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_off hc3) hc3 _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HT0]; · iexact HT0
        isplitl [HT1]; · iexact HT1
        isplitl [HT2]; · iexact HT2
        iintro ⟨H0, H1, H2, H3, H4, H5, H6, ⟨%e7, H7⟩, ⟨%e8, H8⟩, HS0, HT0, HT1, HT2⟩
        isplitl [HS0 Hg HT0 HT1 HT2]
        · isplitl [HS0 Hg]
          · isplitl [HS0]
            · iexact HS0
            iexact Hg
          isplitl [HT0]; · iexact HT0
          isplitl [HT1]; · iexact HT1
          iexact HT2
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover_C0_7 c (grid0.coords t) _ _ _ _ _ _ _ _ _ _ _ _ _ _ _ _ _ _ _ _  hc0 hc1 _ _ _ _ _ _ _ _ _ _  _ hc3 _)
        unfold owns; iexists _; isplitr
        swap; · iexact H8
        ipureintro; exact View.read_writes_of_cover _ _ _ _ _ (cover_C0_8 c (grid0.coords t) _ _ _ _ _ _ _ _ _ _ _ _ _ _ _ _ _ _ _ _  hc0 hc1 _ _ _ _ _ _ _ _ _ _  _ hc3 _)
    · rw [Dat.leavesExact_idle (dats m hO 0 c) 8 t (idleAt0_8 m hO t hc1) (noFlush0_8 m hO t hc1)]
      by_cases hc3 : k0_cond3 (act_at m c t) = 1#1
      · rw [outsAt0_B1 m hO c t hc0 hc1 hc3]
        unfold tup_B1 out_B1_7 sout_B1; (try dsimp only)
        iintro ⟨⟨⟨HS0, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun_B1 c (grid0.coords t) _ _ _ _ _ _ _ _ _ _ _ _ _ _ _ _ _ _ _ _  hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_on hc3) hc3 _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        isplitl [HT0]; · iexact HT0
        isplitl [HT1]; · iexact HT1
        isplitl [HT2]; · iexact HT2
        iintro ⟨H0, H1, H2, H3, H4, H5, H6, ⟨%e7, H7⟩, H8, ⟨%es0, HS0⟩, HT0, HT1, HT2⟩
        isplitl [HS0 Hg HT0 HT1 HT2]
        · isplitl [HS0 Hg]
          · isplitl [HS0]
            · unfold owns; iexists _; isplitr
              swap; · iexact HS0
              ipureintro; exact View.read_writes_of_cover _ _ _ _ _ (scover_B1 c (grid0.coords t) _ _ _ _ _ _ _ _ _ _ _ _ _ _ _ _ _ _ _ _  hc0 hc1 _ _ _ _ _ _ _ _ _ _  _ hc3 _)
            iexact Hg
          isplitl [HT0]; · iexact HT0
          isplitl [HT1]; · iexact HT1
          iexact HT2
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover_B1_7 c (grid0.coords t) _ _ _ _ _ _ _ _ _ _ _ _ _ _ _ _ _ _ _ _  hc0 hc1 _ _ _ _ _ _ _ _ _ _  _ hc3 _)
        iexists _; iexact H8
      · rw [outsAt0_B0 m hO c t hc0 hc1 hc3]
        unfold tup_B0 out_B0_7; (try dsimp only)
        iintro ⟨⟨⟨HS0, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun_B0 c (grid0.coords t) _ _ _ _ _ _ _ _ _ _ _ _ _ _ _ _ _ _ _ _  hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_off hc3) hc3 _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        isplitl [HT0]; · iexact HT0
        isplitl [HT1]; · iexact HT1
        isplitl [HT2]; · iexact HT2
        iintro ⟨H0, H1, H2, H3, H4, H5, H6, ⟨%e7, H7⟩, H8, HS0, HT0, HT1, HT2⟩
        isplitl [HS0 Hg HT0 HT1 HT2]
        · isplitl [HS0 Hg]
          · isplitl [HS0]
            · iexact HS0
            iexact Hg
          isplitl [HT0]; · iexact HT0
          isplitl [HT1]; · iexact HT1
          iexact HT2
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover_B0_7 c (grid0.coords t) _ _ _ _ _ _ _ _ _ _ _ _ _ _ _ _ _ _ _ _  hc0 hc1 _ _ _ _ _ _ _ _ _ _  _ hc3 _)
        iexists _; iexact H8

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 251 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ hO (dats m hO) (A_eq m hO) (run_main m ρ hO)

/-- The frame: the program terminates, its argument arrays and semaphore counters end as required. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ hO) ((θ_run defs _ _).mono (fun _ h => h.2) (run_main_quiescent m ρ hO))

end Cert.Kernel.Gen

end
-- ==== Proof.K.Ok.lean ====
/- The pipeline's side condition of the tables, from the tables' range. -/
module

public import proofs.«01_k».proof.Proof.K.Runs
public import Idealize.ShloMosaic.Lib.Affine

@[expose] public section

set_option maxRecDepth 16384

namespace Cert.Kernel.Gen

open Idealize.ShloMosaic Idealize.ShloMosaic.TcCoe

variable {F : FTy → Type} [FloatOps F]
variable (m : (ℓ : Loc nD τ sig) → Buf (Elt F) ℓ)

/-- A block number below 251 names a block of the logits, -/
theorem inb_lg (n : Nat) (h : n < 251) : ∀ a, (![n, 0, 0] a + 1) * S1x960x512.size a ≤ S251x960x512.size a := by
  intro a
  fin_cases a
  · show (n + 1) * 1 ≤ 251; omega
  · show (0 + 1) * 960 ≤ 960; omega
  · show (0 + 1) * 512 ≤ 512; omega

/-- of the weights, -/
theorem inb_w (n : Nat) (h : n < 251) : ∀ a, (![n, 0] a + 1) * S512x3072.size a ≤ S128512x3072.size a := by
  intro a
  fin_cases a
  · show (n + 1) * 512 ≤ 128512; omega
  · show (0 + 1) * 3072 ≤ 3072; omega

/-- and of the scales. -/
theorem inb_ws (n : Nat) (h : n < 251) : ∀ a, (![n, 0, 0] a + 1) * S1x1x512.size a ≤ S251x1x512.size a := by
  intro a
  fin_cases a
  · show (n + 1) * 1 ≤ 251; omega
  · show (0 + 1) * 1 ≤ 1; omega
  · show (0 + 1) * 512 ≤ 512; omega

/-- A block of the weights starts and ends at whole words. -/
theorem words_w (n : Nat) (h : ∀ a, (![n, 0] a + 1) * S512x3072.size a ≤ S128512x3072.size a) :
    (Rect.block (s := S128512x3072) S512x3072.size ![n, 0] h).WholeWords (EltTy.packing .fp8e4m3) := by
  exact Affine.block_words_dvd (of_decide_eq_true rfl) (by decide)

/-- Tables in range: the pipeline's side condition. -/
theorem ok_of (h0 : ∀ j, (tbl m 0 j : BitVec 32).toNat < 251) (h2 : ∀ j, (tbl m 2 j : BitVec 32).toNat < 251) : Ok m := by
  refine ⟨fun i => ⟨inb_lg _ (h0 _), .inl rfl⟩, fun i => ⟨inb_w _ (h2 _), .inr (words_w _ _)⟩, fun i => ⟨inb_ws _ (h2 _), .inl rfl⟩⟩

end Cert.Kernel.Gen
-- ==== Proof.KI.Points.lean ====
/- The schedule of the kernel on its static grid: at which points each window is fetched and written back. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0: no schedule fact — its index map reads a prefetched table, so where it is fetched or written back depends on the tables' contents
-- window 1: no schedule fact — its index map reads a prefetched table, so where it is fetched or written back depends on the tables' contents
-- window 2: no schedule fact — its index map reads a prefetched table, so where it is fetched or written back depends on the tables' contents
/-- Window 3 (operand 6 (%arg6)) is fetched at the first point only, at any contents of the tables (its index map reads none). -/
theorem fetch0_3 (a : (pcfg0 (F := F)).Adm) : ∀ t : Fin (cfg0 a).N, ((cfg0 a).win 3).fetch t = true ↔ t.val % 251 = 0 :=
  (fun t => Pipeline.Window.fetchOf_const cc0_transform_3 (fun _ _ => rfl) (n := 251) (by decide) t : ∀ t : Fin grid0.N, Pipeline.Window.fetchOf grid0 false cc0_transform_3 t = true ↔ t.val % 251 = 0)
/-- Window 4 (operand 7 (%arg7)) is fetched at the first point only, at any contents of the tables (its index map reads none). -/
theorem fetch0_4 (a : (pcfg0 (F := F)).Adm) : ∀ t : Fin (cfg0 a).N, ((cfg0 a).win 4).fetch t = true ↔ t.val % 251 = 0 :=
  (fun t => Pipeline.Window.fetchOf_const cc0_transform_4 (fun _ _ => rfl) (n := 251) (by decide) t : ∀ t : Fin grid0.N, Pipeline.Window.fetchOf grid0 false cc0_transform_4 t = true ↔ t.val % 251 = 0)
/-- Window 5 (operand 8 (%arg8)) is fetched at the first point only, at any contents of the tables (its index map reads none). -/
theorem fetch0_5 (a : (pcfg0 (F := F)).Adm) : ∀ t : Fin (cfg0 a).N, ((cfg0 a).win 5).fetch t = true ↔ t.val % 251 = 0 :=
  (fun t => Pipeline.Window.fetchOf_const cc0_transform_5 (fun _ _ => rfl) (n := 251) (by decide) t : ∀ t : Fin grid0.N, Pipeline.Window.fetchOf grid0 false cc0_transform_5 t = true ↔ t.val % 251 = 0)
/-- Window 6 (operand 9 (%arg9)) is fetched at the first point only, at any contents of the tables (its index map reads none). -/
theorem fetch0_6 (a : (pcfg0 (F := F)).Adm) : ∀ t : Fin (cfg0 a).N, ((cfg0 a).win 6).fetch t = true ↔ t.val % 251 = 0 :=
  (fun t => Pipeline.Window.fetchOf_const cc0_transform_6 (fun _ _ => rfl) (n := 251) (by decide) t : ∀ t : Fin grid0.N, Pipeline.Window.fetchOf grid0 false cc0_transform_6 t = true ↔ t.val % 251 = 0)
/-- Window 7 (result 0 (%0#0)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 1 (fun _ => rfl) (by decide)) (P := 1) (m := 0) (by decide) rfl t).mpr (Nat.mod_one _) : ∀ t : Fin grid0.N, Pipeline.Window.flushOf grid0 true cc0_transform_7 t = true)
/-- Window 8 (result 1 (%0#1)) is written back at the last point only, at any contents of the tables (its index map reads none). -/
theorem flush0_8 (a : (pcfg0 (F := F)).Adm) : ∀ t : Fin (cfg0 a).N, ((cfg0 a).win 8).flush t = true ↔ t.val % 251 = 250 :=
  (fun t => Pipeline.Window.flushOf_const cc0_transform_8 (fun _ _ => rfl) (n := 251) (by decide) rfl t : ∀ t : Fin grid0.N, Pipeline.Window.flushOf grid0 true cc0_transform_8 t = true ↔ t.val % 251 = 250)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_bwd (grid0.coords t) (Memref.whole main_arg0) (Memref.isWhole_whole _) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _)

end Cert.KernelIdeal.Gen

end
-- ==== Proof.KI.Runs.lean ====
/- What the frame of the kernel needs besides the body runs: the tables, the blocks, the branch conditions, idleness. -/
module

public import proofs.«01_k».proof.Proof.Gen.KernelIdeal.Launch
public import proofs.«01_k».proof.Proof.Gen.KernelIdeal.Skeleton
public import proofs.«01_k».proof.Proof.KI.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S251 .i32 := Memref.whole main_arg0
abbrev htbM0_0 : tbM0_0.IsWhole := Memref.isWhole_whole _
abbrev tbM0_1 : Memref sig .tc .smem S251 .i32 := Memref.whole main_arg1
abbrev htbM0_1 : tbM0_1.IsWhole := Memref.isWhole_whole _
abbrev tbM0_2 : Memref sig .tc .smem S251 .i32 := Memref.whole main_arg2
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 0).trans (((dats 0 c).arrAt_in 0 rfl _).trans ((hA c 0).trans (V_main_arg3 m c))),
      ((h c).1 1).trans (((dats 0 c).arrAt_in 1 rfl _).trans ((hA c 1).trans (V_main_arg4 m c))),
      ((h c).1 2).trans (((dats 0 c).arrAt_in 2 rfl _).trans ((hA c 2).trans (V_main_arg5 m c))),
      ((h c).1 3).trans (((dats 0 c).arrAt_in 3 rfl _).trans ((hA c 3).trans (V_main_arg6 m c))),
      ((h c).1 4).trans (((dats 0 c).arrAt_in 4 rfl _).trans ((hA c 4).trans (V_main_arg7 m c))),
      ((h c).1 5).trans (((dats 0 c).arrAt_in 5 rfl _).trans ((hA c 5).trans (V_main_arg8 m c))),
      ((h c).1 6).trans (((dats 0 c).arrAt_in 6 rfl _).trans ((hA c 6).trans (V_main_arg9 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 251 = 0 :=
  (fun t => by
    have ht : t.val < 251 := Nat.lt_of_lt_of_eq t.isLt N_0
    have e0 : (grid0.coords t 0).val = t.val / 1 % 251 := Pipeline.Grid.coords_val t 0 (by decide) rfl
    simp only [cond0_0, e0]
    word_cmp
   : ∀ t : Fin grid0.N, cond0_0 (grid0.coords t) ↔ t.val % 251 = 0)

/-- The condition of the body's `scf.if` 1 (`k0_h2`), from the grid coordinates (the skeleton's scalar
    chain substituted). -/
abbrev cond0_1 (i : grid0.Coords) : Prop := k0_cond4 i = 1#1
/-- It holds at the last point only — by arithmetic of the point. -/
theorem hcond0_1 : ∀ t : Fin grid0.N, cond0_1 (grid0.coords t) ↔ t.val % 251 = 250 :=
  (fun t => by
    have ht : t.val < 251 := Nat.lt_of_lt_of_eq t.isLt N_0
    have e0 : (grid0.coords t 0).val = t.val / 1 % 251 := Pipeline.Grid.coords_val t 0 (by decide) rfl
    simp only [cond0_1, k0_cond4, e0]
    word_cmp
   : ∀ t : Fin grid0.N, cond0_1 (grid0.coords t) ↔ t.val % 251 = 250)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  fun _ => rfl
/-- Window 1 is never idle (an input). -/
theorem liveAt0_1 (hO : Ok m) : ∀ t : Fin (cfgM m hO).N, (cfgM m hO).idle 1 (grid0.coords t) = false :=
  fun _ => rfl
/-- Window 2 is never idle (an input). -/
theorem liveAt0_2 (hO : Ok m) : ∀ t : Fin (cfgM m hO).N, (cfgM m hO).idle 2 (grid0.coords t) = false :=
  fun _ => rfl
/-- Window 3 is never idle (an input). -/
theorem liveAt0_3 (hO : Ok m) : ∀ t : Fin (cfgM m hO).N, (cfgM m hO).idle 3 (grid0.coords t) = false :=
  fun _ => rfl
/-- Window 4 is never idle (an input). -/
theorem liveAt0_4 (hO : Ok m) : ∀ t : Fin (cfgM m hO).N, (cfgM m hO).idle 4 (grid0.coords t) = false :=
  fun _ => rfl
/-- Window 5 is never idle (an input). -/
theorem liveAt0_5 (hO : Ok m) : ∀ t : Fin (cfgM m hO).N, (cfgM m hO).idle 5 (grid0.coords t) = false :=
  fun _ => rfl
/-- Window 6 is never idle (an input). -/
theorem liveAt0_6 (hO : Ok m) : ∀ t : Fin (cfgM m hO).N, (cfgM m hO).idle 6 (grid0.coords t) = false :=
  fun _ => rfl
/-- The two conditions on the word of the activity table are complementary. -/
theorem cond_act (w : BitVec 32) : k0_cond2 w = 1#1 ↔ ¬k0_cond3 w = 1#1 := by
  simp only [k0_cond2, k0_cond3]
  by_cases h : w = 0#32
  · subst h; decide
  · have hb : (w == 0#32) = false := by simpa using h
    simp [Scalar.cmpi, Scalar.extui, IntOp.cmpi, hb, bne]
/-- Window 7 is never idle: whichever way the word of the activity table falls, the block is stored. -/
theorem liveAt0_7 (hO : Ok m) (t : Fin (cfgM m hO).N) : (cfgM m hO).idle 7 (grid0.coords t) = false := by
  show (!(k0_cond2 ((tbl m).atD 1 (k0_off1 (grid0.coords t))) == 1#1) && !(k0_cond3 ((tbl m).atD 1 (k0_off2 (grid0.coords t))) == 1#1)) = false
  have e : k0_off1 (grid0.coords t) = k0_off2 (grid0.coords t) := rfl
  rw [e]
  by_cases h : k0_cond3 ((tbl m).atD 1 (k0_off2 (grid0.coords t))) = 1#1
  · simp [h]
  · simp [h, (cond_act _).2 h]
/-- Except at the last point window 8 is idle: nothing is stored into it. -/
theorem idleAt0_8 (hO : Ok m) : ∀ t : Fin (cfgM m hO).N, ¬cond0_1 (grid0.coords t) → (cfgM m hO).idle 8 (grid0.coords t) = true :=
  (by intro t h; simp [cond0_1] at h; simp [h] : ∀ t : Fin grid0.N, ¬cond0_1 (grid0.coords t) → (!(k0_cond4 (grid0.coords t) == 1#1)) = true)
/-- Except at the last point window 8's block is not written back. -/
theorem noFlush0_8 (hO : Ok m) : ∀ t : Fin (cfgM m hO).N, ¬cond0_1 (grid0.coords t) → ((cfgM m hO).win 8).flush t = false :=
  (by decide +kernel : ∀ t : Fin grid0.N, ¬cond0_1 (grid0.coords t) → Pipeline.Window.flushOf grid0 true cc0_transform_8 t = false)
/-- At the last point window 8 is stored. -/
theorem liveAt0_8 (hO : Ok m) : ∀ t : Fin (cfgM m hO).N, cond0_1 (grid0.coords t) → (cfgM m hO).idle 8 (grid0.coords t) = false :=
  (by intro t h; simp [cond0_1] at h; simp [h] : ∀ t : Fin grid0.N, cond0_1 (grid0.coords t) → (!(k0_cond4 (grid0.coords t) == 1#1)) = false)

/-! ## The kernel body on any staging memrefs: a subtype the run finds -/

/-- One staging buffer of output window 7, through which its contents are stated (`View.read_writes_of_cover`: the
    choice does not matter). -/
abbrev VO0_7 : View sig .tc .vmem S960x512 .fp8e5m2 := (Memref.whole cc0_stg7_0 : Memref sig .tc .vmem S960x512 .fp8e5m2).view
/-- One staging buffer of output window 8, through which its contents are stated (`View.read_writes_of_cover`: the
    choice does not matter). -/
abbrev VO0_8 : View sig .tc .vmem S960x3072 .bf16 := (Memref.whole cc0_stg8_0 : Memref sig .tc .vmem S960x3072 .bf16).view
/-- Each window's current staging memref at point `t`, spelled as the pipeline passes it (`bodyAt0`), and its wholeness. -/
abbrev ms0_0 (hO : Ok m) (t : Fin (cfgM m hO).N) : Memref sig .tc .vmem S1x960x512 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x3072 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S960x1 .i32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S960x1 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S960x1 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S960x1 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S960x512 .fp8e5m2 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S960x3072 .bf16 := spec0_8.stage ((cfgM m hO).slots t 8)
abbrev hs0_8 (hO : Ok m) (t : Fin (cfgM m hO).N) : (ms0_8 m hO t).IsWhole := hstage0_8 (((cfgM m hO).slots t 8).cast nbuf0_8)
/-- The word of the activity table at the point `i`, as the body reads it (twice: once per condition). -/
abbrev actw (c : Dev nD) (xt1 : TbBuf0 (F := F) c tbM0_1) (i : grid0.Coords) : BitVec 32 :=
  View.readAt (Elt F) tbM0_1.view (Rect.unit (s := S251) (k0_off2 i) S1.size (k0_off2_inb i)).toLoadRect xt1 (Shape.Idx.first (numel1_S1.symm ▸ Nat.one_pos))

/-- The scratch operands: whole scoped buffers of the kernel's own, passed beside the windows. -/
abbrev scM0_0 : Memref sig .tc .vmem S960x3072 .f32 := Memref.whole cc0_scratch0
/-- The scratch `arg13` the kernel carries between points, as a view: what it holds is stated through it. -/
abbrev VS0_0 : View sig .tc .vmem S960x3072 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.KI.RunA0.lean ====
module

public import proofs.«01_k».proof.Proof.KI.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body run at the first point, the block inactive: what it stores, as pieces, with the proof that it runs. -/
noncomputable def kernelRun_A0 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) :
    Σ' (L7 : List (View.Piece (Elt F) S960x512 .fp8e5m2)), Σ' (L8 : List (View.Piece (Elt F) S960x3072 .bf16)), { LS0 : List (View.Piece (Elt F) S960x3072 .f32) //
      ∀ (xi8 : Vec F S960x3072 .bf16) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ owns (c : Thread nD τ) arg12 fullShare xi8 ∗ (∃ d, owns (c : Thread nD τ) arg13 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f, arg11.view.loc (c : Thread nD τ) ↦[arg11.view.set]{fullShare} arg11.view.writes (Elt F) f L7) ∗ owns (c : Thread nD τ) arg12 fullShare xi8 ∗ (∃ f, arg13.view.loc (c : Thread nD τ) ↦[arg13.view.set]{fullShare} arg13.view.writes (Elt F) f LS0) ∗ tbPt0 c tbM0_0 xt0 ∗ tbPt0 c tbM0_1 xt1 ∗ tbPt0 c tbM0_2 xt2) -∗ K ⟨⟩))
          ⊢ wp frame (wpE (defs₀ (F := F)) Variants.none c none) E (cc0_bwd i tbM0_0 htbM0_0 tbM0_1 htbM0_1 tbM0_2 htbM0_2 arg4 harg4 arg5 harg5 arg6 harg6 arg7 harg7 arg8 harg8 arg9 harg9 arg10 harg10 arg11 harg11 arg12 harg12 arg13 harg13) K } := by
  refine ⟨?_, [], ?_, fun xi8 E K => ?run⟩
  case run =>
    simp only [cc0_bwd_eq_skeleton]; unfold cc0_bwd_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg12.eq_unread hf8
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists _; iexact H7
    isplitl [H8]
    · iexists _; isplitr; · ipureintro; exact harg12.read_unread _
      iexact H8
    isplitl [HS0]; · iexists _; iexact HS0
    isplitl [HT0]; · iexact HT0
    isplitl [HT1]; · iexact HT1
    iexact HT2

end Cert.KernelIdeal.Gen

end
-- ==== Proof.KI.RunA1.lean ====
module

public import proofs.«01_k».proof.Proof.KI.RunA0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body run at the first point, the block active: what it stores, as pieces, with the proof that it runs. -/
noncomputable def kernelRun_A1 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) :
    Σ' (L7 : List (View.Piece (Elt F) S960x512 .fp8e5m2)), Σ' (L8 : List (View.Piece (Elt F) S960x3072 .bf16)), { LS0 : List (View.Piece (Elt F) S960x3072 .f32) //
      ∀ (xi8 : Vec F S960x3072 .bf16) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ owns (c : Thread nD τ) arg12 fullShare xi8 ∗ (∃ d, owns (c : Thread nD τ) arg13 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f, arg11.view.loc (c : Thread nD τ) ↦[arg11.view.set]{fullShare} arg11.view.writes (Elt F) f L7) ∗ owns (c : Thread nD τ) arg12 fullShare xi8 ∗ (∃ f, arg13.view.loc (c : Thread nD τ) ↦[arg13.view.set]{fullShare} arg13.view.writes (Elt F) f LS0) ∗ tbPt0 c tbM0_0 xt0 ∗ tbPt0 c tbM0_1 xt1 ∗ tbPt0 c tbM0_2 xt2) -∗ K ⟨⟩))
          ⊢ wp frame (wpE (defs₀ (F := F)) Variants.none c none) E (cc0_bwd i tbM0_0 htbM0_0 tbM0_1 htbM0_1 tbM0_2 htbM0_2 arg4 harg4 arg5 harg5 arg6 harg6 arg7 harg7 arg8 harg8 arg9 harg9 arg10 harg10 arg11 harg11 arg12 harg12 arg13 harg13) K } := by
  refine ⟨?_, [], ?_, fun xi8 E K => ?run⟩
  case run =>
    simp only [cc0_bwd_eq_skeleton]; unfold cc0_bwd_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg12.eq_unread hf8
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists _; iexact H7
    isplitl [H8]
    · iexists _; isplitr; · ipureintro; exact harg12.read_unread _
      iexact H8
    isplitl [HS0]; · iexists _; iexact HS0
    isplitl [HT0]; · iexact HT0
    isplitl [HT1]; · iexact HT1
    iexact HT2

end Cert.KernelIdeal.Gen

end
-- ==== Proof.KI.RunB0.lean ====
module

public import proofs.«01_k».proof.Proof.KI.RunA1

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body run between the first point and the last, the block inactive: what it stores, as pieces, with the proof that it runs. -/
noncomputable def kernelRun_B0 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : ¬cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) (xs0 : Vec F S960x3072 .f32) :
    Σ' (L7 : List (View.Piece (Elt F) S960x512 .fp8e5m2)), Σ' (L8 : List (View.Piece (Elt F) S960x3072 .bf16)), { LS0 : List (View.Piece (Elt F) S960x3072 .f32) //
      ∀ (xi8 : Vec F S960x3072 .bf16) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ owns (c : Thread nD τ) arg12 fullShare xi8 ∗ owns (c : Thread nD τ) arg13 fullShare xs0 ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f, arg11.view.loc (c : Thread nD τ) ↦[arg11.view.set]{fullShare} arg11.view.writes (Elt F) f L7) ∗ owns (c : Thread nD τ) arg12 fullShare xi8 ∗ owns (c : Thread nD τ) arg13 fullShare xs0 ∗ tbPt0 c tbM0_0 xt0 ∗ tbPt0 c tbM0_1 xt1 ∗ tbPt0 c tbM0_2 xt2) -∗ K ⟨⟩))
          ⊢ wp frame (wpE (defs₀ (F := F)) Variants.none c none) E (cc0_bwd i tbM0_0 htbM0_0 tbM0_1 htbM0_1 tbM0_2 htbM0_2 arg4 harg4 arg5 harg5 arg6 harg6 arg7 harg7 arg8 harg8 arg9 harg9 arg10 harg10 arg11 harg11 arg12 harg12 arg13 harg13) K } := by
  refine ⟨?_, [], [], fun xi8 E K => ?run⟩
  case run =>
    simp only [cc0_bwd_eq_skeleton]; unfold cc0_bwd_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg12.eq_unread hf8; obtain rfl := harg13.eq_unread hfs0
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists _; iexact H7
    isplitl [H8]
    · iexists _; isplitr; · ipureintro; exact harg12.read_unread _
      iexact H8
    isplitl [HS0]
    · iexists _; isplitr; · ipureintro; exact harg13.read_unread _
      iexact HS0
    isplitl [HT0]; · iexact HT0
    isplitl [HT1]; · iexact HT1
    iexact HT2

end Cert.KernelIdeal.Gen

end
-- ==== Proof.KI.RunB1.lean ====
module

public import proofs.«01_k».proof.Proof.KI.RunB0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body run between the first point and the last, the block active: what it stores, as pieces, with the proof that it runs. -/
noncomputable def kernelRun_B1 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : ¬cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (xs0 : Vec F S960x3072 .f32) :
    Σ' (L7 : List (View.Piece (Elt F) S960x512 .fp8e5m2)), Σ' (L8 : List (View.Piece (Elt F) S960x3072 .bf16)), { LS0 : List (View.Piece (Elt F) S960x3072 .f32) //
      ∀ (xi8 : Vec F S960x3072 .bf16) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ owns (c : Thread nD τ) arg12 fullShare xi8 ∗ owns (c : Thread nD τ) arg13 fullShare xs0 ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f, arg11.view.loc (c : Thread nD τ) ↦[arg11.view.set]{fullShare} arg11.view.writes (Elt F) f L7) ∗ owns (c : Thread nD τ) arg12 fullShare xi8 ∗ (∃ f, arg13.view.loc (c : Thread nD τ) ↦[arg13.view.set]{fullShare} arg13.view.writes (Elt F) f LS0) ∗ tbPt0 c tbM0_0 xt0 ∗ tbPt0 c tbM0_1 xt1 ∗ tbPt0 c tbM0_2 xt2) -∗ K ⟨⟩))
          ⊢ wp frame (wpE (defs₀ (F := F)) Variants.none c none) E (cc0_bwd i tbM0_0 htbM0_0 tbM0_1 htbM0_1 tbM0_2 htbM0_2 arg4 harg4 arg5 harg5 arg6 harg6 arg7 harg7 arg8 harg8 arg9 harg9 arg10 harg10 arg11 harg11 arg12 harg12 arg13 harg13) K } := by
  refine ⟨?_, [], ?_, fun xi8 E K => ?run⟩
  case run =>
    simp only [cc0_bwd_eq_skeleton]; unfold cc0_bwd_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg12.eq_unread hf8; obtain rfl := harg13.eq_unread hfs0
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists _; iexact H7
    isplitl [H8]
    · iexists _; isplitr; · ipureintro; exact harg12.read_unread _
      iexact H8
    isplitl [HS0]; · iexists _; iexact HS0
    isplitl [HT0]; · iexact HT0
    isplitl [HT1]; · iexact HT1
    iexact HT2

end Cert.KernelIdeal.Gen

end
-- ==== Proof.KI.RunC0.lean ====
module

public import proofs.«01_k».proof.Proof.KI.RunB1

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body run at the last point, the block inactive: what it stores, as pieces, with the proof that it runs. -/
noncomputable def kernelRun_C0 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : ¬cond0_0 i) (hc1 : cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) (xs0 : Vec F S960x3072 .f32) :
    Σ' (L7 : List (View.Piece (Elt F) S960x512 .fp8e5m2)), Σ' (L8 : List (View.Piece (Elt F) S960x3072 .bf16)), { LS0 : List (View.Piece (Elt F) S960x3072 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ owns (c : Thread nD τ) arg13 fullShare xs0 ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f, arg11.view.loc (c : Thread nD τ) ↦[arg11.view.set]{fullShare} arg11.view.writes (Elt F) f L7) ∗ (∃ f, arg12.view.loc (c : Thread nD τ) ↦[arg12.view.set]{fullShare} arg12.view.writes (Elt F) f L8) ∗ owns (c : Thread nD τ) arg13 fullShare xs0 ∗ tbPt0 c tbM0_0 xt0 ∗ tbPt0 c tbM0_1 xt1 ∗ tbPt0 c tbM0_2 xt2) -∗ K ⟨⟩))
          ⊢ wp frame (wpE (defs₀ (F := F)) Variants.none c none) E (cc0_bwd i tbM0_0 htbM0_0 tbM0_1 htbM0_1 tbM0_2 htbM0_2 arg4 harg4 arg5 harg5 arg6 harg6 arg7 harg7 arg8 harg8 arg9 harg9 arg10 harg10 arg11 harg11 arg12 harg12 arg13 harg13) K } := by
  refine ⟨?_, ?_, [], fun E K => ?run⟩
  case run =>
    simp only [cc0_bwd_eq_skeleton]; unfold cc0_bwd_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg13.eq_unread hfs0
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists _; iexact H7
    isplitl [H8]; · iexists _; iexact H8
    isplitl [HS0]
    · iexists _; isplitr; · ipureintro; exact harg13.read_unread _
      iexact HS0
    isplitl [HT0]; · iexact HT0
    isplitl [HT1]; · iexact HT1
    iexact HT2

end Cert.KernelIdeal.Gen

end
-- ==== Proof.KI.RunC1.lean ====
module

public import proofs.«01_k».proof.Proof.KI.RunC0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body run at the last point, the block active: what it stores, as pieces, with the proof that it runs. -/
noncomputable def kernelRun_C1 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : ¬cond0_0 i) (hc1 : cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (xs0 : Vec F S960x3072 .f32) :
    Σ' (L7 : List (View.Piece (Elt F) S960x512 .fp8e5m2)), Σ' (L8 : List (View.Piece (Elt F) S960x3072 .bf16)), { LS0 : List (View.Piece (Elt F) S960x3072 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ owns (c : Thread nD τ) arg13 fullShare xs0 ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f, arg11.view.loc (c : Thread nD τ) ↦[arg11.view.set]{fullShare} arg11.view.writes (Elt F) f L7) ∗ (∃ f, arg12.view.loc (c : Thread nD τ) ↦[arg12.view.set]{fullShare} arg12.view.writes (Elt F) f L8) ∗ (∃ f, arg13.view.loc (c : Thread nD τ) ↦[arg13.view.set]{fullShare} arg13.view.writes (Elt F) f LS0) ∗ tbPt0 c tbM0_0 xt0 ∗ tbPt0 c tbM0_1 xt1 ∗ tbPt0 c tbM0_2 xt2) -∗ K ⟨⟩))
          ⊢ wp frame (wpE (defs₀ (F := F)) Variants.none c none) E (cc0_bwd i tbM0_0 htbM0_0 tbM0_1 htbM0_1 tbM0_2 htbM0_2 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_bwd_eq_skeleton]; unfold cc0_bwd_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg13.eq_unread hfs0
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists _; iexact H7
    isplitl [H8]; · iexists _; iexact H8
    isplitl [HS0]; · iexists _; iexact HS0
    isplitl [HT0]; · iexact HT0
    isplitl [HT1]; · iexact HT1
    iexact HT2

end Cert.KernelIdeal.Gen

end
-- ==== Proof.KI.Frame.lean ====
module

public import proofs.«01_k».proof.Proof.KI.RunC1
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Contents

variable (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole)
  (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole)

/-- At the first point, the block inactive: the stores cover the buffer. -/
theorem cover_A0_7 (hc0 : cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) (y : S960x512.Idx) :
    ∃ pc ∈ (kernelRun_A0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3).1, y ∈ pc.1.set :=
  View.cover_of_tiledL (kernelRun_A0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3).1 S960x512.size (by sl_kernel_rfl) y

/-- At the first point, the block inactive: what the body leaves in the block of the codes. -/
def out_A0_7 (hc0 : cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) : Vec F S960x512 .fp8e5m2 :=
  VO0_7.read (Elt F) (VO0_7.writes (Elt F) VO0_7.junk (kernelRun_A0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3).1)

/-- At the first point, the block inactive: the stores cover the buffer. -/
theorem scover_A0 (hc0 : cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) (y : S960x3072.Idx) :
    ∃ pc ∈ (kernelRun_A0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3).2.2.1, y ∈ pc.1.set :=
  View.cover_of_wholeMem (kernelRun_A0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3).2.2.1 (by sl_whole_mem) y

/-- At the first point, the block inactive: what the body leaves in the accumulator. -/
def sout_A0 (hc0 : cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) : Vec F S960x3072 .f32 :=
  VS0_0.read (Elt F) (VS0_0.writes (Elt F) VS0_0.junk (kernelRun_A0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3).2.2.1)

/-- At the first point, the block active: the stores cover the buffer. -/
theorem cover_A1_7 (hc0 : cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (y : S960x512.Idx) :
    ∃ pc ∈ (kernelRun_A1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3).1, y ∈ pc.1.set :=
  View.cover_of_tiledL (kernelRun_A1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3).1 S192x512.size (by sl_kernel_rfl) y

/-- At the first point, the block active: what the body leaves in the block of the codes. -/
def out_A1_7 (hc0 : cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) : Vec F S960x512 .fp8e5m2 :=
  VO0_7.read (Elt F) (VO0_7.writes (Elt F) VO0_7.junk (kernelRun_A1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3).1)

/-- At the first point, the block active: the stores cover the buffer. -/
theorem scover_A1 (hc0 : cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (y : S960x3072.Idx) :
    ∃ pc ∈ (kernelRun_A1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3).2.2.1, y ∈ pc.1.set :=
  View.cover_of_wholeMem (kernelRun_A1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3).2.2.1 (by sl_whole_mem) y

/-- At the first point, the block active: what the body leaves in the accumulator. -/
def sout_A1 (hc0 : cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) : Vec F S960x3072 .f32 :=
  VS0_0.read (Elt F) (VS0_0.writes (Elt F) VS0_0.junk (kernelRun_A1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3).2.2.1)

/-- At a middle point, the block inactive: the stores cover the buffer. -/
theorem cover_B0_7 (hc0 : ¬cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) (xs0 : Vec F S960x3072 .f32) (y : S960x512.Idx) :
    ∃ pc ∈ (kernelRun_B0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).1, y ∈ pc.1.set :=
  View.cover_of_tiledL (kernelRun_B0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).1 S960x512.size (by sl_kernel_rfl) y

/-- At a middle point, the block inactive: what the body leaves in the block of the codes. -/
def out_B0_7 (hc0 : ¬cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) (xs0 : Vec F S960x3072 .f32) : Vec F S960x512 .fp8e5m2 :=
  VO0_7.read (Elt F) (VO0_7.writes (Elt F) VO0_7.junk (kernelRun_B0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).1)

/-- At a middle point, the block active: the stores cover the buffer. -/
theorem cover_B1_7 (hc0 : ¬cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (xs0 : Vec F S960x3072 .f32) (y : S960x512.Idx) :
    ∃ pc ∈ (kernelRun_B1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).1, y ∈ pc.1.set :=
  View.cover_of_tiledL (kernelRun_B1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).1 S192x512.size (by sl_kernel_rfl) y

/-- At a middle point, the block active: what the body leaves in the block of the codes. -/
def out_B1_7 (hc0 : ¬cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (xs0 : Vec F S960x3072 .f32) : Vec F S960x512 .fp8e5m2 :=
  VO0_7.read (Elt F) (VO0_7.writes (Elt F) VO0_7.junk (kernelRun_B1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).1)

/-- At a middle point, the block active: the stores cover the buffer. -/
theorem scover_B1 (hc0 : ¬cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (xs0 : Vec F S960x3072 .f32) (y : S960x3072.Idx) :
    ∃ pc ∈ (kernelRun_B1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).2.2.1, y ∈ pc.1.set :=
  View.cover_of_tiledL (kernelRun_B1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).2.2.1 S192x3072.size (by sl_kernel_rfl) y

/-- At a middle point, the block active: what the body leaves in the accumulator. -/
def sout_B1 (hc0 : ¬cond0_0 i) (hc1 : ¬cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (xs0 : Vec F S960x3072 .f32) : Vec F S960x3072 .f32 :=
  VS0_0.read (Elt F) (VS0_0.writes (Elt F) VS0_0.junk (kernelRun_B1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).2.2.1)

/-- At the last point, the block inactive: the stores cover the buffer. -/
theorem cover_C0_7 (hc0 : ¬cond0_0 i) (hc1 : cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) (xs0 : Vec F S960x3072 .f32) (y : S960x512.Idx) :
    ∃ pc ∈ (kernelRun_C0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).1, y ∈ pc.1.set :=
  View.cover_of_tiledL (kernelRun_C0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).1 S960x512.size (by sl_kernel_rfl) y

/-- At the last point, the block inactive: what the body leaves in the block of the codes. -/
def out_C0_7 (hc0 : ¬cond0_0 i) (hc1 : cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) (xs0 : Vec F S960x3072 .f32) : Vec F S960x512 .fp8e5m2 :=
  VO0_7.read (Elt F) (VO0_7.writes (Elt F) VO0_7.junk (kernelRun_C0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).1)

/-- At the last point, the block inactive: the stores cover the buffer. -/
theorem cover_C0_8 (hc0 : ¬cond0_0 i) (hc1 : cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) (xs0 : Vec F S960x3072 .f32) (y : S960x3072.Idx) :
    ∃ pc ∈ (kernelRun_C0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).2.1, y ∈ pc.1.set :=
  View.cover_of_tiledL (kernelRun_C0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).2.1 S960x3072.size (by sl_kernel_rfl) y

/-- At the last point, the block inactive: what the body leaves in the block of the gradient. -/
def out_C0_8 (hc0 : ¬cond0_0 i) (hc1 : cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : k0_cond2 (actw c xt1 i) = 1#1) (hc3 : ¬k0_cond3 (actw c xt1 i) = 1#1) (xs0 : Vec F S960x3072 .f32) : Vec F S960x3072 .bf16 :=
  VO0_8.read (Elt F) (VO0_8.writes (Elt F) VO0_8.junk (kernelRun_C0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).2.1)

/-- At the last point, the block active: the stores cover the buffer. -/
theorem cover_C1_7 (hc0 : ¬cond0_0 i) (hc1 : cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (xs0 : Vec F S960x3072 .f32) (y : S960x512.Idx) :
    ∃ pc ∈ (kernelRun_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).1, y ∈ pc.1.set :=
  View.cover_of_tiledL (kernelRun_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).1 S192x512.size (by sl_kernel_rfl) y

/-- At the last point, the block active: what the body leaves in the block of the codes. -/
def out_C1_7 (hc0 : ¬cond0_0 i) (hc1 : cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (xs0 : Vec F S960x3072 .f32) : Vec F S960x512 .fp8e5m2 :=
  VO0_7.read (Elt F) (VO0_7.writes (Elt F) VO0_7.junk (kernelRun_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).1)

/-- At the last point, the block active: the stores cover the buffer. -/
theorem cover_C1_8 (hc0 : ¬cond0_0 i) (hc1 : cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (xs0 : Vec F S960x3072 .f32) (y : S960x3072.Idx) :
    ∃ pc ∈ (kernelRun_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).2.1, y ∈ pc.1.set :=
  View.cover_of_tiledL (kernelRun_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).2.1 S960x3072.size (by sl_kernel_rfl) y

/-- At the last point, the block active: what the body leaves in the block of the gradient. -/
def out_C1_8 (hc0 : ¬cond0_0 i) (hc1 : cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (xs0 : Vec F S960x3072 .f32) : Vec F S960x3072 .bf16 :=
  VO0_8.read (Elt F) (VO0_8.writes (Elt F) VO0_8.junk (kernelRun_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).2.1)

/-- At the last point, the block active: the stores cover the buffer. -/
theorem scover_C1 (hc0 : ¬cond0_0 i) (hc1 : cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (xs0 : Vec F S960x3072 .f32) (y : S960x3072.Idx) :
    ∃ pc ∈ (kernelRun_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).2.2.1, y ∈ pc.1.set :=
  View.cover_of_tiledL (kernelRun_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).2.2.1 S192x3072.size (by sl_kernel_rfl) y

/-- At the last point, the block active: what the body leaves in the accumulator. -/
def sout_C1 (hc0 : ¬cond0_0 i) (hc1 : cond0_1 i)
    (x0 : Vec F S1x960x512 .f32) (x1 : Vec F S512x3072 .fp8e4m3) (x2 : Vec F S1x1x512 .f32) (x3 : Vec F S960x1 .i32) (x4 : Vec F S960x1 .f32) (x5 : Vec F S960x1 .f32) (x6 : Vec F S960x1 .f32) (xt0 : TbBuf0 (F := F) c tbM0_0) (xt1 : TbBuf0 (F := F) c tbM0_1) (xt2 : TbBuf0 (F := F) c tbM0_2) (hc2 : ¬k0_cond2 (actw c xt1 i) = 1#1) (hc3 : k0_cond3 (actw c xt1 i) = 1#1) (xs0 : Vec F S960x3072 .f32) : Vec F S960x3072 .f32 :=
  VS0_0.read (Elt F) (VS0_0.writes (Elt F) VS0_0.junk (kernelRun_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0).2.2.1)

end Contents

/-! ## What the outputs hold after each point -/

/-- The placeholder for the gradient's block at a point that does not store it. -/
def junk8 : Vec F S960x3072 .bf16 := VO0_8.read (Elt F) VO0_8.junk

/-- The activity word at the point `t`. -/
abbrev act_at (c : Dev nD) (t : Fin grid0.N) : BitVec 32 := actw c (tbl m 1) (grid0.coords t)

/-- At an inactive block the zeroing condition holds. -/
theorem act_off {w : BitVec 32} (h : ¬k0_cond3 w = 1#1) : k0_cond2 w = 1#1 := (cond_act w).2 h
/-- At an active block it does not. -/
theorem act_on {w : BitVec 32} (h : k0_cond3 w = 1#1) : ¬k0_cond2 w = 1#1 := fun h2 => (cond_act w).1 h2 h

/-- What the first point leaves, the block inactive: the codes' block, the gradient's block, the accumulator. -/
def tup_A0 (hO : Ok m) (c : Dev nD) (t : Fin (cfgM m hO).N) (hc0 : cond0_0 (grid0.coords t)) (hc1 : ¬cond0_1 (grid0.coords t)) (hc3 : ¬k0_cond3 (act_at m c t) = 1#1) :
    Vec F S960x512 .fp8e5m2 × Vec F S960x3072 .bf16 × Vec F S960x3072 .f32 :=
  (out_A0_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_off hc3) hc3, junk8, sout_A0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_off hc3) hc3)

/-- What the first point leaves, the block active: the codes' block, the gradient's block, the accumulator. -/
def tup_A1 (hO : Ok m) (c : Dev nD) (t : Fin (cfgM m hO).N) (hc0 : cond0_0 (grid0.coords t)) (hc1 : ¬cond0_1 (grid0.coords t)) (hc3 : k0_cond3 (act_at m c t) = 1#1) :
    Vec F S960x512 .fp8e5m2 × Vec F S960x3072 .bf16 × Vec F S960x3072 .f32 :=
  (out_A1_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_on hc3) hc3, junk8, sout_A1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_on hc3) hc3)

/-- What a middle point leaves, the block inactive: the codes' block, the gradient's block, the accumulator. -/
def tup_B0 (hO : Ok m) (c : Dev nD) (t : Fin (cfgM m hO).N) (hc0 : ¬cond0_0 (grid0.coords t)) (hc1 : ¬cond0_1 (grid0.coords t)) (hc3 : ¬k0_cond3 (act_at m c t) = 1#1) (prev : Vec F S960x3072 .f32) :
    Vec F S960x512 .fp8e5m2 × Vec F S960x3072 .bf16 × Vec F S960x3072 .f32 :=
  (out_B0_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_off hc3) hc3 prev, junk8, prev)

/-- What a middle point leaves, the block active: the codes' block, the gradient's block, the accumulator. -/
def tup_B1 (hO : Ok m) (c : Dev nD) (t : Fin (cfgM m hO).N) (hc0 : ¬cond0_0 (grid0.coords t)) (hc1 : ¬cond0_1 (grid0.coords t)) (hc3 : k0_cond3 (act_at m c t) = 1#1) (prev : Vec F S960x3072 .f32) :
    Vec F S960x512 .fp8e5m2 × Vec F S960x3072 .bf16 × Vec F S960x3072 .f32 :=
  (out_B1_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_on hc3) hc3 prev, junk8, sout_B1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_on hc3) hc3 prev)

/-- What the last point leaves, the block inactive: the codes' block, the gradient's block, the accumulator. -/
def tup_C0 (hO : Ok m) (c : Dev nD) (t : Fin (cfgM m hO).N) (hc0 : ¬cond0_0 (grid0.coords t)) (hc1 : cond0_1 (grid0.coords t)) (hc3 : ¬k0_cond3 (act_at m c t) = 1#1) (prev : Vec F S960x3072 .f32) :
    Vec F S960x512 .fp8e5m2 × Vec F S960x3072 .bf16 × Vec F S960x3072 .f32 :=
  (out_C0_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_off hc3) hc3 prev, out_C0_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_off hc3) hc3 prev, prev)

/-- What the last point leaves, the block active: the codes' block, the gradient's block, the accumulator. -/
def tup_C1 (hO : Ok m) (c : Dev nD) (t : Fin (cfgM m hO).N) (hc0 : ¬cond0_0 (grid0.coords t)) (hc1 : cond0_1 (grid0.coords t)) (hc3 : k0_cond3 (act_at m c t) = 1#1) (prev : Vec F S960x3072 .f32) :
    Vec F S960x512 .fp8e5m2 × Vec F S960x3072 .bf16 × Vec F S960x3072 .f32 :=
  (out_C1_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_on hc3) hc3 prev, out_C1_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_on hc3) hc3 prev, sout_C1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_on hc3) hc3 prev)

/-- The first point is not the last. -/
theorem not_last_of_first (t : Fin grid0.N) (h : cond0_0 (grid0.coords t)) : ¬cond0_1 (grid0.coords t) := fun h' => by
  have a := (hcond0_0 t).mp h; have b := (hcond0_1 t).mp h'; omega

open Classical in
/-- One point's step: what the body leaves over the accumulator `prev` that the point before left. -/
def stepAt (hO : Ok m) (c : Dev nD) (t : Fin (cfgM m hO).N) (prev : Vec F S960x3072 .f32) : Vec F S960x512 .fp8e5m2 × Vec F S960x3072 .bf16 × Vec F S960x3072 .f32 :=
  if h0 : cond0_0 (grid0.coords t) then
    if h3 : k0_cond3 (act_at m c t) = 1#1 then tup_A1 m hO c t h0 (not_last_of_first t h0) h3 else tup_A0 m hO c t h0 (not_last_of_first t h0) h3
  else if h1 : cond0_1 (grid0.coords t) then
    if h3 : k0_cond3 (act_at m c t) = 1#1 then tup_C1 m hO c t h0 h1 h3 prev else tup_C0 m hO c t h0 h1 h3 prev
  else
    if h3 : k0_cond3 (act_at m c t) = 1#1 then tup_B1 m hO c t h0 h1 h3 prev else tup_B0 m hO c t h0 h1 h3 prev

/-- What the outputs and the accumulator hold after the body at position `n`. -/
def outsAt0 (hO : Ok m) (c : Dev nD) : (n : ℕ) → n < (cfgM m hO).N → Vec F S960x512 .fp8e5m2 × Vec F S960x3072 .bf16 × Vec F S960x3072 .f32
  | 0, hn => stepAt m hO c ⟨0, hn⟩ (VS0_0.read (Elt F) VS0_0.junk)
  | n + 1, hn => stepAt m hO c ⟨n + 1, hn⟩ (outsAt0 hO c n (Nat.lt_of_succ_lt hn)).2.2

/-- `outsAt0` at the first point, the block inactive. -/
theorem outsAt0_A0 (hO : Ok m) (c : Dev nD) (t : Fin (cfgM m hO).N) (hc0 : cond0_0 (grid0.coords t)) (hc1 : ¬cond0_1 (grid0.coords t)) (hc3 : ¬k0_cond3 (act_at m c t) = 1#1) :
    outsAt0 m hO c t.val t.isLt = tup_A0 m hO c t hc0 hc1 hc3 := by
  obtain ⟨n, hn⟩ := t
  cases n with
  | zero => exact (show stepAt m hO c _ _ = _ by unfold stepAt; rw [dif_pos hc0, dif_neg hc3])
  | succ n => exact (show stepAt m hO c _ _ = _ by unfold stepAt; rw [dif_pos hc0, dif_neg hc3])

/-- `outsAt0` at the first point, the block active. -/
theorem outsAt0_A1 (hO : Ok m) (c : Dev nD) (t : Fin (cfgM m hO).N) (hc0 : cond0_0 (grid0.coords t)) (hc1 : ¬cond0_1 (grid0.coords t)) (hc3 : k0_cond3 (act_at m c t) = 1#1) :
    outsAt0 m hO c t.val t.isLt = tup_A1 m hO c t hc0 hc1 hc3 := by
  obtain ⟨n, hn⟩ := t
  cases n with
  | zero => exact (show stepAt m hO c _ _ = _ by unfold stepAt; rw [dif_pos hc0, dif_pos hc3])
  | succ n => exact (show stepAt m hO c _ _ = _ by unfold stepAt; rw [dif_pos hc0, dif_pos hc3])

/-- `outsAt0` at a middle point, the block inactive. -/
theorem outsAt0_B0 (hO : Ok m) (c : Dev nD) (t : Fin (cfgM m hO).N) (hc0 : ¬cond0_0 (grid0.coords t)) (hc1 : ¬cond0_1 (grid0.coords t)) (hc3 : ¬k0_cond3 (act_at m c t) = 1#1) :
    outsAt0 m hO c t.val t.isLt = tup_B0 m hO c t hc0 hc1 hc3 (outsAt0 m hO c (t.val - 1) (by omega)).2.2 := by
  obtain ⟨n, hn⟩ := t
  cases n with
  | zero => exact absurd ((hcond0_0 ⟨0, hn⟩).mpr (Nat.zero_mod _)) hc0
  | succ n => exact (show stepAt m hO c _ _ = _ by unfold stepAt; rw [dif_neg hc0, dif_neg hc1, dif_neg hc3]; rfl)

/-- `outsAt0` at a middle point, the block active. -/
theorem outsAt0_B1 (hO : Ok m) (c : Dev nD) (t : Fin (cfgM m hO).N) (hc0 : ¬cond0_0 (grid0.coords t)) (hc1 : ¬cond0_1 (grid0.coords t)) (hc3 : k0_cond3 (act_at m c t) = 1#1) :
    outsAt0 m hO c t.val t.isLt = tup_B1 m hO c t hc0 hc1 hc3 (outsAt0 m hO c (t.val - 1) (by omega)).2.2 := by
  obtain ⟨n, hn⟩ := t
  cases n with
  | zero => exact absurd ((hcond0_0 ⟨0, hn⟩).mpr (Nat.zero_mod _)) hc0
  | succ n => exact (show stepAt m hO c _ _ = _ by unfold stepAt; rw [dif_neg hc0, dif_neg hc1, dif_pos hc3]; rfl)

/-- `outsAt0` at the last point, the block inactive. -/
theorem outsAt0_C0 (hO : Ok m) (c : Dev nD) (t : Fin (cfgM m hO).N) (hc0 : ¬cond0_0 (grid0.coords t)) (hc1 : cond0_1 (grid0.coords t)) (hc3 : ¬k0_cond3 (act_at m c t) = 1#1) :
    outsAt0 m hO c t.val t.isLt = tup_C0 m hO c t hc0 hc1 hc3 (outsAt0 m hO c (t.val - 1) (by omega)).2.2 := by
  obtain ⟨n, hn⟩ := t
  cases n with
  | zero => exact absurd ((hcond0_0 ⟨0, hn⟩).mpr (Nat.zero_mod _)) hc0
  | succ n => exact (show stepAt m hO c _ _ = _ by unfold stepAt; rw [dif_neg hc0, dif_pos hc1, dif_neg hc3]; rfl)

/-- `outsAt0` at the last point, the block active. -/
theorem outsAt0_C1 (hO : Ok m) (c : Dev nD) (t : Fin (cfgM m hO).N) (hc0 : ¬cond0_0 (grid0.coords t)) (hc1 : cond0_1 (grid0.coords t)) (hc3 : k0_cond3 (act_at m c t) = 1#1) :
    outsAt0 m hO c t.val t.isLt = tup_C1 m hO c t hc0 hc1 hc3 (outsAt0 m hO c (t.val - 1) (by omega)).2.2 := by
  obtain ⟨n, hn⟩ := t
  cases n with
  | zero => exact absurd ((hcond0_0 ⟨0, hn⟩).mpr (Nat.zero_mod _)) hc0
  | succ n => exact (show stepAt m hO c _ _ = _ by unfold stepAt; rw [dif_neg hc0, dif_pos hc1, dif_pos hc3]; rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => (outsAt0 m hO c t.val t.isLt).1
    | ⟨8, _⟩ => (outsAt0 m hO c t.val t.isLt).2.1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = (outsAt0 m hO c t.val t.isLt).1 := by dsimp only [dats]; try rfl
theorem after0_8 (hO : Ok m) (c : Dev nD) (t : Fin (cfgM m hO).N) : (dats m hO 0 c).after 8 t = (outsAt0 m hO c t.val t.isLt).2.1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t)

set_option maxHeartbeats 9600000 in
/-- The body at any point: the inputs hold their blocks, the run of the point's case applies, the invariant hands the body the accumulator and takes it back. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 251 := lt_of_lt_of_eq t.isLt (show (cfgM m hO).N = 251 from N_0)
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  by_cases hc0 : cond0_0 (grid0.coords t)
  · have hc1 := not_last_of_first t hc0
    have hz : t.val = 0 := by have := (hcond0_0 t).mp hc0; omega
    rw [Dat.leavesExact_idle (dats m hO 0 c) 8 t (idleAt0_8 m hO t hc1) (noFlush0_8 m hO t hc1)]
    rw [PhiS_castSucc m hO c t, PhiS_zero m hO c _ _ hz, PhiT0_eq, PhiA0_eq]
    by_cases hc3 : k0_cond3 (act_at m c t) = 1#1
    · rw [outsAt0_A1 m hO c t hc0 hc1 hc3]
      unfold tup_A1 out_A1_7 sout_A1; (try dsimp only)
      iintro ⟨⟨⟨HS0, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun_A1 c (grid0.coords t) _ _ _ _ _ _ _ _ _ _ _ _ _ _ _ _ _ _ _ _  hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_on hc3) hc3).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS0]; · iexact HS0
      isplitl [HT0]; · iexact HT0
      isplitl [HT1]; · iexact HT1
      isplitl [HT2]; · iexact HT2
      iintro ⟨H0, H1, H2, H3, H4, H5, H6, ⟨%e7, H7⟩, H8, ⟨%es0, HS0⟩, HT0, HT1, HT2⟩
      isplitl [HS0 Hg HT0 HT1 HT2]
      · isplitl [HS0 Hg]
        · isplitl [HS0]
          · unfold owns; iexists _; isplitr
            swap; · iexact HS0
            ipureintro; exact View.read_writes_of_cover _ _ _ _ _ (scover_A1 c (grid0.coords t) _ _ _ _ _ _ _ _ _ _ _ _ _ _ _ _ _ _ _ _  hc0 hc1 _ _ _ _ _ _ _ _ _ _  _ hc3)
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover_A1_7 c (grid0.coords t) _ _ _ _ _ _ _ _ _ _ _ _ _ _ _ _ _ _ _ _  hc0 hc1 _ _ _ _ _ _ _ _ _ _  _ hc3)
      iexists _; iexact H8
    · rw [outsAt0_A0 m hO c t hc0 hc1 hc3]
      unfold tup_A0 out_A0_7 sout_A0; (try dsimp only)
      iintro ⟨⟨⟨HS0, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun_A0 c (grid0.coords t) _ _ _ _ _ _ _ _ _ _ _ _ _ _ _ _ _ _ _ _  hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_off hc3) hc3).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS0]; · iexact HS0
      isplitl [HT0]; · iexact HT0
      isplitl [HT1]; · iexact HT1
      isplitl [HT2]; · iexact HT2
      iintro ⟨H0, H1, H2, H3, H4, H5, H6, ⟨%e7, H7⟩, H8, ⟨%es0, HS0⟩, HT0, HT1, HT2⟩
      isplitl [HS0 Hg HT0 HT1 HT2]
      · isplitl [HS0 Hg]
        · isplitl [HS0]
          · unfold owns; iexists _; isplitr
            swap; · iexact HS0
            ipureintro; exact View.read_writes_of_cover _ _ _ _ _ (scover_A0 c (grid0.coords t) _ _ _ _ _ _ _ _ _ _ _ _ _ _ _ _ _ _ _ _  hc0 hc1 _ _ _ _ _ _ _ _ _ _  _ hc3)
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover_A0_7 c (grid0.coords t) _ _ _ _ _ _ _ _ _ _ _ _ _ _ _ _ _ _ _ _  hc0 hc1 _ _ _ _ _ _ _ _ _ _  _ hc3)
      iexists _; iexact H8
  · have hz : t.val ≠ 0 := fun h => hc0 ((hcond0_0 t).mpr (by omega))
    rw [PhiS_castSucc m hO c t, PhiS_pos m hO c _ _ hz, PhiT0_eq]
    by_cases hc1 : cond0_1 (grid0.coords t)
    · rw [show (dats m hO 0 c).leavesExact 8 t = owns (c : Thread nD τ) (ms0_8 m hO t) fullShare ((dats m hO 0 c).after 8 t) from by
        unfold Dat.leavesExact; rw [liveAt0_8 m hO t hc1]; try rfl, after0_8]
      by_cases hc3 : k0_cond3 (act_at m c t) = 1#1
      · rw [outsAt0_C1 m hO c t hc0 hc1 hc3]
        unfold tup_C1 out_C1_7 out_C1_8 sout_C1; (try dsimp only)
        iintro ⟨⟨⟨HS0, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun_C1 c (grid0.coords t) _ _ _ _ _ _ _ _ _ _ _ _ _ _ _ _ _ _ _ _  hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_on hc3) hc3 _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HT0]; · iexact HT0
        isplitl [HT1]; · iexact HT1
        isplitl [HT2]; · iexact HT2
        iintro ⟨H0, H1, H2, H3, H4, H5, H6, ⟨%e7, H7⟩, ⟨%e8, H8⟩, ⟨%es0, HS0⟩, HT0, HT1, HT2⟩
        isplitl [HS0 Hg HT0 HT1 HT2]
        · isplitl [HS0 Hg]
          · isplitl [HS0]
            · unfold owns; iexists _; isplitr
              swap; · iexact HS0
              ipureintro; exact View.read_writes_of_cover _ _ _ _ _ (scover_C1 c (grid0.coords t) _ _ _ _ _ _ _ _ _ _ _ _ _ _ _ _ _ _ _ _  hc0 hc1 _ _ _ _ _ _ _ _ _ _  _ hc3 _)
            iexact Hg
          isplitl [HT0]; · iexact HT0
          isplitl [HT1]; · iexact HT1
          iexact HT2
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover_C1_7 c (grid0.coords t) _ _ _ _ _ _ _ _ _ _ _ _ _ _ _ _ _ _ _ _  hc0 hc1 _ _ _ _ _ _ _ _ _ _  _ hc3 _)
        unfold owns; iexists _; isplitr
        swap; · iexact H8
        ipureintro; exact View.read_writes_of_cover _ _ _ _ _ (cover_C1_8 c (grid0.coords t) _ _ _ _ _ _ _ _ _ _ _ _ _ _ _ _ _ _ _ _  hc0 hc1 _ _ _ _ _ _ _ _ _ _  _ hc3 _)
      · rw [outsAt0_C0 m hO c t hc0 hc1 hc3]
        unfold tup_C0 out_C0_7 out_C0_8; (try dsimp only)
        iintro ⟨⟨⟨HS0, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun_C0 c (grid0.coords t) _ _ _ _ _ _ _ _ _ _ _ _ _ _ _ _ _ _ _ _  hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_off hc3) hc3 _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HT0]; · iexact HT0
        isplitl [HT1]; · iexact HT1
        isplitl [HT2]; · iexact HT2
        iintro ⟨H0, H1, H2, H3, H4, H5, H6, ⟨%e7, H7⟩, ⟨%e8, H8⟩, HS0, HT0, HT1, HT2⟩
        isplitl [HS0 Hg HT0 HT1 HT2]
        · isplitl [HS0 Hg]
          · isplitl [HS0]
            · iexact HS0
            iexact Hg
          isplitl [HT0]; · iexact HT0
          isplitl [HT1]; · iexact HT1
          iexact HT2
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover_C0_7 c (grid0.coords t) _ _ _ _ _ _ _ _ _ _ _ _ _ _ _ _ _ _ _ _  hc0 hc1 _ _ _ _ _ _ _ _ _ _  _ hc3 _)
        unfold owns; iexists _; isplitr
        swap; · iexact H8
        ipureintro; exact View.read_writes_of_cover _ _ _ _ _ (cover_C0_8 c (grid0.coords t) _ _ _ _ _ _ _ _ _ _ _ _ _ _ _ _ _ _ _ _  hc0 hc1 _ _ _ _ _ _ _ _ _ _  _ hc3 _)
    · rw [Dat.leavesExact_idle (dats m hO 0 c) 8 t (idleAt0_8 m hO t hc1) (noFlush0_8 m hO t hc1)]
      by_cases hc3 : k0_cond3 (act_at m c t) = 1#1
      · rw [outsAt0_B1 m hO c t hc0 hc1 hc3]
        unfold tup_B1 out_B1_7 sout_B1; (try dsimp only)
        iintro ⟨⟨⟨HS0, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun_B1 c (grid0.coords t) _ _ _ _ _ _ _ _ _ _ _ _ _ _ _ _ _ _ _ _  hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_on hc3) hc3 _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        isplitl [HT0]; · iexact HT0
        isplitl [HT1]; · iexact HT1
        isplitl [HT2]; · iexact HT2
        iintro ⟨H0, H1, H2, H3, H4, H5, H6, ⟨%e7, H7⟩, H8, ⟨%es0, HS0⟩, HT0, HT1, HT2⟩
        isplitl [HS0 Hg HT0 HT1 HT2]
        · isplitl [HS0 Hg]
          · isplitl [HS0]
            · unfold owns; iexists _; isplitr
              swap; · iexact HS0
              ipureintro; exact View.read_writes_of_cover _ _ _ _ _ (scover_B1 c (grid0.coords t) _ _ _ _ _ _ _ _ _ _ _ _ _ _ _ _ _ _ _ _  hc0 hc1 _ _ _ _ _ _ _ _ _ _  _ hc3 _)
            iexact Hg
          isplitl [HT0]; · iexact HT0
          isplitl [HT1]; · iexact HT1
          iexact HT2
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover_B1_7 c (grid0.coords t) _ _ _ _ _ _ _ _ _ _ _ _ _ _ _ _ _ _ _ _  hc0 hc1 _ _ _ _ _ _ _ _ _ _  _ hc3 _)
        iexists _; iexact H8
      · rw [outsAt0_B0 m hO c t hc0 hc1 hc3]
        unfold tup_B0 out_B0_7; (try dsimp only)
        iintro ⟨⟨⟨HS0, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun_B0 c (grid0.coords t) _ _ _ _ _ _ _ _ _ _ _ _ _ _ _ _ _ _ _ _  hc0 hc1 (iblk m hO c 0 t) (iblk m hO c 1 t) (iblk m hO c 2 t) (iblk m hO c 3 t) (iblk m hO c 4 t) (iblk m hO c 5 t) (iblk m hO c 6 t) (tbl m 0) (tbl m 1) (tbl m 2) (act_off hc3) hc3 _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        isplitl [HT0]; · iexact HT0
        isplitl [HT1]; · iexact HT1
        isplitl [HT2]; · iexact HT2
        iintro ⟨H0, H1, H2, H3, H4, H5, H6, ⟨%e7, H7⟩, H8, HS0, HT0, HT1, HT2⟩
        isplitl [HS0 Hg HT0 HT1 HT2]
        · isplitl [HS0 Hg]
          · isplitl [HS0]
            · iexact HS0
            iexact Hg
          isplitl [HT0]; · iexact HT0
          isplitl [HT1]; · iexact HT1
          iexact HT2
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover_B0_7 c (grid0.coords t) _ _ _ _ _ _ _ _ _ _ _ _ _ _ _ _ _ _ _ _  hc0 hc1 _ _ _ _ _ _ _ _ _ _  _ hc3 _)
        iexists _; iexact H8

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 251 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ hO (dats m hO) (A_eq m hO) (run_main m ρ hO)

/-- The frame: the program terminates, its argument arrays and semaphore counters end as required. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ hO) ((θ_run defs _ _).mono (fun _ h => h.2) (run_main_quiescent m ρ hO))

end Cert.KernelIdeal.Gen

end
-- ==== Proof.KI.Ok.lean ====
/- The pipeline's side condition of the tables, from the tables' range. -/
module

public import proofs.«01_k».proof.Proof.KI.Runs
public import Idealize.ShloMosaic.Lib.Affine

@[expose] public section

set_option maxRecDepth 16384

namespace Cert.KernelIdeal.Gen

open Idealize.ShloMosaic Idealize.ShloMosaic.TcCoe

variable {F : FTy → Type} [FloatOps F]
variable (m : (ℓ : Loc nD τ sig) → Buf (Elt F) ℓ)

/-- A block number below 251 names a block of the logits, -/
theorem inb_lg (n : Nat) (h : n < 251) : ∀ a, (![n, 0, 0] a + 1) * S1x960x512.size a ≤ S251x960x512.size a := by
  intro a
  fin_cases a
  · show (n + 1) * 1 ≤ 251; omega
  · show (0 + 1) * 960 ≤ 960; omega
  · show (0 + 1) * 512 ≤ 512; omega

/-- of the weights, -/
theorem inb_w (n : Nat) (h : n < 251) : ∀ a, (![n, 0] a + 1) * S512x3072.size a ≤ S128512x3072.size a := by
  intro a
  fin_cases a
  · show (n + 1) * 512 ≤ 128512; omega
  · show (0 + 1) * 3072 ≤ 3072; omega

/-- and of the scales. -/
theorem inb_ws (n : Nat) (h : n < 251) : ∀ a, (![n, 0, 0] a + 1) * S1x1x512.size a ≤ S251x1x512.size a := by
  intro a
  fin_cases a
  · show (n + 1) * 1 ≤ 251; omega
  · show (0 + 1) * 1 ≤ 1; omega
  · show (0 + 1) * 512 ≤ 512; omega

/-- A block of the weights starts and ends at whole words. -/
theorem words_w (n : Nat) (h : ∀ a, (![n, 0] a + 1) * S512x3072.size a ≤ S128512x3072.size a) :
    (Rect.block (s := S128512x3072) S512x3072.size ![n, 0] h).WholeWords (EltTy.packing .fp8e4m3) := by
  exact Affine.block_words_dvd (of_decide_eq_true rfl) (by decide)

/-- Tables in range: the pipeline's side condition. -/
theorem ok_of (h0 : ∀ j, (tbl m 0 j : BitVec 32).toNat < 251) (h2 : ∀ j, (tbl m 2 j : BitVec 32).toNat < 251) : Ok m := by
  refine ⟨fun i => ⟨inb_lg _ (h0 _), .inl rfl⟩, fun i => ⟨inb_w _ (h2 _), .inr (words_w _ _)⟩, fun i => ⟨inb_ws _ (h2 _), .inl rfl⟩⟩

end Cert.KernelIdeal.Gen
-- ==== Proof.KI.Pay.lean ====
/- What the body's payloads compute, element by element, over the reals. -/
module

public import proofs.«01_k».proof.Proof.Gen.KernelIdeal.Skeleton
public import Idealize.ShloMosaic.Lib.Pointwise

@[expose] public section

set_option maxRecDepth 16384

noncomputable section

namespace Cert.KernelIdeal.Gen

open Idealize.ShloMosaic Idealize.ShloMosaic.TcCoe Idealize.SL.Sem

/-- The code at lane `l` of block `b`: the clipped, scaled difference of the probability and the one-hot target; 0 where the
    inverse scale is 0. -/
def code (b : BitVec 32) (t : BitVec 32) (l : Fin 512) (lg lse inv : EReal) : EReal :=
  if inv = 0 then 0
  else min (Ideal.ofBits FTy.f32 0x47600000#32) (max (Ideal.ofBits FTy.f32 0xC7600000#32)
    ((Ideal.exp (lg - lse) -
      Scalar.select (IntOp.cmpi CmpIPredicate.eq (BitVec.ofNat 32 l.val) (IntOp.subi t (Scalar.muli b 512#32))) (1 : EReal) 0) * inv))

/-- A weight at row `k` of block `b`: 0 past the vocabulary's end. -/
def wmask (b : BitVec 32) (k : Fin 512) (w : EReal) : EReal :=
  Scalar.select (IntOp.andi (Scalar.cmpi CmpIPredicate.eq b 250#32) (IntOp.cmpi CmpIPredicate.sge (BitVec.ofNat 32 k.val) 256#32)) 0 w

section Codes

variable (b : BitVec 32) (t : Vec Ideal S192x1 .i32) (lg : FVec Ideal S1x192x512 .f32) (lse inv : FVec Ideal S192x1 .f32)

/-- The five row chunks' codes. -/
theorem code_1 (r : Fin 192) (l : Fin 512) :
    k0_pay7 (k0_pay6 b t lg lse inv) (ix2 r l) = code b (t (ix2 r 0)) l (lg (ix3 0 r l)) (lse (ix2 r 0)) (inv (ix2 r 0)) := by
  pointwise! [k0_pay7, k0_pay6, code]

theorem code_2 (r : Fin 192) (l : Fin 512) :
    k0_pay10 inv (k0_pay9 b t lg lse inv) (Ideal.ofBits FTy.f32 0xC7600000#32) (Ideal.ofBits FTy.f32 0x47600000#32) (ix2 r l)
      = code b (t (ix2 r 0)) l (lg (ix3 0 r l)) (lse (ix2 r 0)) (inv (ix2 r 0)) := by
  pointwise! [k0_pay10, k0_pay9, code]

theorem code_3 (r : Fin 192) (l : Fin 512) :
    k0_pay14 (k0_pay12 lg lse) (k0_pay13 b t) (Ideal.ofBits FTy.f32 0x3F800000#32) inv (ix2 r l)
      = code b (t (ix2 r 0)) l (lg (ix3 0 r l)) (lse (ix2 r 0)) (inv (ix2 r 0)) := by
  pointwise! [k0_pay14, k0_pay12, k0_pay13, code]

theorem code_4 (r : Fin 192) (l : Fin 512) :
    k0_pay17 (F := Ideal) (iota .tc S192x512 32 [1] iota_S192x512_d1_w32) (k0_pay16 (F := Ideal) b t) lg lse inv (ix2 r l)
      = code b (t (ix2 r 0)) l (lg (ix3 0 r l)) (lse (ix2 r 0)) (inv (ix2 r 0)) := by
  pointwise! [k0_pay17, k0_pay16, code]

theorem code_5 (r : Fin 192) (l : Fin 512) :
    k0_pay20 b t lg lse inv (ix2 r l) = code b (t (ix2 r 0)) l (lg (ix3 0 r l)) (lse (ix2 r 0)) (inv (ix2 r 0)) := by
  pointwise! [k0_pay20, code]

variable (w : FVec Ideal S512x3072 .fp8e4m3) (ws : FVec Ideal S1x1x512 .f32) (acc : FVec Ideal S192x3072 .f32)

/-- The five row chunks' products, over the chunk's codes. -/
theorem acc_1 (r : Fin 192) (l : Fin 3072) : k0_pay8 w (k0_pay6 b t lg lse inv) ws acc (ix2 r l)
    = acc (ix2 r l) + ∑ k : Fin 512, code b (t (ix2 r 0)) k (lg (ix3 0 r k)) (lse (ix2 r 0)) (inv (ix2 r 0)) * ws (ix3 0 0 k) * w (ix2 k l) := by
  pointwise! [k0_pay8, k0_pay7, k0_pay6, code]

theorem acc_2 (r : Fin 192) (l : Fin 3072) :
    k0_pay11 w inv (k0_pay9 b t lg lse inv) (Ideal.ofBits FTy.f32 0xC7600000#32) (Ideal.ofBits FTy.f32 0x47600000#32) ws acc (ix2 r l)
    = acc (ix2 r l) + ∑ k : Fin 512, code b (t (ix2 r 0)) k (lg (ix3 0 r k)) (lse (ix2 r 0)) (inv (ix2 r 0)) * ws (ix3 0 0 k) * w (ix2 k l) := by
  pointwise! [k0_pay11, k0_pay10, k0_pay9, code]

theorem acc_3 (r : Fin 192) (l : Fin 3072) :
    k0_pay15 w (k0_pay12 lg lse) (k0_pay13 b t) (Ideal.ofBits FTy.f32 0x3F800000#32) inv ws acc (ix2 r l)
    = acc (ix2 r l) + ∑ k : Fin 512, code b (t (ix2 r 0)) k (lg (ix3 0 r k)) (lse (ix2 r 0)) (inv (ix2 r 0)) * ws (ix3 0 0 k) * w (ix2 k l) := by
  pointwise! [k0_pay15, k0_pay14, k0_pay12, k0_pay13, code]

theorem acc_4 (r : Fin 192) (l : Fin 3072) :
    k0_pay19 (k0_pay18 (F := Ideal) w (iota .tc S192x512 32 [1] iota_S192x512_d1_w32) (k0_pay16 (F := Ideal) b t) lg lse inv ws acc) (ix2 r l)
    = acc (ix2 r l) + ∑ k : Fin 512, code b (t (ix2 r 0)) k (lg (ix3 0 r k)) (lse (ix2 r 0)) (inv (ix2 r 0)) * ws (ix3 0 0 k) * w (ix2 k l) := by
  pointwise! [k0_pay19, k0_pay18, k0_pay17, k0_pay16, code]

theorem acc_5 (r : Fin 192) (l : Fin 3072) :
    k0_pay3 w (k0_pay21 b t lg lse inv) (k0_pay22 ws) acc (ix2 r l)
    = acc (ix2 r l) + ∑ k : Fin 512, code b (t (ix2 r 0)) k (lg (ix3 0 r k)) (lse (ix2 r 0)) (inv (ix2 r 0)) * ws (ix3 0 0 k) * w (ix2 k l) := by
  pointwise! [k0_pay3, k0_pay21, k0_pay22, k0_pay20, code]

end Codes

/-- The masked weights. -/
theorem wmask_5 (b : BitVec 32) (w : FVec Ideal S512x3072 .fp8e4m3) (r : Fin 512) (l : Fin 3072) :
    k0_pay5 (F := Ideal) b w (ix2 r l) = wmask b r (w (ix2 r l)) := by
  pointwise [k0_pay5, wmask, show Ideal.ofBits .fp8e4m3 0#8 = 0 from Ideal.ofBits_zero .fp8e4m3]

/-- The stored gradient. -/
theorem dx_4 (x : FVec Ideal S960x3072 .f32) (s : FVec Ideal S960x1 .f32) (r : Fin 960) (l : Fin 3072) :
    k0_pay4 (F := Ideal) x s (ix2 r l) = (x (ix2 r l) * s (ix2 r 0) : EReal) := by
  pointwise! [k0_pay4]

theorem zero_1 (r : Fin 960) (l : Fin 3072) : k0_pay1 (F := Ideal) (ix2 r l) = (0 : EReal) := by
  pointwise! [k0_pay1]

theorem zero_2 (r : Fin 960) (l : Fin 512) : k0_pay2 (F := Ideal) (ix2 r l) = (0 : EReal) := by
  pointwise [k0_pay2, show Ideal.ofBits .fp8e5m2 0#8 = 0 from Ideal.ofBits_zero .fp8e5m2]

/-- The codes of a whole block, -/
def codeBlk (b : BitVec 32) (lg : FVec Ideal S1x960x512 .f32) (t : Vec Ideal S960x1 .i32) (lse inv : FVec Ideal S960x1 .f32) : FVec Ideal S960x512 .fp8e5m2 :=
  fun j => code b (t (ix2 (j 0) 0)) (j 1) (lg (ix3 0 (j 0) (j 1))) (lse (ix2 (j 0) 0)) (inv (ix2 (j 0) 0))

/-- its product with the block's weights, -/
def prodBlk (b : BitVec 32) (lg : FVec Ideal S1x960x512 .f32) (w : FVec Ideal S512x3072 .fp8e4m3) (ws : FVec Ideal S1x1x512 .f32)
    (t : Vec Ideal S960x1 .i32) (lse inv : FVec Ideal S960x1 .f32) : FVec Ideal S960x3072 .f32 :=
  fun j => ∑ k : Fin 512, code b (t (ix2 (j 0) 0)) k (lg (ix3 0 (j 0) k)) (lse (ix2 (j 0) 0)) (inv (ix2 (j 0) 0)) * ws (ix3 0 0 k)
    * wmask b k (w (ix2 k (j 1)))

/-- and the accumulator with the product added. -/
def accBlk (prev : FVec Ideal S960x3072 .f32) (p : FVec Ideal S960x3072 .f32) : FVec Ideal S960x3072 .f32 := fun j => (prev j + p j : EReal)

end Cert.KernelIdeal.Gen
-- ==== Proof.KI.Body.lean ====
/- What one grid point leaves in the codes' block and in the accumulator, over the reals, as functions of the staged blocks. -/
module

public import proofs.«01_k».proof.Proof.KI.Frame
public import proofs.«01_k».proof.Proof.KI.Pay
public import Idealize.ShloMosaic.Lib.Pipeline.ReadBack
public import Idealize.ShloMosaic.Lib.Pipeline.ValueKit

@[expose] public section

set_option maxRecDepth 16384

noncomputable section

namespace Cert.KernelIdeal.Gen

open Idealize.ShloMosaic Idealize.ShloMosaic.TcCoe Idealize.SL.Sem

/-- Where a chunk of 192 rows lies in a block of 960. -/
theorem rows_emb {n : Nat} (o : Nat) (inb : ∀ a, (![o, 0] : Fin 2 → Nat) a + (![192, n] : Fin 2 → Nat) a ≤ (⟨2, ![960, n]⟩ : Shape).size a) (r : Fin 192) (l : Fin n)
    (h : o + r.val < 960) :
    (Rect.unit (s := ⟨2, ![960, n]⟩) ![o, 0] ![192, n] inb).emb (ix2 r l) = (ix2 ⟨o + r.val, h⟩ l : (⟨2, ![960, n]⟩ : Shape).Idx) := by
  refine (eq_ix2 _).trans ((ix2_inj ..).2 ⟨Fin.ext ?_, Fin.ext ?_⟩)
  · show o + 1 * r.val = o + r.val
    omega
  · show 0 + 1 * l.val = l.val
    omega

/-- The whole of a block lies where it is. -/
theorem whole_emb {n : Nat} (inb : ∀ a, (![0, 0] : Fin 2 → Nat) a + (![960, n] : Fin 2 → Nat) a ≤ (⟨2, ![960, n]⟩ : Shape).size a) (r : Fin 960) (l : Fin n) :
    (Rect.unit (s := ⟨2, ![960, n]⟩) ![0, 0] ![960, n] inb).emb (ix2 r l) = (ix2 r l : (⟨2, ![960, n]⟩ : Shape).Idx) := by
  refine (eq_ix2 _).trans ((ix2_inj ..).2 ⟨Fin.ext ?_, Fin.ext ?_⟩)
  · show 0 + 1 * r.val = r.val
    omega
  · show 0 + 1 * l.val = l.val
    omega

/-- The gradient: the accumulator, scaled row by row. -/
def scaled (a : FVec Ideal S960x3072 .f32) (g : FVec Ideal S960x1 .f32) : FVec Ideal S960x3072 .bf16 := fun y => (a y * g (ix2 (y 0) 0) : EReal)

/-- One store that is a function's chunk and covers the buffer leaves that function. -/
theorem read_writes_one {sig' : RefSig} {κ : Kind} {sp : Space} {s : Shape} {e : EltTy} {Val : EltTy → Type} (v : View sig' κ sp s e) (f : v.ty.Contents Val) (G : s.Idx → Val e)
    (p : View.Piece Val s e) (h : ∀ x : p.1.shape.Idx, p.2 x = G (p.1.emb x)) (y : s.Idx) (hc : ∃ p' ∈ [p], y ∈ p'.1.set) :
    v.read Val (v.writes Val f [p]) y = G y :=
  View.read_writes_apply_of_pieces _ _ G _ (View.PiecesOf.mem (L := [p]) ⟨h, trivial⟩) y hc

/-- Five stores that are chunks of one function and cover the buffer, over one earlier store, leave that function. -/
theorem read_writes_five {sig' : RefSig} {κ : Kind} {sp : Space} {s : Shape} {e : EltTy} {Val : EltTy → Type} (v : View sig' κ sp s e) (f : v.ty.Contents Val) (G : s.Idx → Val e)
    (p5 p4 p3 p2 p1 z : View.Piece Val s e) (h : View.PiecesOf G [p5, p4, p3, p2, p1]) (y : s.Idx) (hc : ∃ p ∈ [p5, p4, p3, p2, p1], y ∈ p.1.set) :
    v.read Val (v.writes Val f [p5, p4, p3, p2, p1, z]) y = G y := by
  show v.read Val (v.writes Val f ([p5, p4, p3, p2, p1] ++ [z])) y = G y
  rw [View.writes_append]
  exact View.read_writes_apply_of_pieces _ _ G _ h.mem y hc

/-- At the first point, the block inactive: the codes are 0. -/
theorem codes_A0 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : cond0_0 i) (hc1 : ¬cond0_1 i)
    (x0 : Vec Ideal S1x960x512 .f32) (x1 : Vec Ideal S512x3072 .fp8e4m3) (x2 : Vec Ideal S1x1x512 .f32) (x3 : Vec Ideal S960x1 .i32) (x4 : Vec Ideal S960x1 .f32) (x5 : Vec Ideal S960x1 .f32) (x6 : Vec Ideal S960x1 .f32) (xt0 : TbBuf0 (F := Ideal) c tbM0_0) (xt1 : TbBuf0 (F := Ideal) c tbM0_1) (xt2 : TbBuf0 (F := Ideal) c tbM0_2) (hc2 : k0_cond2 (actw c xt1 i) = 1#1) (hc3 : ¬k0_cond3 (actw c xt1 i) = 1#1) : out_A0_7 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 = fun _ => (0 : EReal) := by
  funext y
  unfold out_A0_7
  have hc := cover_A0_7 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 y
  unfold kernelRun_A0 at hc ⊢
  dsimp only at hc ⊢
  refine read_writes_one _ _ (fun _ => (0 : EReal)) _ (fun x => ?_) y hc
  obtain ⟨r, l, rfl⟩ : ∃ (r : Fin 960) (l : Fin 512), x = ix2 r l := ⟨x 0, x 1, eq_ix2 x⟩
  exact zero_2 r l

/-- At the first point, the block inactive: the accumulator is 0. -/
theorem acc_A0 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : cond0_0 i) (hc1 : ¬cond0_1 i)
    (x0 : Vec Ideal S1x960x512 .f32) (x1 : Vec Ideal S512x3072 .fp8e4m3) (x2 : Vec Ideal S1x1x512 .f32) (x3 : Vec Ideal S960x1 .i32) (x4 : Vec Ideal S960x1 .f32) (x5 : Vec Ideal S960x1 .f32) (x6 : Vec Ideal S960x1 .f32) (xt0 : TbBuf0 (F := Ideal) c tbM0_0) (xt1 : TbBuf0 (F := Ideal) c tbM0_1) (xt2 : TbBuf0 (F := Ideal) c tbM0_2) (hc2 : k0_cond2 (actw c xt1 i) = 1#1) (hc3 : ¬k0_cond3 (actw c xt1 i) = 1#1) : sout_A0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 = fun _ => (0 : EReal) := by
  funext y
  unfold sout_A0
  have hc := scover_A0 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 y
  unfold kernelRun_A0 at hc ⊢
  dsimp only at hc ⊢
  refine read_writes_one _ _ (fun _ => (0 : EReal)) _ (fun x => ?_) y hc
  obtain ⟨r, l, rfl⟩ : ∃ (r : Fin 960) (l : Fin 3072), x = ix2 r l := ⟨x 0, x 1, eq_ix2 x⟩
  exact zero_1 r l

/-- At a middle point, the block inactive: the codes are 0. -/
theorem codes_B0 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : ¬cond0_0 i) (hc1 : ¬cond0_1 i)
    (x0 : Vec Ideal S1x960x512 .f32) (x1 : Vec Ideal S512x3072 .fp8e4m3) (x2 : Vec Ideal S1x1x512 .f32) (x3 : Vec Ideal S960x1 .i32) (x4 : Vec Ideal S960x1 .f32) (x5 : Vec Ideal S960x1 .f32) (x6 : Vec Ideal S960x1 .f32) (xt0 : TbBuf0 (F := Ideal) c tbM0_0) (xt1 : TbBuf0 (F := Ideal) c tbM0_1) (xt2 : TbBuf0 (F := Ideal) c tbM0_2) (hc2 : k0_cond2 (actw c xt1 i) = 1#1) (hc3 : ¬k0_cond3 (actw c xt1 i) = 1#1) (xs0 : Vec Ideal S960x3072 .f32) : out_B0_7 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0 = fun _ => (0 : EReal) := by
  funext y
  unfold out_B0_7
  have hc := cover_B0_7 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0 y
  unfold kernelRun_B0 at hc ⊢
  dsimp only at hc ⊢
  refine read_writes_one _ _ (fun _ => (0 : EReal)) _ (fun x => ?_) y hc
  obtain ⟨r, l, rfl⟩ : ∃ (r : Fin 960) (l : Fin 512), x = ix2 r l := ⟨x 0, x 1, eq_ix2 x⟩
  exact zero_2 r l

/-- At the last point, the block inactive: the codes are 0. -/
theorem codes_C0 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : ¬cond0_0 i) (hc1 : cond0_1 i)
    (x0 : Vec Ideal S1x960x512 .f32) (x1 : Vec Ideal S512x3072 .fp8e4m3) (x2 : Vec Ideal S1x1x512 .f32) (x3 : Vec Ideal S960x1 .i32) (x4 : Vec Ideal S960x1 .f32) (x5 : Vec Ideal S960x1 .f32) (x6 : Vec Ideal S960x1 .f32) (xt0 : TbBuf0 (F := Ideal) c tbM0_0) (xt1 : TbBuf0 (F := Ideal) c tbM0_1) (xt2 : TbBuf0 (F := Ideal) c tbM0_2) (hc2 : k0_cond2 (actw c xt1 i) = 1#1) (hc3 : ¬k0_cond3 (actw c xt1 i) = 1#1) (xs0 : Vec Ideal S960x3072 .f32) : out_C0_7 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0 = fun _ => (0 : EReal) := by
  funext y
  unfold out_C0_7
  have hc := cover_C0_7 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0 y
  unfold kernelRun_C0 at hc ⊢
  dsimp only at hc ⊢
  refine read_writes_one _ _ (fun _ => (0 : EReal)) _ (fun x => ?_) y hc
  obtain ⟨r, l, rfl⟩ : ∃ (r : Fin 960) (l : Fin 512), x = ix2 r l := ⟨x 0, x 1, eq_ix2 x⟩
  exact zero_2 r l

/-- At the first point, the block active: the block of the codes. -/
theorem codes_A1 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : cond0_0 i) (hc1 : ¬cond0_1 i)
    (x0 : Vec Ideal S1x960x512 .f32) (x1 : Vec Ideal S512x3072 .fp8e4m3) (x2 : Vec Ideal S1x1x512 .f32) (x3 : Vec Ideal S960x1 .i32) (x4 : Vec Ideal S960x1 .f32) (x5 : Vec Ideal S960x1 .f32) (x6 : Vec Ideal S960x1 .f32) (xt0 : TbBuf0 (F := Ideal) c tbM0_0) (xt1 : TbBuf0 (F := Ideal) c tbM0_1) (xt2 : TbBuf0 (F := Ideal) c tbM0_2) (hc2 : ¬k0_cond2 (actw c xt1 i) = 1#1) (hc3 : k0_cond3 (actw c xt1 i) = 1#1) : out_A1_7 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 = codeBlk (BitVec.ofNat 32 ↑(i 0)) x0 x3 x4 x6 := by
  funext y
  unfold out_A1_7
  refine View.read_writes_apply_of_pieces _ _ (codeBlk _ x0 x3 x4 x6) _ ?_ y (cover_A1_7 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 y)
  unfold kernelRun_A1
  dsimp only
  refine View.PiecesOf.mem ⟨?_, ?_, ?_, ?_, ?_, trivial⟩
  all_goals intro x; obtain ⟨r, l, rfl⟩ : ∃ (r : Fin 192) (l : Fin 512), x = ix2 r l := ⟨x 0, x 1, eq_ix2 x⟩
  · refine (code_5 _ _ _ _ _ r l).trans ?_
    rw [show (Rect.unit (s := S960x512) ![768, 0] ![192, 512] inb_S960x512_S192x512_768_0).emb (ix2 r l) = _ from rows_emb 768 _ r l (by omega)]
    simp only [View.readAt_eq_ld, Memref.IsWhole.read_unread]
    pointwise [codeBlk]
  · refine (code_4 _ _ _ _ _ r l).trans ?_
    rw [show (Rect.unit (s := S960x512) ![576, 0] ![192, 512] inb_S960x512_S192x512_576_0).emb (ix2 r l) = _ from rows_emb 576 _ r l (by omega)]
    simp only [View.readAt_eq_ld, Memref.IsWhole.read_unread]
    pointwise [codeBlk]
  · refine (code_3 _ _ _ _ _ r l).trans ?_
    rw [show (Rect.unit (s := S960x512) ![384, 0] ![192, 512] inb_S960x512_S192x512_384_0).emb (ix2 r l) = _ from rows_emb 384 _ r l (by omega)]
    simp only [View.readAt_eq_ld, Memref.IsWhole.read_unread]
    pointwise [codeBlk]
  · refine (code_2 _ _ _ _ _ r l).trans ?_
    rw [show (Rect.unit (s := S960x512) ![192, 0] ![192, 512] inb_S960x512_S192x512_192_0).emb (ix2 r l) = _ from rows_emb 192 _ r l (by omega)]
    simp only [kernelRun_A1.sl.r_4, View.readAt_eq_ld, Memref.IsWhole.read_unread]
    pointwise [codeBlk]
  · refine (code_1 _ _ _ _ _ r l).trans ?_
    rw [show (Rect.unit (s := S960x512) ![0, 0] ![192, 512] inb_S960x512_S192x512_0_0).emb (ix2 r l) = _ from rows_emb 0 _ r l (by omega)]
    simp only [View.readAt_eq_ld, Memref.IsWhole.read_unread]
    pointwise [codeBlk]

/-- At a middle point, the block active: the block of the codes. -/
theorem codes_B1 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : ¬cond0_0 i) (hc1 : ¬cond0_1 i)
    (x0 : Vec Ideal S1x960x512 .f32) (x1 : Vec Ideal S512x3072 .fp8e4m3) (x2 : Vec Ideal S1x1x512 .f32) (x3 : Vec Ideal S960x1 .i32) (x4 : Vec Ideal S960x1 .f32) (x5 : Vec Ideal S960x1 .f32) (x6 : Vec Ideal S960x1 .f32) (xt0 : TbBuf0 (F := Ideal) c tbM0_0) (xt1 : TbBuf0 (F := Ideal) c tbM0_1) (xt2 : TbBuf0 (F := Ideal) c tbM0_2) (hc2 : ¬k0_cond2 (actw c xt1 i) = 1#1) (hc3 : k0_cond3 (actw c xt1 i) = 1#1) (xs0 : Vec Ideal S960x3072 .f32) : out_B1_7 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0 = codeBlk (BitVec.ofNat 32 ↑(i 0)) x0 x3 x4 x6 := by
  funext y
  unfold out_B1_7
  refine View.read_writes_apply_of_pieces _ _ (codeBlk _ x0 x3 x4 x6) _ ?_ y (cover_B1_7 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0 y)
  unfold kernelRun_B1
  dsimp only
  refine View.PiecesOf.mem ⟨?_, ?_, ?_, ?_, ?_, trivial⟩
  all_goals intro x; obtain ⟨r, l, rfl⟩ : ∃ (r : Fin 192) (l : Fin 512), x = ix2 r l := ⟨x 0, x 1, eq_ix2 x⟩
  · refine (code_5 _ _ _ _ _ r l).trans ?_
    rw [show (Rect.unit (s := S960x512) ![768, 0] ![192, 512] inb_S960x512_S192x512_768_0).emb (ix2 r l) = _ from rows_emb 768 _ r l (by omega)]
    simp only [View.readAt_eq_ld, Memref.IsWhole.read_unread]
    pointwise [codeBlk]
  · refine (code_4 _ _ _ _ _ r l).trans ?_
    rw [show (Rect.unit (s := S960x512) ![576, 0] ![192, 512] inb_S960x512_S192x512_576_0).emb (ix2 r l) = _ from rows_emb 576 _ r l (by omega)]
    simp only [View.readAt_eq_ld, Memref.IsWhole.read_unread]
    pointwise [codeBlk]
  · refine (code_3 _ _ _ _ _ r l).trans ?_
    rw [show (Rect.unit (s := S960x512) ![384, 0] ![192, 512] inb_S960x512_S192x512_384_0).emb (ix2 r l) = _ from rows_emb 384 _ r l (by omega)]
    simp only [View.readAt_eq_ld, Memref.IsWhole.read_unread]
    pointwise [codeBlk]
  · refine (code_2 _ _ _ _ _ r l).trans ?_
    rw [show (Rect.unit (s := S960x512) ![192, 0] ![192, 512] inb_S960x512_S192x512_192_0).emb (ix2 r l) = _ from rows_emb 192 _ r l (by omega)]
    simp only [kernelRun_B1.sl.r_4, View.readAt_eq_ld, Memref.IsWhole.read_unread]
    pointwise [codeBlk]
  · refine (code_1 _ _ _ _ _ r l).trans ?_
    rw [show (Rect.unit (s := S960x512) ![0, 0] ![192, 512] inb_S960x512_S192x512_0_0).emb (ix2 r l) = _ from rows_emb 0 _ r l (by omega)]
    simp only [View.readAt_eq_ld, Memref.IsWhole.read_unread]
    pointwise [codeBlk]

/-- At the last point, the block active: the block of the codes. -/
theorem codes_C1 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : ¬cond0_0 i) (hc1 : cond0_1 i)
    (x0 : Vec Ideal S1x960x512 .f32) (x1 : Vec Ideal S512x3072 .fp8e4m3) (x2 : Vec Ideal S1x1x512 .f32) (x3 : Vec Ideal S960x1 .i32) (x4 : Vec Ideal S960x1 .f32) (x5 : Vec Ideal S960x1 .f32) (x6 : Vec Ideal S960x1 .f32) (xt0 : TbBuf0 (F := Ideal) c tbM0_0) (xt1 : TbBuf0 (F := Ideal) c tbM0_1) (xt2 : TbBuf0 (F := Ideal) c tbM0_2) (hc2 : ¬k0_cond2 (actw c xt1 i) = 1#1) (hc3 : k0_cond3 (actw c xt1 i) = 1#1) (xs0 : Vec Ideal S960x3072 .f32) : out_C1_7 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0 = codeBlk (BitVec.ofNat 32 ↑(i 0)) x0 x3 x4 x6 := by
  funext y
  unfold out_C1_7
  refine View.read_writes_apply_of_pieces _ _ (codeBlk _ x0 x3 x4 x6) _ ?_ y (cover_C1_7 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0 y)
  unfold kernelRun_C1
  dsimp only
  refine View.PiecesOf.mem ⟨?_, ?_, ?_, ?_, ?_, trivial⟩
  all_goals intro x; obtain ⟨r, l, rfl⟩ : ∃ (r : Fin 192) (l : Fin 512), x = ix2 r l := ⟨x 0, x 1, eq_ix2 x⟩
  · refine (code_5 _ _ _ _ _ r l).trans ?_
    rw [show (Rect.unit (s := S960x512) ![768, 0] ![192, 512] inb_S960x512_S192x512_768_0).emb (ix2 r l) = _ from rows_emb 768 _ r l (by omega)]
    simp only [View.readAt_eq_ld, Memref.IsWhole.read_unread]
    pointwise [codeBlk]
  · refine (code_4 _ _ _ _ _ r l).trans ?_
    rw [show (Rect.unit (s := S960x512) ![576, 0] ![192, 512] inb_S960x512_S192x512_576_0).emb (ix2 r l) = _ from rows_emb 576 _ r l (by omega)]
    simp only [View.readAt_eq_ld, Memref.IsWhole.read_unread]
    pointwise [codeBlk]
  · refine (code_3 _ _ _ _ _ r l).trans ?_
    rw [show (Rect.unit (s := S960x512) ![384, 0] ![192, 512] inb_S960x512_S192x512_384_0).emb (ix2 r l) = _ from rows_emb 384 _ r l (by omega)]
    simp only [View.readAt_eq_ld, Memref.IsWhole.read_unread]
    pointwise [codeBlk]
  · refine (code_2 _ _ _ _ _ r l).trans ?_
    rw [show (Rect.unit (s := S960x512) ![192, 0] ![192, 512] inb_S960x512_S192x512_192_0).emb (ix2 r l) = _ from rows_emb 192 _ r l (by omega)]
    simp only [kernelRun_C1.sl.r_4, View.readAt_eq_ld, Memref.IsWhole.read_unread]
    pointwise [codeBlk]
  · refine (code_1 _ _ _ _ _ r l).trans ?_
    rw [show (Rect.unit (s := S960x512) ![0, 0] ![192, 512] inb_S960x512_S192x512_0_0).emb (ix2 r l) = _ from rows_emb 0 _ r l (by omega)]
    simp only [View.readAt_eq_ld, Memref.IsWhole.read_unread]
    pointwise [codeBlk]

/-- At the first point, the block active: the accumulator. -/
theorem acc_A1 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : cond0_0 i) (hc1 : ¬cond0_1 i)
    (x0 : Vec Ideal S1x960x512 .f32) (x1 : Vec Ideal S512x3072 .fp8e4m3) (x2 : Vec Ideal S1x1x512 .f32) (x3 : Vec Ideal S960x1 .i32) (x4 : Vec Ideal S960x1 .f32) (x5 : Vec Ideal S960x1 .f32) (x6 : Vec Ideal S960x1 .f32) (xt0 : TbBuf0 (F := Ideal) c tbM0_0) (xt1 : TbBuf0 (F := Ideal) c tbM0_1) (xt2 : TbBuf0 (F := Ideal) c tbM0_2) (hc2 : ¬k0_cond2 (actw c xt1 i) = 1#1) (hc3 : k0_cond3 (actw c xt1 i) = 1#1) : sout_A1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 = accBlk (fun _ => (0 : EReal)) (prodBlk (BitVec.ofNat 32 ↑(i 0)) x0 x1 x2 x3 x4 x6) := by
  funext y
  unfold sout_A1
  unfold kernelRun_A1
  dsimp only
  refine read_writes_five (Val := Elt Ideal) (s := S960x3072) (e := .f32) _ _ (accBlk (fun _ => (0 : EReal)) (prodBlk _ x0 x1 x2 x3 x4 x6)) _ _ _ _ _ _ ?_ y ?_
  rotate_left
  · exact View.cover_of_tiledL (s := S960x3072) [_, _, _, _, _] S192x3072.size (by sl_kernel_rfl) y
  refine ⟨?_, ?_, ?_, ?_, ?_, trivial⟩
  all_goals intro x; obtain ⟨r, l, rfl⟩ : ∃ (r : Fin 192) (l : Fin 3072), x = ix2 r l := ⟨x 0, x 1, eq_ix2 x⟩
  · refine (acc_5 _ _ _ _ _ _ _ _ r l).trans ?_
    rw [show (Rect.unit (s := S960x3072) ![768, 0] ![192, 3072] inb_S960x3072_S192x3072_768_0).emb (ix2 r l) = _ from rows_emb 768 _ r l (by omega)]
    simp only [kernelRun_A1.sl.r_2, kernelRun_A1.sl.v239, kernelRun_A1.sl.HS0_5, kernelRun_A1.sl.HS0_4, kernelRun_A1.sl.HS0_3, kernelRun_A1.sl.HS0_2, kernelRun_A1.sl.HS0_1]
    rw [View.readCov_skip _ _ _ _ _ (by decide), View.readCov_skip _ _ _ _ _ (by decide), View.readCov_skip _ _ _ _ _ (by decide), View.readCov_skip _ _ _ _ _ (by decide), View.readCov_fill _ _ _ _ _ (by decide)]
    simp only [wmask_5]
    simp only [View.readAt_eq_ld, Memref.IsWhole.read_unread]
    pointwise [accBlk, prodBlk, k0_pay1]
  · refine (acc_4 _ _ _ _ _ _ _ _ r l).trans ?_
    rw [show (Rect.unit (s := S960x3072) ![576, 0] ![192, 3072] inb_S960x3072_S192x3072_576_0).emb (ix2 r l) = _ from rows_emb 576 _ r l (by omega)]
    simp only [kernelRun_A1.sl.r_2, kernelRun_A1.sl.v195, kernelRun_A1.sl.HS0_4, kernelRun_A1.sl.HS0_3, kernelRun_A1.sl.HS0_2, kernelRun_A1.sl.HS0_1]
    rw [View.readCov_skip _ _ _ _ _ (by decide), View.readCov_skip _ _ _ _ _ (by decide), View.readCov_skip _ _ _ _ _ (by decide), View.readCov_fill _ _ _ _ _ (by decide)]
    simp only [wmask_5]
    simp only [View.readAt_eq_ld, Memref.IsWhole.read_unread]
    pointwise [accBlk, prodBlk, k0_pay1]
  · refine (acc_3 _ _ _ _ _ _ _ _ r l).trans ?_
    rw [show (Rect.unit (s := S960x3072) ![384, 0] ![192, 3072] inb_S960x3072_S192x3072_384_0).emb (ix2 r l) = _ from rows_emb 384 _ r l (by omega)]
    simp only [kernelRun_A1.sl.r_2, kernelRun_A1.sl.v151, kernelRun_A1.sl.HS0_3, kernelRun_A1.sl.HS0_2, kernelRun_A1.sl.HS0_1]
    rw [View.readCov_skip _ _ _ _ _ (by decide), View.readCov_skip _ _ _ _ _ (by decide), View.readCov_fill _ _ _ _ _ (by decide)]
    simp only [wmask_5]
    simp only [View.readAt_eq_ld, Memref.IsWhole.read_unread]
    pointwise [accBlk, prodBlk, k0_pay1]
  · refine (acc_2 _ _ _ _ _ _ _ _ r l).trans ?_
    rw [show (Rect.unit (s := S960x3072) ![192, 0] ![192, 3072] inb_S960x3072_S192x3072_192_0).emb (ix2 r l) = _ from rows_emb 192 _ r l (by omega)]
    simp only [kernelRun_A1.sl.r_2, kernelRun_A1.sl.v107, kernelRun_A1.sl.r_4, kernelRun_A1.sl.HS0_2, kernelRun_A1.sl.HS0_1]
    rw [View.readCov_skip _ _ _ _ _ (by decide), View.readCov_fill _ _ _ _ _ (by decide)]
    simp only [wmask_5]
    simp only [View.readAt_eq_ld, Memref.IsWhole.read_unread]
    pointwise [accBlk, prodBlk, k0_pay1]
  · refine (acc_1 _ _ _ _ _ _ _ _ r l).trans ?_
    rw [show (Rect.unit (s := S960x3072) ![0, 0] ![192, 3072] inb_S960x3072_S192x3072_0_0).emb (ix2 r l) = _ from rows_emb 0 _ r l (by omega)]
    simp only [kernelRun_A1.sl.r_2, kernelRun_A1.sl.v63, kernelRun_A1.sl.HS0_1]
    rw [View.readCov_fill _ _ _ _ _ (by decide)]
    simp only [wmask_5]
    simp only [View.readAt_eq_ld, Memref.IsWhole.read_unread]
    pointwise [accBlk, prodBlk, k0_pay1]

/-- At a middle point, the block active: the accumulator. -/
theorem acc_B1 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : ¬cond0_0 i) (hc1 : ¬cond0_1 i)
    (x0 : Vec Ideal S1x960x512 .f32) (x1 : Vec Ideal S512x3072 .fp8e4m3) (x2 : Vec Ideal S1x1x512 .f32) (x3 : Vec Ideal S960x1 .i32) (x4 : Vec Ideal S960x1 .f32) (x5 : Vec Ideal S960x1 .f32) (x6 : Vec Ideal S960x1 .f32) (xt0 : TbBuf0 (F := Ideal) c tbM0_0) (xt1 : TbBuf0 (F := Ideal) c tbM0_1) (xt2 : TbBuf0 (F := Ideal) c tbM0_2) (hc2 : ¬k0_cond2 (actw c xt1 i) = 1#1) (hc3 : k0_cond3 (actw c xt1 i) = 1#1) (xs0 : Vec Ideal S960x3072 .f32) : sout_B1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0 = accBlk xs0 (prodBlk (BitVec.ofNat 32 ↑(i 0)) x0 x1 x2 x3 x4 x6) := by
  funext y
  unfold sout_B1
  refine View.read_writes_apply_of_pieces _ _ (accBlk xs0 (prodBlk _ x0 x1 x2 x3 x4 x6)) _ ?_ y (scover_B1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0 y)
  unfold kernelRun_B1
  dsimp only
  refine View.PiecesOf.mem ⟨?_, ?_, ?_, ?_, ?_, trivial⟩
  all_goals intro x; obtain ⟨r, l, rfl⟩ : ∃ (r : Fin 192) (l : Fin 3072), x = ix2 r l := ⟨x 0, x 1, eq_ix2 x⟩
  · refine (acc_5 _ _ _ _ _ _ _ _ r l).trans ?_
    rw [show (Rect.unit (s := S960x3072) ![768, 0] ![192, 3072] inb_S960x3072_S192x3072_768_0).emb (ix2 r l) = _ from rows_emb 768 _ r l (by omega)]
    simp only [kernelRun_B1.sl.r_2, kernelRun_B1.sl.v239]
    simp only [wmask_5]
    simp only [View.readAt_eq_ld, Memref.IsWhole.read_unread]
    pointwise [accBlk, prodBlk]
  · refine (acc_4 _ _ _ _ _ _ _ _ r l).trans ?_
    rw [show (Rect.unit (s := S960x3072) ![576, 0] ![192, 3072] inb_S960x3072_S192x3072_576_0).emb (ix2 r l) = _ from rows_emb 576 _ r l (by omega)]
    simp only [kernelRun_B1.sl.r_2, kernelRun_B1.sl.v195]
    simp only [wmask_5]
    simp only [View.readAt_eq_ld, Memref.IsWhole.read_unread]
    pointwise [accBlk, prodBlk]
  · refine (acc_3 _ _ _ _ _ _ _ _ r l).trans ?_
    rw [show (Rect.unit (s := S960x3072) ![384, 0] ![192, 3072] inb_S960x3072_S192x3072_384_0).emb (ix2 r l) = _ from rows_emb 384 _ r l (by omega)]
    simp only [kernelRun_B1.sl.r_2, kernelRun_B1.sl.v151]
    simp only [wmask_5]
    simp only [View.readAt_eq_ld, Memref.IsWhole.read_unread]
    pointwise [accBlk, prodBlk]
  · refine (acc_2 _ _ _ _ _ _ _ _ r l).trans ?_
    rw [show (Rect.unit (s := S960x3072) ![192, 0] ![192, 3072] inb_S960x3072_S192x3072_192_0).emb (ix2 r l) = _ from rows_emb 192 _ r l (by omega)]
    simp only [kernelRun_B1.sl.r_2, kernelRun_B1.sl.v107, kernelRun_B1.sl.r_4]
    simp only [wmask_5]
    simp only [View.readAt_eq_ld, Memref.IsWhole.read_unread]
    pointwise [accBlk, prodBlk]
  · refine (acc_1 _ _ _ _ _ _ _ _ r l).trans ?_
    rw [show (Rect.unit (s := S960x3072) ![0, 0] ![192, 3072] inb_S960x3072_S192x3072_0_0).emb (ix2 r l) = _ from rows_emb 0 _ r l (by omega)]
    simp only [kernelRun_B1.sl.r_2]
    simp only [wmask_5]
    simp only [View.readAt_eq_ld, Memref.IsWhole.read_unread]
    pointwise [accBlk, prodBlk]

/-- At the last point, the block active: the accumulator. -/
theorem acc_C1 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : ¬cond0_0 i) (hc1 : cond0_1 i)
    (x0 : Vec Ideal S1x960x512 .f32) (x1 : Vec Ideal S512x3072 .fp8e4m3) (x2 : Vec Ideal S1x1x512 .f32) (x3 : Vec Ideal S960x1 .i32) (x4 : Vec Ideal S960x1 .f32) (x5 : Vec Ideal S960x1 .f32) (x6 : Vec Ideal S960x1 .f32) (xt0 : TbBuf0 (F := Ideal) c tbM0_0) (xt1 : TbBuf0 (F := Ideal) c tbM0_1) (xt2 : TbBuf0 (F := Ideal) c tbM0_2) (hc2 : ¬k0_cond2 (actw c xt1 i) = 1#1) (hc3 : k0_cond3 (actw c xt1 i) = 1#1) (xs0 : Vec Ideal S960x3072 .f32) : sout_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0 = accBlk xs0 (prodBlk (BitVec.ofNat 32 ↑(i 0)) x0 x1 x2 x3 x4 x6) := by
  funext y
  unfold sout_C1
  refine View.read_writes_apply_of_pieces _ _ (accBlk xs0 (prodBlk _ x0 x1 x2 x3 x4 x6)) _ ?_ y (scover_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0 y)
  unfold kernelRun_C1
  dsimp only
  refine View.PiecesOf.mem ⟨?_, ?_, ?_, ?_, ?_, trivial⟩
  all_goals intro x; obtain ⟨r, l, rfl⟩ : ∃ (r : Fin 192) (l : Fin 3072), x = ix2 r l := ⟨x 0, x 1, eq_ix2 x⟩
  · refine (acc_5 _ _ _ _ _ _ _ _ r l).trans ?_
    rw [show (Rect.unit (s := S960x3072) ![768, 0] ![192, 3072] inb_S960x3072_S192x3072_768_0).emb (ix2 r l) = _ from rows_emb 768 _ r l (by omega)]
    simp only [kernelRun_C1.sl.r_2, kernelRun_C1.sl.v239]
    simp only [wmask_5]
    simp only [View.readAt_eq_ld, Memref.IsWhole.read_unread]
    pointwise [accBlk, prodBlk]
  · refine (acc_4 _ _ _ _ _ _ _ _ r l).trans ?_
    rw [show (Rect.unit (s := S960x3072) ![576, 0] ![192, 3072] inb_S960x3072_S192x3072_576_0).emb (ix2 r l) = _ from rows_emb 576 _ r l (by omega)]
    simp only [kernelRun_C1.sl.r_2, kernelRun_C1.sl.v195]
    simp only [wmask_5]
    simp only [View.readAt_eq_ld, Memref.IsWhole.read_unread]
    pointwise [accBlk, prodBlk]
  · refine (acc_3 _ _ _ _ _ _ _ _ r l).trans ?_
    rw [show (Rect.unit (s := S960x3072) ![384, 0] ![192, 3072] inb_S960x3072_S192x3072_384_0).emb (ix2 r l) = _ from rows_emb 384 _ r l (by omega)]
    simp only [kernelRun_C1.sl.r_2, kernelRun_C1.sl.v151]
    simp only [wmask_5]
    simp only [View.readAt_eq_ld, Memref.IsWhole.read_unread]
    pointwise [accBlk, prodBlk]
  · refine (acc_2 _ _ _ _ _ _ _ _ r l).trans ?_
    rw [show (Rect.unit (s := S960x3072) ![192, 0] ![192, 3072] inb_S960x3072_S192x3072_192_0).emb (ix2 r l) = _ from rows_emb 192 _ r l (by omega)]
    simp only [kernelRun_C1.sl.r_2, kernelRun_C1.sl.v107, kernelRun_C1.sl.r_4]
    simp only [wmask_5]
    simp only [View.readAt_eq_ld, Memref.IsWhole.read_unread]
    pointwise [accBlk, prodBlk]
  · refine (acc_1 _ _ _ _ _ _ _ _ r l).trans ?_
    rw [show (Rect.unit (s := S960x3072) ![0, 0] ![192, 3072] inb_S960x3072_S192x3072_0_0).emb (ix2 r l) = _ from rows_emb 0 _ r l (by omega)]
    simp only [kernelRun_C1.sl.r_2]
    simp only [wmask_5]
    simp only [View.readAt_eq_ld, Memref.IsWhole.read_unread]
    pointwise [accBlk, prodBlk]

/-- At the last point, the block inactive: the gradient's block. -/
theorem dx_C0 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : ¬cond0_0 i) (hc1 : cond0_1 i)
    (x0 : Vec Ideal S1x960x512 .f32) (x1 : Vec Ideal S512x3072 .fp8e4m3) (x2 : Vec Ideal S1x1x512 .f32) (x3 : Vec Ideal S960x1 .i32) (x4 : Vec Ideal S960x1 .f32) (x5 : Vec Ideal S960x1 .f32) (x6 : Vec Ideal S960x1 .f32) (xt0 : TbBuf0 (F := Ideal) c tbM0_0) (xt1 : TbBuf0 (F := Ideal) c tbM0_1) (xt2 : TbBuf0 (F := Ideal) c tbM0_2) (hc2 : k0_cond2 (actw c xt1 i) = 1#1) (hc3 : ¬k0_cond3 (actw c xt1 i) = 1#1) (xs0 : Vec Ideal S960x3072 .f32) (r : Fin 960) (l : Fin 3072) : out_C0_8 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0 (ix2 r l) = ((xs0 : FVec Ideal S960x3072 .f32) (ix2 r l) * (x5 : FVec Ideal S960x1 .f32) (ix2 r 0) : EReal) := by
  unfold out_C0_8
  have hc := cover_C0_8 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0 (ix2 r l)
  unfold kernelRun_C0 at hc ⊢
  dsimp only at hc ⊢
  refine read_writes_one _ _ (scaled (xs0) x5) _ (fun x => ?_) (ix2 r l) hc
  obtain ⟨r, l, rfl⟩ : ∃ (r : Fin 960) (l : Fin 3072), x = ix2 r l := ⟨x 0, x 1, eq_ix2 x⟩
  refine (dx_4 _ _ r l).trans ?_
  rw [show (Rect.unit (s := S960x3072) ![0, 0] ![960, 3072] inb_S960x3072_S960x3072_0_0).emb (ix2 r l) = _ from whole_emb _ r l]
  simp only [View.readAt_eq_ld, Memref.IsWhole.read_unread]
  pointwise [scaled]

/-- At the last point, the block active: the accumulator as read back is the accumulator left. -/
theorem back_C1 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : ¬cond0_0 i) (hc1 : cond0_1 i)
    (x0 : Vec Ideal S1x960x512 .f32) (x1 : Vec Ideal S512x3072 .fp8e4m3) (x2 : Vec Ideal S1x1x512 .f32) (x3 : Vec Ideal S960x1 .i32) (x4 : Vec Ideal S960x1 .f32) (x5 : Vec Ideal S960x1 .f32) (x6 : Vec Ideal S960x1 .f32) (xt0 : TbBuf0 (F := Ideal) c tbM0_0) (xt1 : TbBuf0 (F := Ideal) c tbM0_1) (xt2 : TbBuf0 (F := Ideal) c tbM0_2) (hc2 : ¬k0_cond2 (actw c xt1 i) = 1#1) (hc3 : k0_cond3 (actw c xt1 i) = 1#1) (xs0 : Vec Ideal S960x3072 .f32) (r : Fin 960) (l : Fin 3072) :
    kernelRun_C1.sl.v16 c i arg4 harg4 arg5 harg5 arg6 harg6 arg7 harg7 arg8 harg8 arg10 harg10 arg13 harg13 x0 x1 x2 x3 x4 x6 xs0 (ix2 r l) = sout_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0 (ix2 r l) := by
  have e : (Rect.unit (s := S960x3072) ![0, 0] ![960, 3072] inb_S960x3072_S960x3072_0_0).toLoadRect.idx (ix2 r l) = (ix2 r l : S960x3072.Idx) := whole_emb _ r l
  show arg13.view.read (Elt Ideal) (arg13.view.writes (Elt Ideal) arg13.view.junk _) ((Rect.unit (s := S960x3072) ![0, 0] ![960, 3072] inb_S960x3072_S960x3072_0_0).toLoadRect.idx (ix2 r l)) = _
  rw [e]
  exact View.read_writes_apply_eq _ _ _ _ _ _ (scover_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0 (ix2 r l))

/-- At the last point, the block active: the gradient's block. -/
theorem dx_C1 (c : Dev nD) (i : grid0.Coords) (arg4 : Memref sig .tc .vmem S1x960x512 .f32) (harg4 : arg4.IsWhole) (arg5 : Memref sig .tc .vmem S512x3072 .fp8e4m3) (harg5 : arg5.IsWhole) (arg6 : Memref sig .tc .vmem S1x1x512 .f32) (harg6 : arg6.IsWhole) (arg7 : Memref sig .tc .vmem S960x1 .i32) (harg7 : arg7.IsWhole) (arg8 : Memref sig .tc .vmem S960x1 .f32) (harg8 : arg8.IsWhole) (arg9 : Memref sig .tc .vmem S960x1 .f32) (harg9 : arg9.IsWhole) (arg10 : Memref sig .tc .vmem S960x1 .f32) (harg10 : arg10.IsWhole) (arg11 : Memref sig .tc .vmem S960x512 .fp8e5m2) (harg11 : arg11.IsWhole) (arg12 : Memref sig .tc .vmem S960x3072 .bf16) (harg12 : arg12.IsWhole) (arg13 : Memref sig .tc .vmem S960x3072 .f32) (harg13 : arg13.IsWhole) (hc0 : ¬cond0_0 i) (hc1 : cond0_1 i)
    (x0 : Vec Ideal S1x960x512 .f32) (x1 : Vec Ideal S512x3072 .fp8e4m3) (x2 : Vec Ideal S1x1x512 .f32) (x3 : Vec Ideal S960x1 .i32) (x4 : Vec Ideal S960x1 .f32) (x5 : Vec Ideal S960x1 .f32) (x6 : Vec Ideal S960x1 .f32) (xt0 : TbBuf0 (F := Ideal) c tbM0_0) (xt1 : TbBuf0 (F := Ideal) c tbM0_1) (xt2 : TbBuf0 (F := Ideal) c tbM0_2) (hc2 : ¬k0_cond2 (actw c xt1 i) = 1#1) (hc3 : k0_cond3 (actw c xt1 i) = 1#1) (xs0 : Vec Ideal S960x3072 .f32) (r : Fin 960) (l : Fin 3072) : out_C1_8 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0 (ix2 r l) = ((sout_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0 : FVec Ideal S960x3072 .f32) (ix2 r l) * (x5 : FVec Ideal S960x1 .f32) (ix2 r 0) : EReal) := by
  unfold out_C1_8
  have hc := cover_C1_8 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0 (ix2 r l)
  unfold kernelRun_C1 at hc ⊢
  dsimp only at hc ⊢
  refine read_writes_one _ _ (scaled (sout_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0) x5) _ (fun x => ?_) (ix2 r l) hc
  obtain ⟨r, l, rfl⟩ : ∃ (r : Fin 960) (l : Fin 3072), x = ix2 r l := ⟨x 0, x 1, eq_ix2 x⟩
  refine (dx_4 _ _ r l).trans ?_
  rw [show (Rect.unit (s := S960x3072) ![0, 0] ![960, 3072] inb_S960x3072_S960x3072_0_0).emb (ix2 r l) = _ from whole_emb _ r l]
  rw [back_C1 c i arg4 harg4 arg5 harg5 arg6 harg6 arg7 harg7 arg8 harg8 arg9 harg9 arg10 harg10 arg11 harg11 arg12 harg12 arg13 harg13 hc0 hc1 x0 x1 x2 x3 x4 x5 x6 xt0 xt1 xt2 hc2 hc3 xs0 r l]
  simp only [View.readAt_eq_ld, Memref.IsWhole.read_unread]
  pointwise [scaled]

end Cert.KernelIdeal.Gen
-- ==== Proof.KI.Step.lean ====
/- The grid's points one after another, over the reals: the codes' block of each point, the accumulator as a sum over the points,
   and the gradient's block at the last one. -/
module

public import proofs.«01_k».proof.Proof.KI.Body

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ) (hO : Ok m) (c : Dev nD)

/-- A point's number, as the body reads it. -/
abbrev pt (t : Fin (cfgM m hO).N) : BitVec 32 := BitVec.ofNat 32 (grid0.coords t 0).val

/-- The codes of point `t`: 0 where its block is inactive. -/
def gAt (t : Fin (cfgM m hO).N) : FVec Ideal S960x512 .fp8e5m2 :=
  if k0_cond3 (act_at m c t) = 1#1 then codeBlk (pt m hO t) (iblk m hO c 0 t) (iblk m hO c 3 t) (iblk m hO c 4 t) (iblk m hO c 6 t)
  else fun _ => (0 : EReal)

/-- The product that point `t` adds: 0 where its block is inactive. -/
def pAt (t : Fin (cfgM m hO).N) : FVec Ideal S960x3072 .f32 :=
  if k0_cond3 (act_at m c t) = 1#1 then
    prodBlk (pt m hO t) (iblk m hO c 0 t) (iblk m hO c 1 t) (iblk m hO c 2 t) (iblk m hO c 3 t) (iblk m hO c 4 t) (iblk m hO c 6 t)
  else fun _ => (0 : EReal)

theorem accBlk_zero (prev : FVec Ideal S960x3072 .f32) : accBlk prev (fun _ => (0 : EReal)) = prev := by
  funext j
  exact add_zero _

/-- The codes' block. -/
theorem codes_at (t : Fin (cfgM m hO).N) : (outsAt0 m hO c t.val t.isLt).1 = gAt m hO c t := by
  by_cases h0 : cond0_0 (grid0.coords t)
  · have h1 := not_last_of_first t h0
    by_cases h3 : k0_cond3 (act_at m c t) = 1#1
    · rw [outsAt0_A1 m hO c t h0 h1 h3, gAt, if_pos h3]
      dsimp only [tup_A1]
      exact codes_A1 ..
    · rw [outsAt0_A0 m hO c t h0 h1 h3, gAt, if_neg h3]
      dsimp only [tup_A0]
      exact codes_A0 ..
  · by_cases h1 : cond0_1 (grid0.coords t)
    · by_cases h3 : k0_cond3 (act_at m c t) = 1#1
      · rw [outsAt0_C1 m hO c t h0 h1 h3, gAt, if_pos h3]
        dsimp only [tup_C1]
        exact codes_C1 ..
      · rw [outsAt0_C0 m hO c t h0 h1 h3, gAt, if_neg h3]
        dsimp only [tup_C0]
        exact codes_C0 ..
    · by_cases h3 : k0_cond3 (act_at m c t) = 1#1
      · rw [outsAt0_B1 m hO c t h0 h1 h3, gAt, if_pos h3]
        dsimp only [tup_B1]
        exact codes_B1 ..
      · rw [outsAt0_B0 m hO c t h0 h1 h3, gAt, if_neg h3]
        dsimp only [tup_B0]
        exact codes_B0 ..

/-- The accumulator after the first point, -/
theorem acc_first (t : Fin (cfgM m hO).N) (h0 : cond0_0 (grid0.coords t)) :
    (outsAt0 m hO c t.val t.isLt).2.2 = accBlk (fun _ => (0 : EReal)) (pAt m hO c t) := by
  have h1 := not_last_of_first t h0
  by_cases h3 : k0_cond3 (act_at m c t) = 1#1
  · rw [outsAt0_A1 m hO c t h0 h1 h3, pAt, if_pos h3]
    dsimp only [tup_A1]
    exact acc_A1 ..
  · rw [outsAt0_A0 m hO c t h0 h1 h3, pAt, if_neg h3, accBlk_zero]
    dsimp only [tup_A0]
    exact acc_A0 ..

/-- and after a later one. -/
theorem acc_next (t : Fin (cfgM m hO).N) (h0 : ¬cond0_0 (grid0.coords t)) :
    (outsAt0 m hO c t.val t.isLt).2.2 = accBlk (outsAt0 m hO c (t.val - 1) (by omega)).2.2 (pAt m hO c t) := by
  by_cases h1 : cond0_1 (grid0.coords t)
  · by_cases h3 : k0_cond3 (act_at m c t) = 1#1
    · rw [outsAt0_C1 m hO c t h0 h1 h3, pAt, if_pos h3]
      dsimp only [tup_C1]
      exact acc_C1 ..
    · rw [outsAt0_C0 m hO c t h0 h1 h3, pAt, if_neg h3, accBlk_zero]
      dsimp only [tup_C0]
  · by_cases h3 : k0_cond3 (act_at m c t) = 1#1
    · rw [outsAt0_B1 m hO c t h0 h1 h3, pAt, if_pos h3]
      dsimp only [tup_B1]
      exact acc_B1 ..
    · rw [outsAt0_B0 m hO c t h0 h1 h3, pAt, if_neg h3, accBlk_zero]
      dsimp only [tup_B0]

/-- The gradient's block at the last point: the accumulator, scaled. -/
theorem dx_at (t : Fin (cfgM m hO).N) (h0 : ¬cond0_0 (grid0.coords t)) (h1 : cond0_1 (grid0.coords t)) (r : Fin 960) (l : Fin 3072) :
    (outsAt0 m hO c t.val t.isLt).2.1 (ix2 r l)
      = ((show FVec Ideal S960x3072 .f32 from (outsAt0 m hO c t.val t.isLt).2.2) (ix2 r l) * (show FVec Ideal S960x1 .f32 from iblk m hO c 5 t) (ix2 r 0) : EReal) := by
  by_cases h3 : k0_cond3 (act_at m c t) = 1#1
  · rw [outsAt0_C1 m hO c t h0 h1 h3]
    dsimp only [tup_C1]
    exact dx_C1 ..
  · rw [outsAt0_C0 m hO c t h0 h1 h3]
    dsimp only [tup_C0]
    exact dx_C0 ..

/-- The accumulator is the sum of the points' products. -/
theorem acc_sum (r : Fin 960) (l : Fin 3072) : ∀ (n : ℕ) (h : n < (cfgM m hO).N),
    (outsAt0 m hO c n h).2.2 (ix2 r l) = (∑ i : Fin (n + 1), (pAt m hO c ⟨i.val, by omega⟩ (ix2 r l) : EReal))
  | 0, h => by
    rw [Fin.sum_univ_one]
    refine (congrFun (acc_first m hO c ⟨0, h⟩ ((hcond0_0 ⟨0, h⟩).mpr (Nat.zero_mod _))) (ix2 r l)).trans ?_
    exact zero_add _
  | n + 1, h => by
    rw [Fin.sum_univ_castSucc]
    have hN : (cfgM m hO).N = 251 := N_0
    have h0 : ¬cond0_0 (grid0.coords (⟨n + 1, h⟩ : Fin grid0.N)) := fun h' => by
      have := (hcond0_0 ⟨n + 1, h⟩).mp h'
      simp only at this
      omega
    refine (congrFun (acc_next m hO c ⟨n + 1, h⟩ h0) (ix2 r l)).trans ?_
    exact congrArg₂ (fun a b : EReal => a + b) (acc_sum r l n (by omega)) rfl

end Cert.KernelIdeal.Gen
-- ==== Proof.KI.Blocks.lean ====
/- Where the windows lie: the block of each window at a point, at coordinates of its array. -/
module

public import proofs.«01_k».proof.Proof.KI.Step

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ) (hO : Ok m) (c : Dev nD)

theorem ax_mul {z a s r q : ℕ} (e : z = a) (h : a * s + r = q) : z * s + r = q := e ▸ h
theorem ax_one {z a r q : ℕ} (e : z = a) (h : a + r = q) : z + r = q := e ▸ h

theorem off1 (i : grid0.Coords) : k0_off1 i 0 = (i 0).val := by
  have h : (i 0).val < 251 := (i 0).isLt
  show (BitVec.ofNat 32 (i 0).val).toNat = (i 0).val
  rw [BitVec.toNat_ofNat]
  exact Nat.mod_eq_of_lt (by omega)

theorem off2 (i : grid0.Coords) : k0_off2 i 0 = (i 0).val := by
  have h : (i 0).val < 251 := (i 0).isLt
  show (BitVec.ofNat 32 (i 0).val).toNat = (i 0).val
  rw [BitVec.toNat_ofNat]
  exact Nat.mod_eq_of_lt (by omega)

theorem word_ix (r : Rect S251) (y : r.shape.Idx) (n : Fin 251) (h0 : r.off 0 = n.val) (h1 : (y 0).val = 0) : r.emb y = (ix1 n : S251.Idx) := by
  refine (eq_ix1 _).trans (congrArg ix1 (Fin.ext ?_))
  show r.off 0 + r.stride 0 * (y 0).val = n.val
  rw [h1, h0]; rfl

theorem idx_0 (t : Fin (cfgM m hO).N) : ((cfgM m hO).win 0).index t = ![(tbl m 0 (ix1 (grid0.coords t 0))).toNat, 0, 0] := by
  refine (show _ = ![(tbl m 0 ((Rect.unit (s := S251) (k0_off1 (grid0.coords t)) S1.size (k0_off1_inb _)).emb (Shape.Idx.first (numel1_S1.symm ▸ Nat.one_pos)))).toNat, 0, 0] from rfl).trans ?_
  rw [word_ix _ _ (grid0.coords t 0) (off1 _) rfl]

theorem idx_1 (t : Fin (cfgM m hO).N) : ((cfgM m hO).win 1).index t = ![(tbl m 2 (ix1 (grid0.coords t 0))).toNat, 0] := by
  refine (show _ = ![(tbl m 2 ((Rect.unit (s := S251) (k0_off1 (grid0.coords t)) S1.size (k0_off1_inb _)).emb (Shape.Idx.first (numel1_S1.symm ▸ Nat.one_pos)))).toNat, 0] from rfl).trans ?_
  rw [word_ix _ _ (grid0.coords t 0) (off1 _) rfl]

theorem idx_2 (t : Fin (cfgM m hO).N) : ((cfgM m hO).win 2).index t = ![(tbl m 2 (ix1 (grid0.coords t 0))).toNat, 0, 0] := by
  refine (show _ = ![(tbl m 2 ((Rect.unit (s := S251) (k0_off1 (grid0.coords t)) S1.size (k0_off1_inb _)).emb (Shape.Idx.first (numel1_S1.symm ▸ Nat.one_pos)))).toNat, 0, 0] from rfl).trans ?_
  rw [word_ix _ _ (grid0.coords t 0) (off1 _) rfl]

theorem act_word (t : Fin (cfgM m hO).N) : act_at m c t = tbl m 1 (ix1 (grid0.coords t 0)) := by
  refine (show _ = tbl m 1 ((Rect.unit (s := S251) (k0_off2 (grid0.coords t)) S1.size (k0_off2_inb _)).emb (Shape.Idx.first (numel1_S1.symm ▸ Nat.one_pos))) from rfl).trans ?_
  rw [word_ix _ _ (grid0.coords t 0) (off2 _) rfl]

theorem cond3_word (w : BitVec 32) : k0_cond3 w = 1#1 ↔ w ≠ 0#32 := by
  simp only [k0_cond3]
  by_cases h : w = 0#32
  · subst h; decide
  · have hb : (w == 0#32) = false := by simpa using h
    simp [Scalar.cmpi, Scalar.extui, IntOp.cmpi, hb, bne, h]

theorem coords_val : ∀ t : Fin (cfgM m hO).N, (grid0.coords t 0).val = t.val :=
  (by decide +kernel : ∀ t : Fin grid0.N, (grid0.coords t 0).val = t.val)

theorem idx_3 (t : Fin (cfgM m hO).N) : ((cfgM m hO).win 3).index t = ![0, 0] := rfl
theorem idx_4 (t : Fin (cfgM m hO).N) : ((cfgM m hO).win 4).index t = ![0, 0] := rfl
theorem idx_5 (t : Fin (cfgM m hO).N) : ((cfgM m hO).win 5).index t = ![0, 0] := rfl
theorem idx_6 (t : Fin (cfgM m hO).N) : ((cfgM m hO).win 6).index t = ![0, 0] := rfl
theorem idx_7 (t : Fin (cfgM m hO).N) : ((cfgM m hO).win 7).index t = ![0, (grid0.coords t 0).val] := by
  have h : (grid0.coords t 0).val < 251 := (grid0.coords t 0).isLt
  refine (show _ = ![0, (BitVec.ofNat 32 (grid0.coords t 0).val).toNat] from rfl).trans ?_
  rw [BitVec.toNat_ofNat, Nat.mod_eq_of_lt (by omega)]

theorem blk_0 (t : Fin (cfgM m hO).N) (n : Fin 251) (h : (tbl m 0 (ix1 (grid0.coords t 0))).toNat = n.val) (r : Fin 960) (l : Fin 512) :
    (show FVec Ideal S1x960x512 .f32 from iblk m hO c 0 t) (ix3 0 r l) = (show FVec Ideal S251x960x512 .f32 from V m c main_arg3) (ix3 n r l) := by
  have e : (pcfg0.win (adm m hO) 0).index t = _ := idx_0 m hO t
  blk_point [iblk, V, e]
  · exact ax_one (congrFun e (0 : Fin 3)) ((Nat.add_zero _).trans h)
  · exact ax_mul (congrFun e (1 : Fin 3)) (by simp [h])
  · exact ax_mul (congrFun e (2 : Fin 3)) (by simp [h])

theorem blk_1 (t : Fin (cfgM m hO).N) (n : Fin 251) (h : (tbl m 2 (ix1 (grid0.coords t 0))).toNat = n.val) (k : Fin 512) (l : Fin 3072) :
    (show FVec Ideal S512x3072 .fp8e4m3 from iblk m hO c 1 t) (ix2 k l) = (show FVec Ideal S128512x3072 .fp8e4m3 from V m c main_arg4) (ix2 ⟨n.val * 512 + k.val, by omega⟩ l) := by
  have e : (pcfg0.win (adm m hO) 1).index t = _ := idx_1 m hO t
  blk_point [iblk, V, e]
  · exact ax_mul (congrFun e (0 : Fin 2)) (congrArg (fun z : ℕ => z * 512 + k.val) h)
  · exact ax_mul (congrFun e (1 : Fin 2)) (by simp [h])

theorem blk_2 (t : Fin (cfgM m hO).N) (n : Fin 251) (h : (tbl m 2 (ix1 (grid0.coords t 0))).toNat = n.val) (k : Fin 512) :
    (show FVec Ideal S1x1x512 .f32 from iblk m hO c 2 t) (ix3 0 0 k) = (show FVec Ideal S251x1x512 .f32 from V m c main_arg5) (ix3 n 0 k) := by
  have e : (pcfg0.win (adm m hO) 2).index t = _ := idx_2 m hO t
  blk_point [iblk, V, e]
  · exact ax_one (congrFun e (0 : Fin 3)) ((Nat.add_zero _).trans h)
  · exact ax_one (congrFun e (1 : Fin 3)) (by simp [h])
  · exact ax_mul (congrFun e (2 : Fin 3)) (by simp [h])

theorem blk_3 (t : Fin (cfgM m hO).N) (r : Fin 960) :
    (show Vec Ideal S960x1 .i32 from iblk m hO c 3 t) (ix2 r 0) = (show Vec Ideal S960x1 .i32 from V m c main_arg6) (ix2 r 0) := by
  have e : (pcfg0.win (adm m hO) 3).index t = _ := idx_3 m hO t
  blk_point [iblk, V, e]
  · exact ax_mul (congrFun e (0 : Fin 2)) (by simp)
  · exact ax_one (congrFun e (1 : Fin 2)) (by simp)

theorem blk_4 (t : Fin (cfgM m hO).N) (r : Fin 960) :
    (show FVec Ideal S960x1 .f32 from iblk m hO c 4 t) (ix2 r 0) = (show FVec Ideal S960x1 .f32 from V m c main_arg7) (ix2 r 0) := by
  have e : (pcfg0.win (adm m hO) 4).index t = _ := idx_4 m hO t
  blk_point [iblk, V, e]
  · exact ax_mul (congrFun e (0 : Fin 2)) (by simp)
  · exact ax_one (congrFun e (1 : Fin 2)) (by simp)

theorem blk_5 (t : Fin (cfgM m hO).N) (r : Fin 960) :
    (show FVec Ideal S960x1 .f32 from iblk m hO c 5 t) (ix2 r 0) = (show FVec Ideal S960x1 .f32 from V m c main_arg8) (ix2 r 0) := by
  have e : (pcfg0.win (adm m hO) 5).index t = _ := idx_5 m hO t
  blk_point [iblk, V, e]
  · exact ax_mul (congrFun e (0 : Fin 2)) (by simp)
  · exact ax_one (congrFun e (1 : Fin 2)) (by simp)

theorem blk_6 (t : Fin (cfgM m hO).N) (r : Fin 960) :
    (show FVec Ideal S960x1 .f32 from iblk m hO c 6 t) (ix2 r 0) = (show FVec Ideal S960x1 .f32 from V m c main_arg9) (ix2 r 0) := by
  have e : (pcfg0.win (adm m hO) 6).index t = _ := idx_6 m hO t
  blk_point [iblk, V, e]
  · exact ax_mul (congrFun e (0 : Fin 2)) (by simp)
  · exact ax_one (congrFun e (1 : Fin 2)) (by simp)

theorem xsize_7 (t : Fin (cfgM m hO).N) (a : Fin 2) : ((cfgM m hO).win 7).xsize (grid0.coords t) a = (clip0_7 (grid0.coords t) a).extent (S960x512.size a) := rfl
theorem xsize_8 (t : Fin (cfgM m hO).N) (a : Fin 2) : ((cfgM m hO).win 8).xsize (grid0.coords t) a = S960x3072.size a := rfl

end Cert.KernelIdeal.Gen
-- ==== Proof.KI.Arrays.lean ====
/- The arrays at the end of the run: the codes, block by block, and the gradient, one sum over the blocks. -/
module

public import proofs.«01_k».proof.Proof.KI.Blocks

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ) (hO : Ok m) (c : Dev nD)

theorem flush_7 : ∀ t : Fin (cfgM m hO).N, ((cfgM m hO).win 7).flush t = true :=
  (by decide +kernel : ∀ t : Fin grid0.N, Pipeline.Window.flushOf grid0 true cc0_transform_7 t = true)

theorem flush_8 : ∀ t : Fin (cfgM m hO).N, ((cfgM m hO).win 8).flush t = true → t.val = 250 :=
  (by decide +kernel : ∀ t : Fin grid0.N, Pipeline.Window.flushOf grid0 true cc0_transform_8 t = true → t.val = 250)

theorem flush_8' : ∀ t : Fin (cfgM m hO).N, t.val = 250 → ((cfgM m hO).win 8).flush t = true :=
  (by decide +kernel : ∀ t : Fin grid0.N, t.val = 250 → Pipeline.Window.flushOf grid0 true cc0_transform_8 t = true)

theorem full_7 : ∀ (t : Fin grid0.N) (a : Fin 2), (clip0_7 (grid0.coords t) a).extent (S960x512.size a) = S960x512.size a
    ∨ S960x128256.size a ≤ cc0_transform_7 (grid0.coords t) a * S960x512.size a + (clip0_7 (grid0.coords t) a).extent (S960x512.size a) := by
  decide +kernel

theorem idx_8 (t : Fin (cfgM m hO).N) : ((cfgM m hO).win 8).index t = ![0, 0] := rfl

theorem covers_7 : ((cfgM m hO).win 7).Covers := by
  refine ⟨(by decide +kernel : ∀ a : Fin 2, 0 < S960x512.size a), fun β => ?_⟩
  have b0 : (β (0 : Fin 2)).val < 1 := (β (0 : Fin 2)).isLt.trans_eq
    ((show ((cfgM m hO).win 7).nblk (0 : Fin 2) = (S960x128256.size 0 + S960x512.size 0 - 1) / S960x512.size 0 from rfl).trans (by decide +kernel))
  have b1 : (β (1 : Fin 2)).val < 251 := (β (1 : Fin 2)).isLt.trans_eq
    ((show ((cfgM m hO).win 7).nblk (1 : Fin 2) = (S960x128256.size 1 + S960x512.size 1 - 1) / S960x512.size 1 from rfl).trans (by decide +kernel))
  refine ⟨⟨(β (1 : Fin 2)).val, b1.trans_eq N_0.symm⟩, flush_7 m hO _, fun a => ⟨?_, full_7 _ a⟩⟩
  rw [idx_7]
  rw [coords_val m hO]
  have : ∀ a : Fin 2, (![0, (β (1 : Fin 2)).val] : Fin 2 → ℕ) a = (β a).val := fun a => by
    match a with
    | 0 => exact (Nat.lt_one_iff.mp b0).symm
    | 1 => rfl
  exact this a

theorem whole_8 : ((cfgM m hO).win 8).WholeAt ⟨250, (by decide +kernel : 250 < grid0.N)⟩ :=
  ⟨flush_8' m hO _ rfl, fun t h => Fin.ext (flush_8 m hO t h), (by decide +kernel : ∀ a : Fin 2, ![0, 0] a = 0 ∧ S960x3072.size a = S960x3072.size a)⟩

/-- The codes' array. -/
def gArr : FVec Ideal S960x128256 .fp8e5m2 := fun i =>
  gAt m hO c ⟨(i 1).val / 512, by have : (i 1).val < 128256 := (i 1).isLt; have : (cfgM m hO).N = 251 := N_0; omega⟩
    (ix2 (i 0) ⟨(i 1).val % 512, Nat.mod_lt _ (by decide)⟩)

theorem gArr_at (t : Fin (cfgM m hO).N) (r : Fin 960) (l : Fin 512) (i : S960x128256.Idx) (h0 : (i 0).val = r.val) (h1 : (i 1).val = t.val * 512 + l.val) :
    gArr m hO c i = gAt m hO c t (ix2 r l) := by
  have ht : (⟨(i 1).val / 512, by have : (i 1).val < 128256 := (i 1).isLt; have : (cfgM m hO).N = 251 := N_0; omega⟩ : Fin (cfgM m hO).N) = t :=
    Fin.ext (by show (i 1).val / 512 = t.val; omega)
  have hl : (⟨(i 1).val % 512, Nat.mod_lt _ (by decide)⟩ : Fin 512) = l := Fin.ext (by show (i 1).val % 512 = l.val; omega)
  have hr : i 0 = r := Fin.ext h0
  unfold gArr
  rw [ht, hl, hr]

theorem arr_7 : (dats m hO 0 c).arrAt 7 (cfgM m hO).N = gArr m hO c := by
  refine (dats m hO 0 c).arrAt_eq_of_covers 7 _ (covers_7 m hO) fun t hf y => ?_
  blk_simp
  rw [after0_7, codes_at]
  have i7 : ((cfgM m hO).win 7).index t = ![0, (grid0.coords t 0).val] := idx_7 m hO t
  have e0 : ((((cfgM m hO).win 7).blk t).view.emb y (0 : Fin 2)).val = (y (0 : Fin 2)).val :=
    (((cfgM m hO).win 7).rect_emb_val t y (0 : Fin 2) rfl).trans (ax_mul (congrFun i7 (0 : Fin 2)) ((congrArg (· + _) (Nat.zero_mul _)).trans (Nat.zero_add _)))
  have e1 : ((((cfgM m hO).win 7).blk t).view.emb y (1 : Fin 2)).val = t.val * 512 + (y (1 : Fin 2)).val :=
    (((cfgM m hO).win 7).rect_emb_val t y (1 : Fin 2) rfl).trans
      (ax_mul ((congrFun i7 (1 : Fin 2)).trans (coords_val m hO t)) rfl)
  refine (congrArg (gAt m hO c t) (eq_ix2 _)).trans (gArr_at m hO c t _ _ _ e0 e1).symm

/-- The gradient's array. -/
def dxArr : FVec Ideal S960x3072 .bf16 := fun i =>
  ((∑ n : Fin 251, (pAt m hO c ⟨n.val, n.isLt.trans_eq N_0.symm⟩ (ix2 (i 0) (i 1)) : EReal)) * (show FVec Ideal S960x1 .f32 from V m c main_arg8) (ix2 (i 0) 0) : EReal)

theorem arr_8 : (dats m hO 0 c).arrAt 8 (cfgM m hO).N = dxArr m hO c := by
  refine (dats m hO 0 c).arrAt_eq_of_after_last 8 _ (whole_8 m hO) _ fun j => ?_
  blk_simp
  rw [after0_8]
  have hN : (cfgM m hO).N = 251 := N_0
  have hlt : 250 < (cfgM m hO).N := by omega
  refine (congrArg (outsAt0 m hO c 250 hlt).2.1 (eq_ix2 _)).trans ?_
  refine (dx_at m hO c ⟨250, hlt⟩ (fun h => by have := (hcond0_0 _).mp h; simp at this) ((hcond0_1 _).mpr (by simp)) (j (0 : Fin 2)) (j (1 : Fin 2))).trans ?_
  unfold dxArr
  exact congrArg₂ (fun a b : EReal => a * b) (acc_sum m hO c _ _ 250 hlt) (blk_5 m hO c ⟨250, hlt⟩ (j (0 : Fin 2)))

end Cert.KernelIdeal.Gen
-- ==== Proof.KI.Point.lean ====
/- The codes and the products of a point, in terms of the arguments. -/
module

public import proofs.«01_k».proof.Proof.KI.Arrays

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ) (hO : Ok m) (c : Dev nD)

/-- Grid point `n`. -/
abbrev gp (n : Fin 251) : Fin (cfgM m hO).N := ⟨n.val, n.isLt.trans_eq N_0.symm⟩

theorem gp_coord (n : Fin 251) : grid0.coords (gp m hO n) 0 = n := Fin.ext (coords_val m hO _)

/-- The word of block `n` in the activity table. -/
abbrev actWord (n : Fin 251) : BitVec 32 := tbl m 1 (ix1 n)

/-- The code of row `r`, lane `l` of an active block `n`, whose logits lie at `p`. -/
def codeOf (n p : Fin 251) (r : Fin 960) (l : Fin 512) : EReal :=
  code (BitVec.ofNat 32 n.val) ((show Vec Ideal S960x1 .i32 from V m c main_arg6) (ix2 r 0)) l ((show FVec Ideal S251x960x512 .f32 from V m c main_arg3) (ix3 p r l))
    ((show FVec Ideal S960x1 .f32 from V m c main_arg7) (ix2 r 0)) ((show FVec Ideal S960x1 .f32 from V m c main_arg9) (ix2 r 0))

/-- The product of an active block. -/
def prodOf (n p : Fin 251) (r : Fin 960) (d : Fin 3072) : EReal :=
  ∑ k : Fin 512, codeOf m c n p r k * (show FVec Ideal S251x1x512 .f32 from V m c main_arg5) (ix3 n 0 k)
    * wmask (BitVec.ofNat 32 n.val) k ((show FVec Ideal S128512x3072 .fp8e4m3 from V m c main_arg4) (ix2 ⟨n.val * 512 + k.val, by omega⟩ d))

theorem gAt_eq (n p : Fin 251) (hp : (tbl m 0 (ix1 n)).toNat = p.val) (r : Fin 960) (l : Fin 512) :
    gAt m hO c (gp m hO n) (ix2 r l) = if actWord m n = 0#32 then (0 : EReal) else codeOf m c n p r l := by
  have e := gp_coord m hO n
  have hp' : (tbl m 0 (ix1 (grid0.coords (gp m hO n) 0))).toNat = p.val := by rw [e]; exact hp
  unfold gAt
  by_cases h : actWord m n = 0#32
  · rw [if_pos h, if_neg]
    rw [cond3_word, act_word m hO c, e]
    exact fun h' => h' h
  · rw [if_neg h, if_pos]
    · have b0 := blk_0 m hO c (gp m hO n) p hp' r l
      have b3 := blk_3 m hO c (gp m hO n) r
      have b4 := blk_4 m hO c (gp m hO n) r
      have b6 := blk_6 m hO c (gp m hO n) r
      dsimp only at b0 b3 b4 b6
      unfold codeBlk codeOf pt
      rw [e]
      dsimp only
      rw [← b0, ← b3, ← b4, ← b6]
      rfl
    · rw [cond3_word, act_word m hO c, e]
      exact h

theorem pAt_eq (n p : Fin 251) (hp : (tbl m 0 (ix1 n)).toNat = p.val) (hw : actWord m n = 0#32 ∨ (tbl m 2 (ix1 n)).toNat = n.val)
    (r : Fin 960) (d : Fin 3072) :
    pAt m hO c (gp m hO n) (ix2 r d) = if actWord m n = 0#32 then (0 : EReal) else prodOf m c n p r d := by
  have e := gp_coord m hO n
  have hp' : (tbl m 0 (ix1 (grid0.coords (gp m hO n) 0))).toNat = p.val := by rw [e]; exact hp
  unfold pAt
  by_cases h : actWord m n = 0#32
  · rw [if_pos h, if_neg]
    rw [cond3_word, act_word m hO c, e]
    exact fun h' => h' h
  · rw [if_neg h, if_pos]
    · have hw' : (tbl m 2 (ix1 (grid0.coords (gp m hO n) 0))).toNat = n.val := by rw [e]; exact hw.resolve_left h
      have b3 := blk_3 m hO c (gp m hO n) r
      have b4 := blk_4 m hO c (gp m hO n) r
      have b6 := blk_6 m hO c (gp m hO n) r
      dsimp only at b3 b4 b6
      unfold prodBlk prodOf codeOf pt
      rw [e]
      dsimp only
      refine Finset.sum_congr rfl fun k _ => ?_
      have b0 := blk_0 m hO c (gp m hO n) p hp' r k
      have b1 := blk_1 m hO c (gp m hO n) n hw' k d
      have b2 := blk_2 m hO c (gp m hO n) n hw' k
      dsimp only at b0 b1 b2
      rw [← b0, ← b1, ← b2, ← b3, ← b4, ← b6]
      rfl
    · rw [cond3_word, act_word m hO c, e]
      exact h

end Cert.KernelIdeal.Gen
-- ==== Proof.RI.Reads.lean ====
/- What the reference reads: the host operands and the blocks, at coordinates. -/
module

public import proofs.«01_k».proof.Proof.Gen.ReferenceIdeal.Value
public import Idealize.ShloMosaic.Lib.Pipeline.ValueKit
public import Idealize.ShloMosaic.Lib.Pointwise
public import Idealize.ShloMosaic.Lib.Claim

@[expose] public section

set_option maxRecDepth 16384

noncomputable section

namespace Cert.ReferenceIdeal.Gen

open Idealize.ShloMosaic Idealize.ShloMosaic.TcCoe Idealize.SL.Sem

variable (m : (ℓ : Loc nD τ sig) → Buf (Elt Ideal) ℓ) (c : Dev nD)

theorem read_v9 (v : Fin 128256) : (show FVec Ideal S128256x1 .f32 from V m c main_v9) (ix2 v 0)
    = (show FVec Ideal S251x1x512 .f32 from m (c.tc.loc main_arg5)) (ix3 ⟨v.val / 512, by omega⟩ 0 ⟨v.val % 512, Nat.mod_lt _ (by decide)⟩) := by
  dsimp only
  entry_read
  simp only [List.flatten_cons, List.flatten_nil, List.append_nil, hostOps0, hostOps0_1, List.cons_append, List.nil_append]
  after_results
  pointwise

theorem read_v7 (v : Fin 128256) : (show Vec Ideal S1x128256 .i32 from V m c main_v7) (ix2 0 v)
    = (show Vec Ideal S251 .i32 from m (c.tc.loc main_arg1)) (ix1 ⟨v.val / 512, by omega⟩) := by
  dsimp only
  entry_read
  simp only [List.flatten_cons, List.flatten_nil, List.append_nil, hostOps0, hostOps0_1, List.cons_append, List.nil_append]
  after_results
  pointwise

/-- A block of the logits, taken at a word that lies in range. -/
theorem gather_block (x : S251x960x512.Idx → EReal) (idx : IVec S251x1 32) (n p : Fin 251) (r : Fin 960) (l : Fin 512)
    (h : (idx (ix2 n 0)).toNat = p.val) :
    Host.gather gather_S251x960x512_S251x1_S251x960x512_12_0_n_n_0_1_1960512 x idx (ix3 n r l) = x (ix3 p r l) := by
  unfold Host.gather
  refine congrArg x (funext fun a => Fin.ext ?_)
  match a with
  | ⟨0, _⟩ =>
    show GatherDims.start _ (ix3 n r l) idx 0 + GatherDims.batchCoord _ (ix3 n r l) 0 + GatherDims.offCoord _ (ix3 n r l) 0 = p.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S251x960x512_S251x1_S251x960x512_12_0_n_n_0_1_1960512.startIndexMap from List.mem_singleton.mpr rfl)]
    have hsi : gather_S251x960x512_S251x1_S251x960x512_12_0_n_n_0_1_1960512.siIdx (ix3 n r l) ⟨List.idxOf (0 : Fin 3) gather_S251x960x512_S251x1_S251x960x512_12_0_n_n_0_1_1960512.startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    have hp := p.isLt
    have ht : (idx (ix2 n 0)).toInt = (p.val : Int) := by
      rw [BitVec.toInt_eq_toNat_of_lt (by omega), h]
    rw [ht]
    show min ((p.val : Int)).toNat (251 - 1) = p.val
    omega
  | ⟨1, _⟩ =>
    show GatherDims.start _ (ix3 n r l) idx 1 + GatherDims.batchCoord _ (ix3 n r l) 1 + GatherDims.offCoord _ (ix3 n r l) 1 = r.val
    rw [GatherDims.batchCoord_eq_zero _ _ _ List.not_mem_nil, Nat.add_zero]
    unfold GatherDims.start GatherDims.offCoord
    rw [dif_neg (show (1 : Fin 3) ∉ gather_S251x960x512_S251x1_S251x960x512_12_0_n_n_0_1_1960512.startIndexMap from by decide),
      dif_pos (show (1 : Fin 3) ∈ gather_S251x960x512_S251x1_S251x960x512_12_0_n_n_0_1_1960512.sKept from by decide), Nat.zero_add]
    rfl
  | ⟨2, _⟩ =>
    show GatherDims.start _ (ix3 n r l) idx 2 + GatherDims.batchCoord _ (ix3 n r l) 2 + GatherDims.offCoord _ (ix3 n r l) 2 = l.val
    rw [GatherDims.batchCoord_eq_zero _ _ _ List.not_mem_nil, Nat.add_zero]
    unfold GatherDims.start GatherDims.offCoord
    rw [dif_neg (show (2 : Fin 3) ∉ gather_S251x960x512_S251x1_S251x960x512_12_0_n_n_0_1_1960512.startIndexMap from by decide),
      dif_pos (show (2 : Fin 3) ∈ gather_S251x960x512_S251x1_S251x960x512_12_0_n_n_0_1_1960512.sKept from by decide), Nat.zero_add]
    rfl

theorem read_v3 (r : Fin 960) (v : Fin 128256) (p : Fin 251) (h : ((show Vec Ideal S251 .i32 from m (c.tc.loc main_arg0)) (ix1 ⟨v.val / 512, by omega⟩) : BitVec 32).toNat = p.val) :
    (show FVec Ideal S960x128256 .f32 from V m c main_v3) (ix2 r v)
    = (show FVec Ideal S251x960x512 .f32 from m (c.tc.loc main_arg3)) (ix3 p r ⟨v.val % 512, Nat.mod_lt _ (by decide)⟩) := by
  dsimp only
  entry_read
  simp only [List.flatten_cons, List.flatten_nil, List.append_nil, hostOps0, hostOps0_1, List.cons_append, List.nil_append]
  after_results
  pointwise
  have hb : (broadcastInDim S251x1 ![0] bcast_S251_S251x1_0 (show Vec Ideal S251 .i32 from m (c.tc.loc main_arg0)) : IVec S251x1 32) (ix2 ⟨v.val / 512, by omega⟩ 0)
      = (show Vec Ideal S251 .i32 from m (c.tc.loc main_arg0)) (ix1 ⟨v.val / 512, by omega⟩) := by pointwise
  exact gather_block _ _ _ p r _ ((congrArg BitVec.toNat hb).trans h)

theorem blk_0 (j : S960x128256.Idx) : (show FVec Ideal S960x128256 .f32 from iblk m c 0 t0_0) j = (show FVec Ideal S960x128256 .f32 from V m c main_v3) j := by
  have e : win0_0.index t0_0 = ![0, 0] := (by decide +kernel : ∀ t : Fin grid0.N, win0_0.index t = ![0, 0]) t0_0
  idx_vars j
  blk_point [iblk, e]

theorem blk_1 (j : S1x128256.Idx) : (show Vec Ideal S1x128256 .i32 from iblk m c 1 t0_0) j = (show Vec Ideal S1x128256 .i32 from V m c main_v7) j := by
  have e : win0_1.index t0_0 = ![0, 0] := (by decide +kernel : ∀ t : Fin grid0.N, win0_1.index t = ![0, 0]) t0_0
  idx_vars j
  blk_point [iblk, e]

theorem blk_2 (j : S128512x3072.Idx) : (show FVec Ideal S128512x3072 .fp8e4m3 from iblk m c 2 t0_0) j = (show FVec Ideal S128512x3072 .fp8e4m3 from V m c main_arg4) j := by
  have e : win0_2.index t0_0 = ![0, 0] := (by decide +kernel : ∀ t : Fin grid0.N, win0_2.index t = ![0, 0]) t0_0
  idx_vars j
  blk_point [iblk, e]

theorem blk_3 (j : S128256x1.Idx) : (show FVec Ideal S128256x1 .f32 from iblk m c 3 t0_0) j = (show FVec Ideal S128256x1 .f32 from V m c main_v9) j := by
  have e : win0_3.index t0_0 = ![0, 0] := (by decide +kernel : ∀ t : Fin grid0.N, win0_3.index t = ![0, 0]) t0_0
  idx_vars j
  blk_point [iblk, e]

theorem blk_4 (j : S960x1.Idx) : (show Vec Ideal S960x1 .i32 from iblk m c 4 t0_0) j = (show Vec Ideal S960x1 .i32 from V m c main_arg6) j := by
  have e : win0_4.index t0_0 = ![0, 0] := (by decide +kernel : ∀ t : Fin grid0.N, win0_4.index t = ![0, 0]) t0_0
  idx_vars j
  blk_point [iblk, e]

theorem blk_5 (j : S960x1.Idx) : (show FVec Ideal S960x1 .f32 from iblk m c 5 t0_0) j = (show FVec Ideal S960x1 .f32 from V m c main_arg7) j := by
  have e : win0_5.index t0_0 = ![0, 0] := (by decide +kernel : ∀ t : Fin grid0.N, win0_5.index t = ![0, 0]) t0_0
  idx_vars j
  blk_point [iblk, e]

theorem blk_6 (j : S960x1.Idx) : (show FVec Ideal S960x1 .f32 from iblk m c 6 t0_0) j = (show FVec Ideal S960x1 .f32 from V m c main_arg8) j := by
  have e : win0_6.index t0_0 = ![0, 0] := (by decide +kernel : ∀ t : Fin grid0.N, win0_6.index t = ![0, 0]) t0_0
  idx_vars j
  blk_point [iblk, e]

theorem blk_7 (j : S960x1.Idx) : (show FVec Ideal S960x1 .f32 from iblk m c 7 t0_0) j = (show FVec Ideal S960x1 .f32 from V m c main_arg9) j := by
  have e : win0_7.index t0_0 = ![0, 0] := (by decide +kernel : ∀ t : Fin grid0.N, win0_7.index t = ![0, 0]) t0_0
  idx_vars j
  blk_point [iblk, e]

end Cert.ReferenceIdeal.Gen
-- ==== Proof.RI.Arrays.lean ====
/- The reference at coordinates: its codes, and its gradient as one sum over the vocabulary. -/
module

public import proofs.«01_k».proof.Proof.RI.Reads

@[expose] public section

set_option maxRecDepth 16384

noncomputable section

namespace Cert.ReferenceIdeal.Gen

open Idealize.ShloMosaic Idealize.ShloMosaic.TcCoe Idealize.SL.Sem

variable (m : (ℓ : Loc nD τ sig) → Buf (Elt Ideal) ℓ) (c : Dev nD)

/-- The code of an element: its column `v`, the word `a` of its block's activity. -/
def rcode (t : BitVec 32) (v : Fin 128256) (a : BitVec 32) (lg lse inv : EReal) : EReal :=
  min (Ideal.ofBits FTy.f32 0x47600000#32) (max (Ideal.ofBits FTy.f32 0xC7600000#32)
    (if inv = 0 ∨ a = 0#32 then 0 else (Ideal.exp (lg - lse) -
      Scalar.select (IntOp.cmpi CmpIPredicate.eq (BitVec.ofNat 32 v.val) t) (1 : EReal) 0) * inv))

theorem select_both (x y : EReal) (a : BitVec 32) :
    Scalar.select (IntOp.andi (BitVec.ofBool (decide (x ≠ 0))) (IntOp.cmpi CmpIPredicate.ne a 0#32)) y 0 = if x = 0 ∨ a = 0#32 then 0 else y := by
  by_cases hx : x = 0
  · simp [hx, Scalar.select, IntOp.andi]
  · by_cases ha : a = 0#32
    · simp [ha, Scalar.select, IntOp.andi, IntOp.cmpi]
    · have hb : (a != 0#32) = true := by simpa using ha
      have h1 : IntOp.andi (BitVec.ofBool (decide (x ≠ 0))) (IntOp.cmpi CmpIPredicate.ne a 0#32) = 1#1 := by
        rw [decide_eq_true hx]
        show BitVec.ofBool true &&& BitVec.ofBool (a != 0#32) = 1#1
        rw [hb]; rfl
      rw [h1, if_neg (not_or.mpr ⟨hx, ha⟩)]
      rfl

section Pay

variable (x0 : Vec Ideal S960x128256 .f32) (x1 : Vec Ideal S1x128256 .i32) (x2 : Vec Ideal S128512x3072 .fp8e4m3) (x3 : Vec Ideal S128256x1 .f32)
  (x4 : Vec Ideal S960x1 .i32) (x5 x6 x7 : Vec Ideal S960x1 .f32)

theorem pay_codes (r : Fin 960) (v : Fin 128256) :
    k0_pay5 x0 x1 x2 x3 x4 x5 x6 x7 (ix2 r v)
      = rcode (x4 (ix2 r 0)) v (x1 (ix2 0 v)) (x0 (ix2 r v)) (x5 (ix2 r 0)) (x7 (ix2 r 0)) := by
  pointwise [k0_pay5, k0_pay2, rcode]
  rw [select_both]

theorem pay_dx (r : Fin 960) (d : Fin 3072) :
    k0_pay1 (k0_pay5 x0 x1 x2 x3 x4 x5 x6 x7) (k0_pay3 (View.ld x2 r0_3)) (k0_pay4 x3) x6 (ix2 r d)
      = (∑ v : Fin 128256, (show FVec Ideal S960x128256 .fp8e5m2 from k0_pay5 x0 x1 x2 x3 x4 x5 x6 x7) (ix2 r v) * (x2 (ix2 ⟨v.val, by omega⟩ d) * x3 (ix2 v 0))) * x6 (ix2 r 0) := by
  generalize k0_pay5 x0 x1 x2 x3 x4 x5 x6 x7 = g
  pointwise [k0_pay1, k0_pay3, k0_pay4]

end Pay

/-- The element's code, in terms of the operands. -/
def rcodeAt (r : Fin 960) (v : Fin 128256) : EReal :=
  rcode ((show Vec Ideal S960x1 .i32 from V m c main_arg6) (ix2 r 0)) v
    ((show Vec Ideal S1x128256 .i32 from V m c main_v7) (ix2 0 v))
    ((show FVec Ideal S960x128256 .f32 from V m c main_v3) (ix2 r v))
    ((show FVec Ideal S960x1 .f32 from V m c main_arg7) (ix2 r 0))
    ((show FVec Ideal S960x1 .f32 from V m c main_arg9) (ix2 r 0))

theorem codes_blk (r : Fin 960) (v : Fin 128256) :
    k0_pay5 (iblk m c 0 t0_0) (iblk m c 1 t0_0) (iblk m c 2 t0_0) (iblk m c 3 t0_0) (iblk m c 4 t0_0) (iblk m c 5 t0_0)
      (iblk m c 6 t0_0) (iblk m c 7 t0_0) (ix2 r v) = rcodeAt m c r v := by
  have b0 := blk_0 m c (ix2 r v)
  have b1 := blk_1 m c (ix2 0 v)
  have b4 := blk_4 m c (ix2 r 0)
  have b5 := blk_5 m c (ix2 r 0)
  have b7 := blk_7 m c (ix2 r 0)
  unfold rcodeAt
  rw [← b0, ← b1, ← b4, ← b5, ← b7]
  exact pay_codes _ _ _ _ _ _ _ _ r v

theorem arr_8 (r : Fin 960) (v : Fin 128256) : (show FVec Ideal S960x128256 .fp8e5m2 from (dats m 0 c).arrAt 8 cfg0.N) (ix2 r v) = rcodeAt m c r v := by
  refine ((dats m 0 c).arrAt_emb_eq_after_last 8 t0_0 (by decide +kernel) (ix2 r v)).trans ?_
  blk_simp
  rw [after0_8]
  frame_out
  exact codes_blk m c r v

theorem arr_9 (r : Fin 960) (d : Fin 3072) : (show FVec Ideal S960x3072 .bf16 from (dats m 0 c).arrAt 9 cfg0.N) (ix2 r d)
    = ((∑ v : Fin 128256, rcodeAt m c r v * ((show FVec Ideal S128512x3072 .fp8e4m3 from V m c main_arg4) (ix2 ⟨v.val, by omega⟩ d)
        * (show FVec Ideal S128256x1 .f32 from V m c main_v9) (ix2 v 0)))
      * (show FVec Ideal S960x1 .f32 from V m c main_arg8) (ix2 r 0) : EReal) := by
  refine ((dats m 0 c).arrAt_emb_eq_after_last 9 t0_0 (by decide +kernel) (ix2 r d)).trans ?_
  blk_simp
  rw [after0_9]
  frame_out
  refine (pay_dx (iblk m c 0 t0_0) (iblk m c 1 t0_0) (iblk m c 2 t0_0) (iblk m c 3 t0_0) (iblk m c 4 t0_0) (iblk m c 5 t0_0)
      (iblk m c 6 t0_0) (iblk m c 7 t0_0) r d).trans ?_
  refine congrArg₂ (fun a b : EReal => a * b) (Finset.sum_congr rfl fun v _ => ?_) (blk_6 m c (ix2 r 0))
  exact congrArg₂ (fun a b : EReal => a * b) (codes_blk m c r v) (congrArg₂ (fun a b : EReal => a * b) (blk_2 m c _) (blk_3 m c _))

end Cert.ReferenceIdeal.Gen
-- ==== Proof.Join.lean ====
/- The two forms of the codes and of the gradient are equal over the extended reals: block by block with a masked tail, and
   over the whole vocabulary. -/
module

public import proofs.«01_k».proof.Proof.KI.Pay
public import proofs.«01_k».proof.Proof.RI.Arrays

@[expose] public section

noncomputable section

namespace Cert.Join

open Idealize.ShloMosaic
open Cert.KernelIdeal.Gen (code wmask)
open Cert.ReferenceIdeal.Gen (rcode)

theorem ofBits_max : Ideal.ofBits FTy.f32 0x47600000#32 = ((57344 : ℝ) : EReal) := by
  simp [Ideal.ofBits, Ideal.ieee, -EReal.coe_mul]; norm_num

theorem ofBits_min : Ideal.ofBits FTy.f32 0xC7600000#32 = ((-57344 : ℝ) : EReal) := by
  simp [Ideal.ofBits, Ideal.ieee, -EReal.coe_mul, -EReal.coe_neg]; norm_num

/-- Zero is between the two bounds. -/
theorem clip_zero : min (Ideal.ofBits FTy.f32 0x47600000#32) (max (Ideal.ofBits FTy.f32 0xC7600000#32) 0) = 0 := by
  rw [ofBits_max, ofBits_min, max_eq_right, min_eq_right]
  · exact EReal.coe_nonneg.mpr (by norm_num)
  · exact EReal.coe_nonpos.mpr (by norm_num)

/-- The target, compared in a block's lanes or in the whole vocabulary. -/
theorem hot (n : Fin 251) (l : Fin 512) (v : ℕ) (hv : v = n.val * 512 + l.val) (t : BitVec 32) :
    IntOp.cmpi CmpIPredicate.eq (BitVec.ofNat 32 l.val) (IntOp.subi t (Scalar.muli (BitVec.ofNat 32 n.val) 512#32))
      = IntOp.cmpi CmpIPredicate.eq (BitVec.ofNat 32 v) t := by
  show BitVec.ofBool (BitVec.ofNat 32 l.val == t - BitVec.ofNat 32 n.val * 512#32) = BitVec.ofBool (BitVec.ofNat 32 v == t)
  congr 1
  rw [Bool.eq_iff_iff, beq_iff_eq, beq_iff_eq, hv, BitVec.ofNat_add, BitVec.ofNat_mul]
  constructor
  · intro h
    rw [h]
    rw [BitVec.add_comm]
    exact BitVec.sub_add_cancel _ _
  · intro h
    rw [← h]
    rw [BitVec.add_comm, BitVec.add_sub_cancel]

/-- One code. -/
theorem code_eq (n : Fin 251) (l : Fin 512) (v : Fin 128256) (hv : v.val = n.val * 512 + l.val) (a t : BitVec 32) (lg lse inv : EReal) :
    (if a = 0#32 then 0 else code (BitVec.ofNat 32 n.val) t l lg lse inv) = rcode t v a lg lse inv := by
  unfold code rcode
  rw [hot n l v.val hv t]
  by_cases ha : a = 0#32
  · rw [if_pos ha, if_pos (Or.inr ha), clip_zero]
  · rw [if_neg ha]
    by_cases hi : inv = 0
    · rw [if_pos hi, if_pos (Or.inl hi), clip_zero]
    · rw [if_neg hi, if_neg (not_or.mpr ⟨hi, ha⟩)]

/-- The weights' mask: zero past the vocabulary's end. -/
theorem wmask_eq (n : Fin 251) (k : Fin 512) (w : EReal) :
    wmask (BitVec.ofNat 32 n.val) k w = if n.val * 512 + k.val < 128256 then w else 0 := by
  have hn := n.isLt
  have hk := k.isLt
  have e1 : Scalar.cmpi CmpIPredicate.eq (BitVec.ofNat 32 n.val) 250#32 = BitVec.ofBool (decide (n.val = 250)) := by
    show BitVec.ofBool (BitVec.ofNat 32 n.val == 250#32) = _
    congr 1
    rw [Bool.eq_iff_iff, beq_iff_eq, decide_eq_true_iff]
    constructor
    · intro h
      have := congrArg BitVec.toNat h
      rw [BitVec.toNat_ofNat, Nat.mod_eq_of_lt (by omega)] at this
      exact this
    · intro h; rw [h]
  have e2 : IntOp.cmpi CmpIPredicate.sge (BitVec.ofNat 32 k.val) 256#32 = BitVec.ofBool (decide (256 ≤ k.val)) := by
    show BitVec.ofBool (decide ((256#32).toInt ≤ (BitVec.ofNat 32 k.val).toInt)) = _
    congr 1
    rw [Bool.eq_iff_iff, decide_eq_true_iff, decide_eq_true_iff]
    have hk' : (BitVec.ofNat 32 k.val).toNat = k.val := by rw [BitVec.toNat_ofNat, Nat.mod_eq_of_lt (by omega)]
    have ht : (BitVec.ofNat 32 k.val).toInt = (k.val : Int) := by
      rw [BitVec.toInt_eq_toNat_of_lt (by omega), hk']
    rw [ht]
    show (256 : Int) ≤ _ ↔ _
    omega
  unfold wmask
  rw [e1, e2]
  by_cases h : n.val * 512 + k.val < 128256
  · rw [if_pos h]
    have : ¬(n.val = 250 ∧ 256 ≤ k.val) := by omega
    by_cases h1 : n.val = 250
    · have h2 : ¬256 ≤ k.val := fun h2 => this ⟨h1, h2⟩
      rw [decide_eq_true h1, decide_eq_false h2]; rfl
    · rw [decide_eq_false h1]
      cases decide (256 ≤ k.val) <;> rfl
  · rw [if_neg h, decide_eq_true (show n.val = 250 by omega), decide_eq_true (show 256 ≤ k.val by omega)]
    rfl

/-- A sum with a zero tail. -/
theorem sum_tail {M : Type} [AddCommMonoid M] (a b : ℕ) (f : Fin a → M) :
    (∑ i : Fin (a + b), if h : i.val < a then f ⟨i.val, h⟩ else 0) = ∑ i, f i := by
  rw [Fin.sum_univ_add]
  simp

/-- The product: the sum over the blocks is the sum over the vocabulary. -/
theorem sum_eq (a : Fin 251 → BitVec 32) (t : BitVec 32) (lg : Fin 251 → Fin 512 → EReal) (lse inv : EReal) (w : Fin 128512 → EReal)
    (ws : Fin 251 → Fin 512 → EReal) :
    (∑ n : Fin 251, if a n = 0#32 then 0 else ∑ k : Fin 512, code (BitVec.ofNat 32 n.val) t k (lg n k) lse inv * ws n k
        * wmask (BitVec.ofNat 32 n.val) k (w ⟨n.val * 512 + k.val, by omega⟩))
      = ∑ v : Fin 128256, rcode t v (a ⟨v.val / 512, by omega⟩) (lg ⟨v.val / 512, by omega⟩ ⟨v.val % 512, Nat.mod_lt _ (by decide)⟩) lse inv
        * (w ⟨v.val, by omega⟩ * ws ⟨v.val / 512, by omega⟩ ⟨v.val % 512, Nat.mod_lt _ (by decide)⟩) := by
  refine Eq.trans ?_ (sum_tail 128256 256 _)
  refine Eq.trans ?_ (Fin.sum_univ_tiles 251 512 rfl _).symm
  refine Finset.sum_congr rfl fun n _ => ?_
  have hn := n.isLt
  have key : ∀ k : Fin 512, (if a n = 0#32 then 0 else code (BitVec.ofNat 32 n.val) t k (lg n k) lse inv) * ws n k
        * wmask (BitVec.ofNat 32 n.val) k (w ⟨n.val * 512 + k.val, by omega⟩)
      = if h : n.val * 512 + k.val < 128256 then rcode t ⟨n.val * 512 + k.val, h⟩ (a ⟨(n.val * 512 + k.val) / 512, by omega⟩)
          (lg ⟨(n.val * 512 + k.val) / 512, by omega⟩ ⟨(n.val * 512 + k.val) % 512, Nat.mod_lt _ (by decide)⟩) lse inv
        * (w ⟨n.val * 512 + k.val, by omega⟩ * ws ⟨(n.val * 512 + k.val) / 512, by omega⟩ ⟨(n.val * 512 + k.val) % 512, Nat.mod_lt _ (by decide)⟩) else 0 := by
    intro k
    have hk := k.isLt
    have en : (⟨(n.val * 512 + k.val) / 512, by omega⟩ : Fin 251) = n := Fin.ext (by show (n.val * 512 + k.val) / 512 = n.val; omega)
    have ek : (⟨(n.val * 512 + k.val) % 512, Nat.mod_lt _ (by decide)⟩ : Fin 512) = k := Fin.ext (by show (n.val * 512 + k.val) % 512 = k.val; omega)
    rw [wmask_eq]
    by_cases h : n.val * 512 + k.val < 128256
    · rw [if_pos h, dif_pos h, en, ek, code_eq n k ⟨n.val * 512 + k.val, h⟩ rfl, mul_assoc, mul_comm (ws n k)]
    · rw [if_neg h, dif_neg h, mul_zero]
  refine Eq.trans ?_ (Finset.sum_congr rfl fun k _ => key k)
  by_cases ha : a n = 0#32
  · simp only [if_pos ha, zero_mul, Finset.sum_const_zero]
  · simp only [if_neg ha]

end Cert.Join
-- ==== Proof.Final.lean ====
/- The kernel's two arrays are the reference's, from equal arguments. -/
module

public import proofs.«01_k».proof.Proof.KI.Point
public import proofs.«01_k».proof.Proof.Join

@[expose] public section

set_option maxRecDepth 16384

noncomputable section

namespace Cert.ReferenceIdeal.Gen

open Idealize.ShloMosaic Idealize.ShloMosaic.TcCoe Idealize.SL.Sem

variable (m : (ℓ : Loc nD τ sig) → Buf (Elt Ideal) ℓ) (c : Dev nD)

/-- The reference's code, in terms of the arguments. -/
theorem rcodeAt_eq (r : Fin 960) (v : Fin 128256) (p : Fin 251)
    (h : ((show Vec Ideal S251 .i32 from m (c.tc.loc main_arg0)) (ix1 ⟨v.val / 512, by omega⟩) : BitVec 32).toNat = p.val) :
    rcodeAt m c r v = rcode ((show Vec Ideal S960x1 .i32 from m (c.tc.loc main_arg6)) (ix2 r 0)) v
      ((show Vec Ideal S251 .i32 from m (c.tc.loc main_arg1)) (ix1 ⟨v.val / 512, by omega⟩))
      ((show FVec Ideal S251x960x512 .f32 from m (c.tc.loc main_arg3)) (ix3 p r ⟨v.val % 512, Nat.mod_lt _ (by decide)⟩))
      ((show FVec Ideal S960x1 .f32 from m (c.tc.loc main_arg7)) (ix2 r 0))
      ((show FVec Ideal S960x1 .f32 from m (c.tc.loc main_arg9)) (ix2 r 0)) := by
  have e3 := read_v3 m c r v p h
  have e7 := read_v7 m c v
  have a6 := congrFun (V_main_arg6 m c) (ix2 r 0)
  have a7 := congrFun (V_main_arg7 m c) (ix2 r 0)
  have a9 := congrFun (V_main_arg9 m c) (ix2 r 0)
  unfold rcodeAt
  dsimp only at e3 e7 a6 a7 a9 ⊢
  rw [e3, e7, a6, a7, a9]

end Cert.ReferenceIdeal.Gen

namespace Cert.Final

open Idealize.ShloMosaic Idealize.ShloMosaic.TcCoe Idealize.SL.Sem

variable (m : (ℓ : Loc Cert.KernelIdeal.nD Cert.KernelIdeal.τ Cert.KernelIdeal.sig) → Buf (Elt Ideal) ℓ)
  (hO : Cert.KernelIdeal.Gen.Ok m)
  (m' : (ℓ : Loc Cert.ReferenceIdeal.nD Cert.ReferenceIdeal.τ Cert.ReferenceIdeal.sig) → Buf (Elt Ideal) ℓ)

/-- The arguments agree. -/
def Agree : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

variable (hA : Agree m m')
  (hP : ∀ j, (Cert.KernelIdeal.Gen.tbl m 0 j : BitVec 32).toNat < 251)
  (hW : ∀ n : Fin 251, Cert.KernelIdeal.Gen.actWord m n = 0#32 ∨ (Cert.KernelIdeal.Gen.tbl m 2 (ix1 n) : BitVec 32).toNat = n.val)

/-- Where the logits of block `n` lie. -/
def pOf (n : Fin 251) : Fin 251 := ⟨(Cert.KernelIdeal.Gen.tbl m 0 (ix1 n) : BitVec 32).toNat, hP (ix1 n)⟩

include hA in
/-- The reference's code over the kernel's arguments. -/
theorem rcodeAt_kernel (r : Fin 960) (v : Fin 128256) :
    Cert.ReferenceIdeal.Gen.rcodeAt m' 0 r v
      = Cert.ReferenceIdeal.Gen.rcode ((show Vec Ideal Cert.KernelIdeal.S960x1 .i32 from Cert.KernelIdeal.Gen.V m 0 Cert.KernelIdeal.main_arg6) (ix2 r 0)) v
        (Cert.KernelIdeal.Gen.actWord m ⟨v.val / 512, by omega⟩)
        ((show FVec Ideal Cert.KernelIdeal.S251x960x512 .f32 from Cert.KernelIdeal.Gen.V m 0 Cert.KernelIdeal.main_arg3) (ix3 (pOf m hP ⟨v.val / 512, by omega⟩) r ⟨v.val % 512, Nat.mod_lt _ (by decide)⟩))
        ((show FVec Ideal Cert.KernelIdeal.S960x1 .f32 from Cert.KernelIdeal.Gen.V m 0 Cert.KernelIdeal.main_arg7) (ix2 r 0))
        ((show FVec Ideal Cert.KernelIdeal.S960x1 .f32 from Cert.KernelIdeal.Gen.V m 0 Cert.KernelIdeal.main_arg9) (ix2 r 0)) := by
  obtain ⟨a0, a1, -, a3, -, -, a6, a7, -, a9⟩ := hA 0
  have b0 := congrFun a0 (ix1 ⟨v.val / 512, by omega⟩)
  have hb := congrArg (fun x : BitVec 32 => x.toNat) b0
  refine (Cert.ReferenceIdeal.Gen.rcodeAt_eq m' 0 r v (pOf m hP ⟨v.val / 512, by omega⟩) hb).trans ?_
  have b1 := congrFun a1 (ix1 ⟨v.val / 512, by omega⟩)
  have b3 := congrFun a3 (ix3 (pOf m hP ⟨v.val / 512, by omega⟩) r ⟨v.val % 512, Nat.mod_lt _ (by decide)⟩)
  have b6 := congrFun a6 (ix2 r 0)
  have b7 := congrFun a7 (ix2 r 0)
  have b9 := congrFun a9 (ix2 r 0)
  have key : ∀ {t t' a a' : BitVec 32} {x x' y y' z z' : EReal}, t = t' → a = a' → x = x' → y = y' → z = z' →
      Cert.ReferenceIdeal.Gen.rcode t v a x y z = Cert.ReferenceIdeal.Gen.rcode t' v a' x' y' z' := by
    rintro _ _ _ _ _ _ _ _ _ _ rfl rfl rfl rfl rfl; rfl
  exact key b6 b1 b3 b7 b9

include hA hP in
/-- The codes. -/
theorem codes : Cert.KernelIdeal.Gen.gArr m hO 0
    = (show FVec Ideal Cert.ReferenceIdeal.S960x128256 .fp8e5m2 from (Cert.ReferenceIdeal.Gen.dats m' 0 0).arrAt 8 Cert.ReferenceIdeal.cfg0.N) := by
  funext i
  obtain ⟨r, v, rfl⟩ : ∃ (r : Fin 960) (v : Fin 128256), i = ix2 r v := ⟨i 0, i 1, eq_ix2 i⟩
  refine Eq.trans ?_ (Cert.ReferenceIdeal.Gen.arr_8 m' 0 r v).symm
  rw [rcodeAt_kernel m m' hA hP r v]
  refine (Cert.KernelIdeal.Gen.gArr_at m hO 0 (Cert.KernelIdeal.Gen.gp m hO ⟨v.val / 512, by omega⟩) r ⟨v.val % 512, Nat.mod_lt _ (by decide)⟩ (ix2 r v) rfl
    (by show v.val = v.val / 512 * 512 + v.val % 512; omega)).trans ?_
  refine (Cert.KernelIdeal.Gen.gAt_eq m hO 0 ⟨v.val / 512, by omega⟩ (pOf m hP ⟨v.val / 512, by omega⟩) rfl r _).trans ?_
  exact Cert.Join.code_eq ⟨v.val / 512, by omega⟩ ⟨v.val % 512, Nat.mod_lt _ (by decide)⟩ v
    (by show v.val = v.val / 512 * 512 + v.val % 512; omega) _ _ _ _ _

include hA hP hW in
/-- The gradient. -/
theorem dx : Cert.KernelIdeal.Gen.dxArr m hO 0
    = (show FVec Ideal Cert.ReferenceIdeal.S960x3072 .bf16 from (Cert.ReferenceIdeal.Gen.dats m' 0 0).arrAt 9 Cert.ReferenceIdeal.cfg0.N) := by
  funext i
  obtain ⟨r, d, rfl⟩ : ∃ (r : Fin 960) (d : Fin 3072), i = ix2 r d := ⟨i 0, i 1, eq_ix2 i⟩
  refine Eq.trans ?_ (Cert.ReferenceIdeal.Gen.arr_9 m' 0 r d).symm
  obtain ⟨-, -, -, -, a4, a5, -, -, a8, -⟩ := hA 0
  refine congrArg₂ (fun a b : EReal => a * b) ?_ (congrFun ((Cert.ReferenceIdeal.Gen.V_main_arg8 m' 0).trans a8) (ix2 r 0)).symm
  refine (Finset.sum_congr rfl fun n _ => Cert.KernelIdeal.Gen.pAt_eq m hO 0 n (pOf m hP n) rfl (hW n) r d).trans ?_
  refine (Cert.Join.sum_eq (fun n => Cert.KernelIdeal.Gen.actWord m n) _
    (fun n k => (show FVec Ideal Cert.KernelIdeal.S251x960x512 .f32 from Cert.KernelIdeal.Gen.V m 0 Cert.KernelIdeal.main_arg3) (ix3 (pOf m hP n) r k)) _ _
    (fun v => (show FVec Ideal Cert.KernelIdeal.S128512x3072 .fp8e4m3 from Cert.KernelIdeal.Gen.V m 0 Cert.KernelIdeal.main_arg4) (ix2 v d))
    (fun n k => (show FVec Ideal Cert.KernelIdeal.S251x1x512 .f32 from Cert.KernelIdeal.Gen.V m 0 Cert.KernelIdeal.main_arg5) (ix3 n 0 k))).trans ?_
  refine Finset.sum_congr rfl fun v _ => ?_
  refine congrArg₂ (fun a b : EReal => a * b) (rcodeAt_kernel m m' hA hP r v).symm ?_
  refine congrArg₂ (fun a b : EReal => a * b) (congrFun ((Cert.ReferenceIdeal.Gen.V_main_arg4 m' 0).trans a4) _).symm ?_
  exact ((Cert.ReferenceIdeal.Gen.read_v9 m' 0 v).trans (congrFun a5 _)).symm

end Cert.Final
-- ==== Proof.Lists.lean ====
/- What the forward call's preconditions say of the list of blocks and of the mask, element by element. -/
module

public import proofs.«01_k».proof.Proof.Tables
public import proofs.«01_k».proof.Proof.Gen.Pre_list_in_range
public import proofs.«01_k».proof.Proof.Gen.Pre_list_complete
public import Idealize.ShloMosaic.Lib.Pointwise

@[expose] public section

set_option maxRecDepth 16384

namespace Cert.Lists

open Idealize.ShloMosaic

instance : Subsingleton (Cert.Pre_list_in_range.S_).Idx := ⟨fun a b => funext fun i => i.elim0⟩

theorem or_cases : ∀ x y : BitVec 1, IntOp.ori x y = 1#1 → x = 1#1 ∨ y = 1#1 := by decide

/-- A signed word between 1 and 251. -/
theorem count_of_cmp (x : BitVec 32) (h : IntOp.andi (IntOp.cmpi .sge x 1#32) (IntOp.cmpi .sle x 251#32) = 1#1) : 1 ≤ x.toNat ∧ x.toNat ≤ 251 := by
  obtain ⟨h1, h2⟩ := IntOp.andi_eq_one.1 h
  have h1 : BitVec.ofBool (decide ((1#32).toInt ≤ x.toInt)) = 1#1 := h1
  have h2 : BitVec.ofBool (decide (x.toInt ≤ (251#32).toInt)) = 1#1 := h2
  have hb : ∀ b : Bool, BitVec.ofBool b = 1#1 → b = true := by decide
  have e1 : (1#32).toInt ≤ x.toInt := of_decide_eq_true (hb _ h1)
  have e2 : x.toInt ≤ (251#32).toInt := of_decide_eq_true (hb _ h2)
  simp [BitVec.toInt] at e1 e2
  have := x.isLt
  split at e1 <;> omega

/-- An index at or past the count, compared as signed words. -/
theorem ge_of_cmp (j : Fin 251) (x : BitVec 32) (hx : x.toNat ≤ 251) (h : IntOp.cmpi .sge (BitVec.ofNat 32 j.val) x = 1#1) : x.toNat ≤ j.val := by
  have h : BitVec.ofBool (decide (x.toInt ≤ (BitVec.ofNat 32 j.val).toInt)) = 1#1 := h
  have hb : ∀ b : Bool, BitVec.ofBool b = 1#1 → b = true := by decide
  have e := of_decide_eq_true (hb _ h)
  have hj := j.isLt
  have ej : (BitVec.ofNat 32 j.val).toNat = j.val := by rw [BitVec.toNat_ofNat, Nat.mod_eq_of_lt (by omega)]
  rw [BitVec.toInt_eq_toNat_of_lt (x := x) (by omega), BitVec.toInt_eq_toNat_of_lt (x := BitVec.ofNat 32 j.val) (by omega), ej] at e
  omega

/-- An index below the count, compared as signed words. -/
theorem lt_of_cmp (j : Fin 251) (x : BitVec 32) (hx : x.toNat ≤ 251) (h : IntOp.cmpi .slt (BitVec.ofNat 32 j.val) x = 1#1) : j.val < x.toNat := by
  have h : BitVec.ofBool (decide ((BitVec.ofNat 32 j.val).toInt < x.toInt)) = 1#1 := h
  have hb : ∀ b : Bool, BitVec.ofBool b = 1#1 → b = true := by decide
  have e := of_decide_eq_true (hb _ h)
  have hj := j.isLt
  have ej : (BitVec.ofNat 32 j.val).toNat = j.val := by rw [BitVec.toNat_ofNat, Nat.mod_eq_of_lt (by omega)]
  rw [BitVec.toInt_eq_toNat_of_lt (x := BitVec.ofNat 32 j.val) (by omega), BitVec.toInt_eq_toNat_of_lt (x := x) (by omega), ej] at e
  omega

/-- The first precondition: the count is between 1 and 251, and the listed blocks are blocks. -/
theorem in_range {F : FTy → Type} [FloatOps F] (o : IVec Cert.Pre_list_in_range.S251 32) (k : IVec Cert.Pre_list_in_range.S1 32) (a2 a3 a4 a5 a6 a7 a8)
    (h : Cert.Pre_list_in_range.fn (F := F) o k a2 a3 a4 a5 a6 a7 a8 = fun _ => 1#1) :
    (1 ≤ (k (ix1 0)).toNat ∧ (k (ix1 0)).toNat ≤ 251) ∧ ∀ j : Fin 251, j.val < (k (ix1 0)).toNat → (o (ix1 j)).toNat < 251 := by
  have e := congrFun h (fun i => i.elim0)
  unfold Cert.Pre_list_in_range.fn at e
  dsimp only at e
  obtain ⟨e1, e2⟩ := IntOp.andi_eq_one.1 e
  have hk : ∀ i, shapeCast Cert.Pre_list_in_range.S_ k (by decide +kernel) i = k (ix1 0) := fun i =>
    congrArg k ((eq_ix1 _).trans (congrArg ix1 (Subsingleton.elim (α := Fin 1) _ _)))
  obtain ⟨g1, g2⟩ := IntOp.andi_eq_one.1 e1
  have c := count_of_cmp (k (ix1 0)) (IntOp.andi_eq_one.2 ⟨(congrArg (fun x => IntOp.cmpi .sge x 1#32) (hk _)).symm.trans g1, (congrArg (fun x => IntOp.cmpi .sle x 251#32) (hk _)).symm.trans g2⟩)
  refine ⟨c, fun j hj => ?_⟩
  have f := Host.reduce_andi_all _ _ _ _ _ e2 (ix1 j)
  rcases or_cases _ _ f with g | g
  · exact absurd (ge_of_cmp j _ c.2 ((congrArg (fun x => IntOp.cmpi .sge (BitVec.ofNat 32 j.val) x) (hk _)).symm.trans g)) (by omega)
  · exact Cert.Tables.lt_of_cmp _ g

/-- A left fold by `or` that came out 1 started at 1 or met a 1. -/
theorem foldl_ori {ι : Type} (f : ι → BitVec 1) : ∀ (l : List ι) (init : BitVec 1), l.foldl (fun r n => IntOp.ori r (f n)) init = 1#1 → init = 1#1 ∨ ∃ n ∈ l, f n = 1#1
  | [], _, h => Or.inl h
  | a :: l, init, h => by
    rcases foldl_ori f l _ h with h' | ⟨n, hn, hf⟩
    · rcases or_cases _ _ h' with h'' | h''
      · exact Or.inl h''
      · exact Or.inr ⟨a, List.mem_cons_self .., h''⟩
    · exact Or.inr ⟨n, List.mem_cons_of_mem _ hn, hf⟩

/-- A reduce by `or` from 0 that is 1 met a 1. -/
theorem reduce_ori {s t u : Shape} {axes : List (Fin s.rank)} (x : s.Idx → BitVec 1) (init : u.Idx → BitVec 1) (h : s.ReducesTo axes t) (hu : 0 < u.numel)
    (hi : ∀ i, init i = 0#1) (j : t.Idx) (e : Host.reduce IntOp.ori x init h hu j = 1#1) : ∃ i : s.Idx, h.drop i = j ∧ x i = 1#1 := by
  rw [Host.reduce_eq_foldl] at e
  rcases foldl_ori x _ _ e with h0 | ⟨i, hm, hx⟩
  · rw [hi] at h0; exact absurd h0 (by decide)
  · exact ⟨i, by simpa using (List.mem_filter.mp hm).2, hx⟩

instance : Subsingleton (Cert.Pre_list_complete.S_).Idx := ⟨fun a b => funext fun i => i.elim0⟩

/-- Whether a word's block is listed, spread over the words. -/
theorem listed_at (x : IVec Cert.Pre_list_complete.S251 1) (h1 h2 h3 h4 h5) (r : Fin 960) (w : Fin 4008) :
    broadcastInDim Cert.Pre_list_complete.S960x4008 ![0, 1] h5
      (extractStridedSlice Cert.Pre_list_complete.S1x4008 ![0, 0] (shapeCast Cert.Pre_list_complete.S1x4016
        (broadcastInDim Cert.Pre_list_complete.S251x16 ![0, 1] h2 (broadcastInDim Cert.Pre_list_complete.S251x1 ![0] h1 x)) h3) h4) (ix2 r w) = x (ix1 ⟨w.val / 16, by omega⟩) := by
  pointwise

/-- The second precondition: besides, every column allowed by the mask is in a listed block. -/
theorem complete {F : FTy → Type} [FloatOps F] (o : IVec Cert.Pre_list_complete.S251 32) (k : IVec Cert.Pre_list_complete.S1 32) (a2 a3 a4 a5 a6 a7)
    (m2 : IVec Cert.Pre_list_complete.S960x4096 32)
    (h : Cert.Pre_list_complete.fn (F := F) o k a2 a3 a4 a5 a6 a7 m2 = fun _ => 1#1) :
    ((1 ≤ (k (ix1 0)).toNat ∧ (k (ix1 0)).toNat ≤ 251) ∧ ∀ j : Fin 251, j.val < (k (ix1 0)).toNat → (o (ix1 j)).toNat < 251)
    ∧ ∀ (r : Fin 960) (w : Fin 4008), (∃ j : Fin 251, j.val < (k (ix1 0)).toNat ∧ o (ix1 j) = BitVec.ofNat 32 (w.val / 16)) ∨ m2 (ix2 r ⟨w.val, by omega⟩) = 0#32 := by
  have e := congrFun h (fun i => i.elim0)
  unfold Cert.Pre_list_complete.fn Cert.Pre_list_complete.fn_part1 Cert.Pre_list_complete.fn_part2 at e
  dsimp only at e
  obtain ⟨e12, e3⟩ := IntOp.andi_eq_one.1 e
  obtain ⟨e1, e2⟩ := IntOp.andi_eq_one.1 e12
  have hk : ∀ i, shapeCast Cert.Pre_list_complete.S_ k (by decide +kernel) i = k (ix1 0) := fun i =>
    congrArg k ((eq_ix1 _).trans (congrArg ix1 (Subsingleton.elim (α := Fin 1) _ _)))
  obtain ⟨g1, g2⟩ := IntOp.andi_eq_one.1 e1
  have c := count_of_cmp (k (ix1 0)) (IntOp.andi_eq_one.2 ⟨(congrArg (fun x => IntOp.cmpi .sge x 1#32) (hk fun i => i.elim0)).symm.trans g1, (congrArg (fun x => IntOp.cmpi .sle x 251#32) (hk fun i => i.elim0)).symm.trans g2⟩)
  refine ⟨⟨c, fun j hj => ?_⟩, fun r w => ?_⟩
  · have f := Host.reduce_andi_all _ _ _ _ _ e2 (ix1 j)
    rcases or_cases _ _ f with g | g
    · exact absurd (ge_of_cmp j _ c.2 ((congrArg (fun x => IntOp.cmpi .sge (BitVec.ofNat 32 j.val) x) (hk fun i => i.elim0)).symm.trans g)) (by omega)
    · exact Cert.Tables.lt_of_cmp _ g
  · have f := Host.reduce_andi_all _ _ _ _ _ e3 (ix2 r w)
    rcases or_cases _ _ f with g | g
    · left
      have g' := (listed_at _ _ _ _ _ _ r w).symm.trans g
      obtain ⟨i, hi, hx⟩ := reduce_ori _ _ _ _ (fun _ => rfl) _ g'
      obtain ⟨a, b, rfl⟩ : ∃ (a : Fin 251) (b : Fin 251), i = ix2 a b := ⟨i 0, i 1, eq_ix2 i⟩
      have ha : a.val = w.val / 16 := congrArg Fin.val (congrFun hi (0 : Fin 1))
      obtain ⟨x1, x2⟩ := IntOp.andi_eq_one.1 hx
      refine ⟨b, lt_of_cmp b _ c.2 ((congrArg (fun x => IntOp.cmpi .slt (BitVec.ofNat 32 b.val) x) (hk fun i => i.elim0)).symm.trans ?_), ?_⟩
      · refine Eq.trans ?_ x2
        pointwise
      · refine (Cert.Tables.eq_of_cmp _ _ (Eq.trans ?_ x1)).trans (congrArg (BitVec.ofNat 32) ha)
        pointwise
    · right
      exact Cert.Tables.eq_of_cmp _ _ (Eq.trans (by pointwise) g)

end Cert.Lists
-- ==== Proof.FW.Runs.lean ====
/- What the frame of the forward kernel needs besides the body runs: the tables, the blocks, the condition of the first point. -/
module

public import proofs.«01_k».proof.Proof.Gen.Fwd.Launch
public import proofs.«01_k».proof.Proof.Gen.Fwd.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Fwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Core `c`'s buffers when the region is entered: after the one host operation, the reshape of `n_act`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  exact rfl

set_option maxHeartbeats 800000 in
/-- @main up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host operation changes its own result only. -/
theorem V_of_ne (c : Dev nD) (b : Ref sig .tc) (hb : main_v0 ≠ b) : V m c b = m ((c : Thread nD τ).loc b) :=
  StableHlo.reshape_result_ne main_arg1 main_v0 _ _ _ _ (fun b => m (c, b)) hb.symm
theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)
theorem V_main_arg3 (c : Dev nD) : V m c main_arg3 = m ((c : Thread nD τ).loc main_arg3) := V_of_ne m c _ (by decide)
theorem V_main_arg4 (c : Dev nD) : V m c main_arg4 = m ((c : Thread nD τ).loc main_arg4) := V_of_ne m c _ (by decide)
theorem V_main_arg5 (c : Dev nD) : V m c main_arg5 = m ((c : Thread nD τ).loc main_arg5) := V_of_ne m c _ (by decide)
theorem V_main_arg6 (c : Dev nD) : V m c main_arg6 = m ((c : Thread nD τ).loc main_arg6) := V_of_ne m c _ (by decide)
theorem V_main_arg7 (c : Dev nD) : V m c main_arg7 = m ((c : Thread nD τ).loc main_arg7) := V_of_ne m c _ (by decide)
theorem V_main_arg8 (c : Dev nD) : V m c main_arg8 = m ((c : Thread nD τ).loc main_arg8) := V_of_ne m c _ (by decide)

/-- The tables' contents when the region is entered. -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl
/-- The pipeline's side condition of the tables' contents. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Each table as a memref: the grid's bound, the list of blocks, the number of listed blocks. -/
abbrev tbM0_0 : Memref sig .tc .smem S_ .i32 := Memref.whole main_v0
abbrev tbM0_1 : Memref sig .tc .smem S251 .i32 := Memref.whole main_arg0
abbrev htbM0_1 : tbM0_1.IsWhole := Memref.isWhole_whole _
abbrev tbM0_2 : Memref sig .tc .smem S1 .i32 := Memref.whole main_arg1
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Fwd`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      (Pipeline.RDat.FramePost.arr_in h c 0 rfl).trans ((hA c 0).trans (V_main_arg2 m c)),
      (Pipeline.RDat.FramePost.arr_in h c 1 rfl).trans ((hA c 1).trans (V_main_arg3 m c)),
      (Pipeline.RDat.FramePost.arr_in h c 2 rfl).trans ((hA c 2).trans (V_main_arg4 m c)),
      (Pipeline.RDat.FramePost.arr_in h c 3 rfl).trans ((hA c 3).trans (V_main_arg5 m c)),
      (Pipeline.RDat.FramePost.arr_in h c 4 rfl).trans ((hA c 4).trans (V_main_arg6 m c)),
      (Pipeline.RDat.FramePost.arr_in h c 5 rfl).trans ((hA c 5).trans (V_main_arg7 m c)),
      (Pipeline.RDat.FramePost.arr_in h c 6 rfl).trans ((hA c 6).trans (V_main_arg8 m c))⟩) h

/-! ## The words the body reads -/

/-- The condition of the first point, of the point's word. -/
abbrev cond0_0 (w : BitVec 32) : Prop := (Scalar.cmpi .ne (Scalar.extui (Scalar.cmpi .eq w 0#32)) 0#32) = 1#1

/-- The number of listed blocks, as the body reads it. -/
abbrev actw (c : Dev nD) (xt2 : TbBuf0 (F := F) c tbM0_2) : BitVec 32 :=
  View.readAt (Elt F) tbM0_2.view (Rect.unit (s := S1) ![0] S1.size inb_S1_S1_0).toLoadRect xt2 (Shape.Idx.first (numel1_S1.symm ▸ Nat.one_pos))

/-- The block number of a point, as the body reads it. -/
abbrev blkw (c : Dev nD) (xt1 : TbBuf0 (F := F) c tbM0_1) (w : BitVec 32) (hw : k0_chk1 w) : BitVec 32 :=
  View.readAt (Elt F) tbM0_1.view (Rect.unit (s := S251) (k0_off2 w) S1.size (k0_off2_inb w hw)).toLoadRect xt1 (Shape.Idx.first (numel1_S1.symm ▸ Nat.one_pos))

/-- The word of point `t`. -/
abbrev ptw (hO : Ok m) (t : Fin (cfgM m hO).N) : BitVec 32 := BitVec.ofNat 32 ((cfgM m hO).grid.coords t 0).val

/-- Each window's current staging memref at point `t`, spelled as the pipeline passes it (`bodyAt0`), and its wholeness. -/
abbrev ms0_0 (hO : Ok m) (t : Fin (cfgM m hO).N) : Memref sig .tc .vmem S960x3072 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S960x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S960x1 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S960x1 .i32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x3072 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x512 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S960x128 .i32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x960x512 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S960x256 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S960x1 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S960x1 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S960x1 .f32 := spec0_11.stage ((cfgM m hO).slots t 11)
abbrev hs0_11 (hO : Ok m) (t : Fin (cfgM m hO).N) : (ms0_11 m hO t).IsWhole := hstage0_11 (((cfgM m hO).slots t 11).cast nbuf0_11)
/-- The scratch operands: whole scoped buffers of the kernel's own, passed beside the windows. -/
abbrev scM0_0 : Memref sig .tc .vmem S960x1 .f32 := Memref.whole cc0_scratch0
abbrev scM0_1 : Memref sig .tc .vmem S960x1 .f32 := Memref.whole cc0_scratch1
abbrev scM0_2 : Memref sig .tc .vmem S960x1 .f32 := Memref.whole cc0_scratch2
abbrev scM0_3 : Memref sig .tc .vmem S960x1 .f32 := Memref.whole cc0_scratch3
/-- The body at point `t`, on what the pipeline calls it with. -/
abbrev bodyAt0 (a : (pcfg0 (F := F)).Adm) (t : Fin (cfg0 a).N) : Prog (TpuEff nD τ sig (Elt F) Λ₀ .tc) PUnit :=
  cc0_fwd (dynb0 a.1) (Pipeline.Grid.Coords.static grid0 ((cfg0 a).grid.coords t)) (BitVec.ofNat 32 ((cfg0 a).grid.coords t 0).val) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Fwd.Gen

end
-- ==== Proof.FW.RunA.lean ====
/- The body of the forward kernel at the first point: what its stores leave in the block normalisers. -/
module

public import proofs.«01_k».proof.Proof.FW.Runs

@[expose] public section

-- membership in a rectangle of production extents (`View.cover_of_tiled`): the elaborator's structural look
-- recurses once per coordinate of the long axes
set_option maxRecDepth 16384

noncomputable section

namespace Cert.Fwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6052000 in
/-- What the body's stores leave in the block normalisers at the first point, as pieces (last first), with the proof
    that the body runs to the continuation with the inputs as they were, the block normalisers with the pieces written, and the
    other outputs and the scratch buffers at some contents: whether the point is the last or not. -/
noncomputable def kernelRun0_A (c : Dev nD) (b : grid0.Bounds) (i : grid0.Static) (w : BitVec 32) (hw : k0_chk1 w) (arg3 : Memref sig .tc .vmem S960x3072 .fp8e4m3) (harg3 : arg3.IsWhole) (arg4 : Memref sig .tc .vmem S960x1 .f32) (harg4 : arg4.IsWhole) (arg5 : Memref sig .tc .vmem S960x1 .i32) (harg5 : arg5.IsWhole) (arg6 : Memref sig .tc .vmem S960x1 .i32) (harg6 : arg6.IsWhole) (arg7 : Memref sig .tc .vmem S512x3072 .fp8e4m3) (harg7 : arg7.IsWhole) (arg8 : Memref sig .tc .vmem S1x1x512 .f32) (harg8 : arg8.IsWhole) (arg9 : Memref sig .tc .vmem S960x128 .i32) (harg9 : arg9.IsWhole) (arg10 : Memref sig .tc .vmem S1x960x512 .f32) (harg10 : arg10.IsWhole) (arg11 : Memref sig .tc .vmem S960x256 .f32) (harg11 : arg11.IsWhole) (arg12 : Memref sig .tc .vmem S960x1 .f32) (harg12 : arg12.IsWhole) (arg13 : Memref sig .tc .vmem S960x1 .f32) (harg13 : arg13.IsWhole) (arg14 : Memref sig .tc .vmem S960x1 .f32) (harg14 : arg14.IsWhole) (arg15 : Memref sig .tc .vmem S960x1 .f32) (harg15 : arg15.IsWhole) (arg16 : Memref sig .tc .vmem S960x1 .f32) (harg16 : arg16.IsWhole) (arg17 : Memref sig .tc .vmem S960x1 .f32) (harg17 : arg17.IsWhole) (arg18 : Memref sig .tc .vmem S960x1 .f32) (harg18 : arg18.IsWhole) (hc0 : cond0_0 w)
    (x0 : Vec F S960x3072 .fp8e4m3) (x1 : Vec F S960x1 .f32) (x2 : Vec F S960x1 .i32) (x3 : Vec F S960x1 .i32) (x4 : Vec F S512x3072 .fp8e4m3) (x5 : Vec F S1x1x512 .f32) (x6 : Vec F S960x128 .i32) (xt1 : TbBuf0 (F := F) c tbM0_1) (xt2 : TbBuf0 (F := F) c tbM0_2) :
    { L8 : List (View.Piece (Elt F) S960x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_1 xt1 ∗ tbPt0 c tbM0_2 xt2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ f, arg11.view.loc (c : Thread nD τ) ↦[arg11.view.set]{fullShare} arg11.view.writes (Elt F) f L8) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_1 xt1 ∗ tbPt0 c tbM0_2 xt2) -∗ K ⟨⟩))
          ⊢ wp frame (wpE (defs₀ (F := F)) Variants.none c none) E (cc0_fwd b i w tbM0_1 htbM0_1 tbM0_2 htbM0_2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_fwd_eq_skeleton]; unfold cc0_fwd_skel
    simp only [k0_part87_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part88_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, HT1, HT2, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    rcases Classical.em (k0_cond2 w (actw c xt2) = 1#1) with hc1 | hc1 <;>
    · sl_exec (disch := first | sl_exact hc0 | sl_exact hc1 | sl_exact hw)
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _; isplitr; · ipureintro; exact harg9.read_unread _
        iexact H6
      isplitl [H7]
      · iexists _, _; isplitr; swap; · iexact H7
        ipureintro; rfl
      isplitl [H8]; · iexists _; iexact H8
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [HT1]; · iexact HT1
      iexact HT2

end Cert.Fwd.Gen

end
-- ==== Proof.FW.RunB.lean ====
/- The body of the forward kernel at a point after the first: what its stores leave in the block normalisers. -/
module

public import proofs.«01_k».proof.Proof.FW.RunA

@[expose] public section

-- membership in a rectangle of production extents (`View.cover_of_tiled`): the elaborator's structural look
-- recurses once per coordinate of the long axes
set_option maxRecDepth 16384

noncomputable section

namespace Cert.Fwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6052000 in
/-- What the body's stores leave in the block normalisers at a later point, as pieces (last first), with the proof
    that the body runs to the continuation with the inputs as they were, the block normalisers with the pieces written, and the
    other outputs and the scratch buffers at some contents: whether the point is the last or not. -/
noncomputable def kernelRun0_B (c : Dev nD) (b : grid0.Bounds) (i : grid0.Static) (w : BitVec 32) (hw : k0_chk1 w) (arg3 : Memref sig .tc .vmem S960x3072 .fp8e4m3) (harg3 : arg3.IsWhole) (arg4 : Memref sig .tc .vmem S960x1 .f32) (harg4 : arg4.IsWhole) (arg5 : Memref sig .tc .vmem S960x1 .i32) (harg5 : arg5.IsWhole) (arg6 : Memref sig .tc .vmem S960x1 .i32) (harg6 : arg6.IsWhole) (arg7 : Memref sig .tc .vmem S512x3072 .fp8e4m3) (harg7 : arg7.IsWhole) (arg8 : Memref sig .tc .vmem S1x1x512 .f32) (harg8 : arg8.IsWhole) (arg9 : Memref sig .tc .vmem S960x128 .i32) (harg9 : arg9.IsWhole) (arg10 : Memref sig .tc .vmem S1x960x512 .f32) (harg10 : arg10.IsWhole) (arg11 : Memref sig .tc .vmem S960x256 .f32) (harg11 : arg11.IsWhole) (arg12 : Memref sig .tc .vmem S960x1 .f32) (harg12 : arg12.IsWhole) (arg13 : Memref sig .tc .vmem S960x1 .f32) (harg13 : arg13.IsWhole) (arg14 : Memref sig .tc .vmem S960x1 .f32) (harg14 : arg14.IsWhole) (arg15 : Memref sig .tc .vmem S960x1 .f32) (harg15 : arg15.IsWhole) (arg16 : Memref sig .tc .vmem S960x1 .f32) (harg16 : arg16.IsWhole) (arg17 : Memref sig .tc .vmem S960x1 .f32) (harg17 : arg17.IsWhole) (arg18 : Memref sig .tc .vmem S960x1 .f32) (harg18 : arg18.IsWhole) (hc0 : ¬cond0_0 w)
    (x0 : Vec F S960x3072 .fp8e4m3) (x1 : Vec F S960x1 .f32) (x2 : Vec F S960x1 .i32) (x3 : Vec F S960x1 .i32) (x4 : Vec F S512x3072 .fp8e4m3) (x5 : Vec F S1x1x512 .f32) (x6 : Vec F S960x128 .i32) (x8 : Vec F S960x256 .f32) (xt1 : TbBuf0 (F := F) c tbM0_1) (xt2 : TbBuf0 (F := F) c tbM0_2) :
    { L8 : List (View.Piece (Elt F) S960x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_1 xt1 ∗ tbPt0 c tbM0_2 xt2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ f, arg11.view.loc (c : Thread nD τ) ↦[arg11.view.set]{fullShare} arg11.view.writes (Elt F) f L8) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_1 xt1 ∗ tbPt0 c tbM0_2 xt2) -∗ K ⟨⟩))
          ⊢ wp frame (wpE (defs₀ (F := F)) Variants.none c none) E (cc0_fwd b i w tbM0_1 htbM0_1 tbM0_2 htbM0_2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_fwd_eq_skeleton]; unfold cc0_fwd_skel
    simp only [k0_part87_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part88_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, HT1, HT2, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hf8
    rcases Classical.em (k0_cond2 w (actw c xt2) = 1#1) with hc1 | hc1 <;>
    · sl_exec (disch := first | sl_exact hc0 | sl_exact hc1 | sl_exact hw)
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _; isplitr; · ipureintro; exact harg9.read_unread _
        iexact H6
      isplitl [H7]
      · iexists _, _; isplitr; swap; · iexact H7
        ipureintro; rfl
      isplitl [H8]; · iexists _; iexact H8
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [HT1]; · iexact HT1
      iexact HT2

end Cert.Fwd.Gen

end
-- ==== Proof.FW.Frame.lean ====
/- The frame of the forward kernel: what the body leaves at each point, the body obligation, the launch. -/
module

public import proofs.«01_k».proof.Proof.FW.RunB
public import Idealize.ShloMosaic.Lib.Claim

@[expose] public section

-- membership in a rectangle of production extents (`View.cover_of_tiled`): the elaborator's structural look
-- recurses once per coordinate of the long axes
set_option maxRecDepth 16384

noncomputable section

namespace Cert.Fwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem N_eq (hO : Ok m) : (cfgM m hO).N = dynb0 (tbl m) 0 := by
  show (grid0.at (dynb0 (tbl m))).N = _
  exact Nat.mul_one _

/-- The coordinate of a point is its number. -/
theorem coord_eq (hO : Ok m) (t : Fin (cfgM m hO).N) : ((cfgM m hO).grid.coords t 0).val = t.val := by
  have e := Pipeline.Grid.coords_val (G := (cfgM m hO).grid) t 0 (S := 1) (B := dynb0 (tbl m) 0) rfl rfl
  rw [e, Nat.div_one, Nat.mod_eq_of_lt (lt_of_lt_of_eq t.isLt (N_eq m hO))]

/-- The assumption of the body: the point's entry of the list is inside the list. -/
theorem chk (hO : Ok m) (t : Fin (cfgM m hO).N) : k0_chk1 (ptw m hO t) := hO.2.1 _

theorem ptw_toNat (hO : Ok m) (t : Fin (cfgM m hO).N) : (ptw m hO t).toNat ≤ 250 := by
  have h := chk m hO t 0
  have h' : (ptw m hO t).toNat + 1 ≤ 251 := h
  omega

/-- Fewer points than blocks. -/
theorem pt_lt (hO : Ok m) (t : Fin (cfgM m hO).N) : (ptw m hO t).toNat = t.val := by
  show (BitVec.ofNat 32 ((cfgM m hO).grid.coords t 0).val).toNat = t.val
  rw [coord_eq, BitVec.toNat_ofNat]
  have hA : (cfgM m hO).N + 2 < 2 ^ 31 := hO.1
  have := t.isLt
  omega

theorem first_iff (hO : Ok m) (t : Fin (cfgM m hO).N) : cond0_0 (ptw m hO t) ↔ t.val = 0 := by
  rw [← pt_lt m hO t]
  generalize ptw m hO t = w
  constructor
  · intro h
    by_contra hw
    have hw' : ¬w = 0#32 := fun e => hw (by rw [e]; rfl)
    revert h
    have hb : (w == 0#32) = false := by simpa using hw'
    simp [cond0_0, Scalar.cmpi, Scalar.extui, IntOp.cmpi, hb]
  · intro h
    have hw : w = 0#32 := BitVec.eq_of_toNat_eq h
    subst hw; decide

/-! ## What the body leaves in the block normalisers -/

/-- The body's run at the first point, on what the pipeline calls it with. -/
abbrev runA (hO : Ok m) (c : Dev nD) (t : Fin (cfgM m hO).N) (h0 : cond0_0 (ptw m hO t)) :=
  kernelRun0_A (F := F) c (dynb0 (tbl m)) (Pipeline.Grid.Coords.static grid0 ((cfgM m hO).grid.coords t)) (ptw m hO t) (chk m hO t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) h0
    (iblk m hO c 0 t) (iblk m hO c 1 t) (iblk m hO c 2 t) (iblk m hO c 3 t) (iblk m hO c 4 t) (iblk m hO c 5 t) (iblk m hO c 6 t) (tbl m 1) (tbl m 2)

/-- The body's run at a later point, on what the pipeline calls it with. -/
abbrev runB (hO : Ok m) (c : Dev nD) (t : Fin (cfgM m hO).N) (h0 : ¬cond0_0 (ptw m hO t)) (x8 : Vec F S960x256 .f32) :=
  kernelRun0_B (F := F) c (dynb0 (tbl m)) (Pipeline.Grid.Coords.static grid0 ((cfgM m hO).grid.coords t)) (ptw m hO t) (chk m hO t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) h0
    (iblk m hO c 0 t) (iblk m hO c 1 t) (iblk m hO c 2 t) (iblk m hO c 3 t) (iblk m hO c 4 t) (iblk m hO c 5 t) (iblk m hO c 6 t) x8 (tbl m 1) (tbl m 2)

theorem coverA (hO : Ok m) (c : Dev nD) (t : Fin (cfgM m hO).N) (h0 : cond0_0 (ptw m hO t)) (y : S960x256.Idx) :
    ∃ pc ∈ (runA m hO c t h0).1, y ∈ pc.1.set :=
  View.cover_of_wholeMem (runA m hO c t h0).1 (by sl_whole_mem) y

theorem coverB (hO : Ok m) (c : Dev nD) (t : Fin (cfgM m hO).N) (h0 : ¬cond0_0 (ptw m hO t)) (x8 : Vec F S960x256 .f32) (y : S960x256.Idx) :
    ∃ pc ∈ (runB m hO c t h0 x8).1, y ∈ pc.1.set :=
  View.cover_of_tiledL (runB m hO c t h0 x8).1 S64x256.size (by sl_kernel_rfl) y

/-- What the block normalisers hold after a point, from what they held before it (read at the first point never). -/
def stepAt (hO : Ok m) (c : Dev nD) (t : Fin (cfgM m hO).N) (x8 : Vec F S960x256 .f32) : Vec F S960x256 .f32 :=
  if h0 : cond0_0 (ptw m hO t) then (ms0_8 m hO t).view.read (Elt F) ((ms0_8 m hO t).view.writes (Elt F) (ms0_8 m hO t).view.junk (runA m hO c t h0).1)
  else (ms0_8 m hO t).view.read (Elt F) ((ms0_8 m hO t).view.writes (Elt F) (ms0_8 m hO t).view.junk (runB m hO c t h0 x8).1)

/-- After the points up to `n`. -/
def outsAt0 (hO : Ok m) (c : Dev nD) : (n : ℕ) → n < (cfgM m hO).N → Vec F S960x256 .f32
  | 0, hn => stepAt m hO c ⟨0, hn⟩ ((ms0_8 m hO ⟨0, hn⟩).view.read (Elt F) (ms0_8 m hO ⟨0, hn⟩).view.junk)
  | n + 1, hn => stepAt m hO c ⟨n + 1, hn⟩ (outsAt0 hO c n (Nat.lt_of_succ_lt hn))

theorem outsAt0_first (hO : Ok m) (c : Dev nD) (t : Fin (cfgM m hO).N) (h0 : cond0_0 (ptw m hO t)) :
    outsAt0 m hO c t.val t.isLt = (ms0_8 m hO t).view.read (Elt F) ((ms0_8 m hO t).view.writes (Elt F) (ms0_8 m hO t).view.junk (runA m hO c t h0).1) := by
  obtain ⟨n, hn⟩ := t
  cases n with
  | zero => exact dif_pos h0
  | succ n => exact dif_pos h0

theorem outsAt0_later (hO : Ok m) (c : Dev nD) (t : Fin (cfgM m hO).N) (h0 : ¬cond0_0 (ptw m hO t)) (hp : t.val - 1 < (cfgM m hO).N) :
    outsAt0 m hO c t.val t.isLt = (ms0_8 m hO t).view.read (Elt F) ((ms0_8 m hO t).view.writes (Elt F) (ms0_8 m hO t).view.junk (runB m hO c t h0 (outsAt0 m hO c (t.val - 1) hp)).1) := by
  obtain ⟨n, hn⟩ := t
  cases n with
  | zero => exact absurd ((first_iff m hO ⟨0, hn⟩).mpr rfl) h0
  | succ n => exact dif_neg h0

/-! ## The proof data -/

/-- The outputs of which nothing is said: the logits, the normaliser, the target's log-probability, the gradient's range. -/
def forgets0 : Fin 12 → Bool := fun w => w.val == 7 || w.val == 9 || w.val == 10 || w.val == 11

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => Pipeline.Dat.unnamed (cfg := (cfgM m hO)) ⟨7, h⟩ t
    | ⟨8, _⟩ => outsAt0 m hO c t.val t.isLt
    | ⟨9, h⟩ => Pipeline.Dat.unnamed (cfg := (cfgM m hO)) ⟨9, h⟩ t
    | ⟨10, h⟩ => Pipeline.Dat.unnamed (cfg := (cfgM m hO)) ⟨10, h⟩ t
    | ⟨11, h⟩ => Pipeline.Dat.unnamed (cfg := (cfgM m hO)) ⟨11, h⟩ t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem after0_1 (hO : Ok m) (c : Dev nD) (t : Fin (cfgM m hO).N) : (dats m hO 0 c).after 1 t = iblk m hO c 1 t := by dsimp only [dats]; try rfl
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem after0_2 (hO : Ok m) (c : Dev nD) (t : Fin (cfgM m hO).N) : (dats m hO 0 c).after 2 t = iblk m hO c 2 t := by dsimp only [dats]; try rfl
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem after0_3 (hO : Ok m) (c : Dev nD) (t : Fin (cfgM m hO).N) : (dats m hO 0 c).after 3 t = iblk m hO c 3 t := by dsimp only [dats]; try rfl
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem after0_4 (hO : Ok m) (c : Dev nD) (t : Fin (cfgM m hO).N) : (dats m hO 0 c).after 4 t = iblk m hO c 4 t := by dsimp only [dats]; try rfl
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem after0_5 (hO : Ok m) (c : Dev nD) (t : Fin (cfgM m hO).N) : (dats m hO 0 c).after 5 t = iblk m hO c 5 t := by dsimp only [dats]; try rfl
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem after0_6 (hO : Ok m) (c : Dev nD) (t : Fin (cfgM m hO).N) : (dats m hO 0 c).after 6 t = iblk m hO c 6 t := by dsimp only [dats]; try rfl
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem after0_8 (hO : Ok m) (c : Dev nD) (t : Fin (cfgM m hO).N) : (dats m hO 0 c).after 8 t = outsAt0 m hO c t.val t.isLt := by dsimp only [dats]; try rfl

/-- The block normalisers are written back after the last point only. -/
theorem flush0_8 (hO : Ok m) (t : Fin (cfgM m hO).N) (ht : t.val + 1 < (cfgM m hO).N) : ((cfgM m hO).win 8).flush t = false := by
  rw [Pipeline.Window.flush_eq_flushOf]
  unfold Pipeline.Window.flushOf
  rw [decide_eq_false (Nat.ne_of_lt ht), decide_eq_false (fun h => h.2 rfl)]
  exact Bool.and_false _

/-- A later point finds in the block normalisers what the point before left. -/
theorem before0_8 (hO : Ok m) (c : Dev nD) (t : Fin (cfgM m hO).N) (hz : t.val ≠ 0) (d) :
    (dats m hO 0 c).before 8 t d = outsAt0 m hO c (t.val - 1) (Nat.lt_of_le_of_lt (Nat.sub_le _ _) t.isLt) := by
  rw [(dats m hO 0 c).before_of_pos 8 t hz (by first | rfl | exact fun h => Bool.noConfusion h) d]
  have hf := flush0_8 m hO ⟨t.val - 1, Nat.lt_of_le_of_lt (Nat.sub_le _ _) t.isLt⟩ (by show t.val - 1 + 1 < _; omega)
  rw [hf, if_neg Bool.false_ne_true]
  unfold Dat.left
  rw [show (cfgM m hO).idle 8 ((cfgM m hO).grid.coords ⟨t.val - 1, Nat.lt_of_le_of_lt (Nat.sub_le _ _) t.isLt⟩) = false from rfl]
  exact after0_8 m hO c ⟨t.val - 1, Nat.lt_of_le_of_lt (Nat.sub_le _ _) t.isLt⟩

theorem leaves0_0 (hO : Ok m) (c : Dev nD) (t : Fin (cfgM m hO).N) :
    (dats m hO 0 c).leavesExact 0 t = owns (c : Thread nD τ) (ms0_0 m hO t) fullShare (iblk m hO c 0 t) := by
  rw [← after0_0]; unfold Dat.leavesExact; rw [show (cfgM m hO).idle 0 ((cfgM m hO).grid.coords t) = false from rfl]; rfl
theorem leaves0_1 (hO : Ok m) (c : Dev nD) (t : Fin (cfgM m hO).N) :
    (dats m hO 0 c).leavesExact 1 t = owns (c : Thread nD τ) (ms0_1 m hO t) fullShare (iblk m hO c 1 t) := by
  rw [← after0_1]; unfold Dat.leavesExact; rw [show (cfgM m hO).idle 1 ((cfgM m hO).grid.coords t) = false from rfl]; rfl
theorem leaves0_2 (hO : Ok m) (c : Dev nD) (t : Fin (cfgM m hO).N) :
    (dats m hO 0 c).leavesExact 2 t = owns (c : Thread nD τ) (ms0_2 m hO t) fullShare (iblk m hO c 2 t) := by
  rw [← after0_2]; unfold Dat.leavesExact; rw [show (cfgM m hO).idle 2 ((cfgM m hO).grid.coords t) = false from rfl]; rfl
theorem leaves0_3 (hO : Ok m) (c : Dev nD) (t : Fin (cfgM m hO).N) :
    (dats m hO 0 c).leavesExact 3 t = owns (c : Thread nD τ) (ms0_3 m hO t) fullShare (iblk m hO c 3 t) := by
  rw [← after0_3]; unfold Dat.leavesExact; rw [show (cfgM m hO).idle 3 ((cfgM m hO).grid.coords t) = false from rfl]; rfl
theorem leaves0_4 (hO : Ok m) (c : Dev nD) (t : Fin (cfgM m hO).N) :
    (dats m hO 0 c).leavesExact 4 t = owns (c : Thread nD τ) (ms0_4 m hO t) fullShare (iblk m hO c 4 t) := by
  rw [← after0_4]; unfold Dat.leavesExact; rw [show (cfgM m hO).idle 4 ((cfgM m hO).grid.coords t) = false from rfl]; rfl
theorem leaves0_5 (hO : Ok m) (c : Dev nD) (t : Fin (cfgM m hO).N) :
    (dats m hO 0 c).leavesExact 5 t = owns (c : Thread nD τ) (ms0_5 m hO t) fullShare (iblk m hO c 5 t) := by
  rw [← after0_5]; unfold Dat.leavesExact; rw [show (cfgM m hO).idle 5 ((cfgM m hO).grid.coords t) = false from rfl]; rfl
theorem leaves0_6 (hO : Ok m) (c : Dev nD) (t : Fin (cfgM m hO).N) :
    (dats m hO 0 c).leavesExact 6 t = owns (c : Thread nD τ) (ms0_6 m hO t) fullShare (iblk m hO c 6 t) := by
  rw [← after0_6]; unfold Dat.leavesExact; rw [show (cfgM m hO).idle 6 ((cfgM m hO).grid.coords t) = false from rfl]; rfl
theorem leaves0_8 (hO : Ok m) (c : Dev nD) (t : Fin (cfgM m hO).N) :
    (dats m hO 0 c).leavesExact 8 t = owns (c : Thread nD τ) (ms0_8 m hO t) fullShare (outsAt0 m hO c t.val t.isLt) := by
  rw [← after0_8]; unfold Dat.leavesExact; rw [show (cfgM m hO).idle 8 ((cfgM m hO).grid.coords t) = false from rfl]; rfl

/-! ## The body obligation -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare d)
    ∗ (∃ d, owns (c : Thread nD τ) (ms0_8 m hO t) fullShare ((dats m hO 0 c).before 8 t d))
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (∃ d, owns (c : Thread nD τ) (ms0_7 m hO t) fullShare d)
    ∗ (dats m hO 0 c).leavesExact 8 t
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d))

set_option maxHeartbeats 19200000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl,
    show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiT0_eq, PhiA0_eq,
    leaves0_0, leaves0_1, leaves0_2, leaves0_3, leaves0_4, leaves0_5, leaves0_6, leaves0_8]
  by_cases h0 : cond0_0 (ptw m hO t)
  · rw [outsAt0_first m hO c t h0]
    iintro ⟨⟨⟨⟨HS0, HS1, HS2, HS3⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA m hO c t h0).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    isplitl [HT1]; · iexact HT1
    isplitl [HT2]; · iexact HT2
    iintro ⟨H0, H1, H2, H3, H4, H5, H6, H7, ⟨%e8, H8⟩, H9, H10, H11, HS0, HS1, HS2, HS3, HT1, HT2⟩
    isplitl [HS0 HS1 HS2 HS3 Hg HT0 HT1 HT2]
    · isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverA m hO c t h0)
    isplitl [H9]; · iexact H9
    isplitl [H10]; · iexact H10
    iexact H11
  · have hz : t.val ≠ 0 := fun h => h0 ((first_iff m hO t).mpr h)
    simp only [before0_8 m hO c t hz]
    rw [outsAt0_later m hO c t h0 (Nat.lt_of_le_of_lt (Nat.sub_le _ _) t.isLt)]
    iintro ⟨⟨⟨⟨HS0, HS1, HS2, HS3⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runB m hO c t h0 _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    isplitl [HT1]; · iexact HT1
    isplitl [HT2]; · iexact HT2
    iintro ⟨H0, H1, H2, H3, H4, H5, H6, H7, ⟨%e8, H8⟩, H9, H10, H11, HS0, HS1, HS2, HS3, HT1, HT2⟩
    isplitl [HS0 HS1 HS2 HS3 Hg HT0 HT1 HT2]
    · isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverB m hO c t h0 _)
    isplitl [H9]; · iexact H9
    isplitl [H10]; · iexact H10
    iexact H11

theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

theorem hout (hO : Ok m) (c : Dev nD) : (dats m hO 0 c).Φ (Fin.last (cfgM m hO).N) ⊢ Pipeline.ΦA spec0 c := by
  rw [show (dats m hO 0 c).Φ (Fin.last (cfgM m hO).N) = iprop(Pipeline.ΦA spec0 c ∗ Pipeline.ΦT pre0 (tbl m) c) from rfl]
  iintro ⟨H, -⟩
  iexact H

/-! ## The launch -/

set_option backward.isDefEq.respectTransparency.types false in
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_track_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun c => Idealize.SL.BI.Entails.refl _) (hout := hout m hO)

theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- The argument arrays end unchanged and the semaphores at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ hO (fun c => (dats m hO 0 c).toRForget forgets0) (A_eq m hO) (run_main m ρ hO))
    ((θ_run defs _ _).mono (fun _ h => h.2) (run_main_quiescent m ρ hO))

end Cert.Fwd.Gen

end
-- ==== Proof.FW.Ok.lean ====
/- The forward pipeline's side condition of the tables, from the list's range. -/
module

public import proofs.«01_k».proof.Proof.FW.Frame
public import Idealize.ShloMosaic.Lib.Affine
public import Idealize.ShloMosaic.Lib.Pipeline.ValueKit
public import Idealize.ShloMosaic.Lib.Pointwise
public import Idealize.ShloMosaic.Lib.Claim

@[expose] public section

set_option maxRecDepth 16384

namespace Cert.Fwd.Gen

open Idealize.ShloMosaic Idealize.ShloMosaic.TcCoe

variable {F : FTy → Type} [FloatOps F]
variable (m : (ℓ : Loc nD τ sig) → Buf (Elt F) ℓ)

theorem inb_w (n : Nat) (h : n < 251) : ∀ a, (![n, 0] a + 1) * S512x3072.size a ≤ S128512x3072.size a := by
  intro a
  fin_cases a
  · show (n + 1) * 512 ≤ 128512; omega
  · show (0 + 1) * 3072 ≤ 3072; omega

theorem inb_ws (n : Nat) (h : n < 251) : ∀ a, (![n, 0, 0] a + 1) * S1x1x512.size a ≤ S251x1x512.size a := by
  intro a
  fin_cases a
  · show (n + 1) * 1 ≤ 251; omega
  · show (0 + 1) * 1 ≤ 1; omega
  · show (0 + 1) * 512 ≤ 512; omega

theorem inb_lg (n : Nat) (h : n < 251) : ∀ a, (![n, 0, 0] a + 1) * S1x960x512.size a ≤ S251x960x512.size a := by
  intro a
  fin_cases a
  · show (n + 1) * 1 ≤ 251; omega
  · show (0 + 1) * 960 ≤ 960; omega
  · show (0 + 1) * 512 ≤ 512; omega

theorem inb_m (n : Nat) (h : n < 32) : ∀ a, (![0, n] a + 1) * S960x128.size a ≤ S960x4096.size a := by
  intro a
  fin_cases a
  · show (0 + 1) * 960 ≤ 960; omega
  · show (n + 1) * 128 ≤ 4096; omega

theorem words_w (n : Nat) (h : ∀ a, (![n, 0] a + 1) * S512x3072.size a ≤ S128512x3072.size a) :
    (Rect.block (s := S128512x3072) S512x3072.size ![n, 0] h).WholeWords (EltTy.packing .fp8e4m3) := by
  exact Affine.block_words_dvd (of_decide_eq_true rfl) (by decide)

theorem words_x (h : ∀ a, (![0, 0] a + 1) * S960x3072.size a ≤ S960x3072.size a) :
    (Rect.block (s := S960x3072) S960x3072.size ![0, 0] h).WholeWords (EltTy.packing .fp8e4m3) := by
  exact Affine.block_words_dvd (of_decide_eq_true rfl) (by decide)

theorem inb_x : ∀ a : Fin 2, ((![0, 0] : Fin 2 → ℕ) a + 1) * S960x3072.size a ≤ S960x3072.size a := by decide +kernel
theorem inb_1 : ∀ a : Fin 2, ((![0, 0] : Fin 2 → ℕ) a + 1) * S960x1.size a ≤ S960x1.size a := by decide +kernel
theorem inb_b : ∀ a : Fin 2, ((![0, 0] : Fin 2 → ℕ) a + 1) * S960x256.size a ≤ S960x256.size a := by decide +kernel

/-- The quotient by 8, rounded down, as the index map of the mask computes it. -/
def fdw (v1 : BitVec 32) : BitVec 32 :=
  Scalar.select (Scalar.andi
      (Scalar.cmpi .ne (Scalar.subi (Scalar.extui (Scalar.cmpi .sgt v1 0#32)) (Scalar.extui (Scalar.cmpi .slt v1 0#32)))
        (Scalar.subi (Scalar.extui (Scalar.cmpi .sgt 8#32 0#32)) (Scalar.extui (Scalar.cmpi .slt 8#32 0#32))))
      (Scalar.cmpi .ne (Scalar.remsi v1 8#32) 0#32))
    (Scalar.subi (Scalar.divsi v1 8#32) 1#32) (Scalar.divsi v1 8#32)

theorem fdw_ofNat : ∀ n : Fin 251, (fdw (BitVec.ofNat 32 n.val)).toNat < 32 := by decide +kernel

theorem fdw_lt (w : BitVec 32) (h : w.toNat < 251) : (fdw w).toNat < 32 := by
  have e : w = BitVec.ofNat 32 w.toNat := BitVec.eq_of_toNat_eq (by rw [BitVec.toNat_ofNat, Nat.mod_eq_of_lt (by omega)])
  rw [e]
  exact fdw_ofNat ⟨w.toNat, h⟩

/-- A list in range: the pipeline's side condition. -/
theorem ok_of (hk : (tbl m 0 fun a => a.elim0 : BitVec 32).toNat ≤ 251)
    (ho : ∀ j : Fin 251, j.val < (tbl m 0 fun a => a.elim0 : BitVec 32).toNat → (tbl m 1 (ix1 j) : BitVec 32).toNat < 251) : Ok m := by
  have hc : ∀ i : (grid0.at (dynb0 (tbl m))).Coords, (i 0).val < (tbl m 0 fun a => a.elim0 : BitVec 32).toNat := fun i => (i 0).isLt
  have hw : ∀ i : (grid0.at (dynb0 (tbl m))).Coords, (BitVec.ofNat 32 (i 0).val).toNat = (i 0).val := fun i => by
    have := hc i
    rw [BitVec.toNat_ofNat, Nat.mod_eq_of_lt (by omega)]
  have ht : ∀ i : (grid0.at (dynb0 (tbl m))).Coords, ((tbl m).atD 1 ![(BitVec.ofNat 32 (i 0).val).toNat] : BitVec 32).toNat < 251 := fun i => by
    have h1 := hc i
    have h : ∀ a, (![(BitVec.ofNat 32 (i 0).val).toNat] : Fin 1 → ℕ) a + 1 ≤ S251.size a := fun a => by
      match a with
      | 0 => show (BitVec.ofNat 32 (i 0).val).toNat + 1 ≤ 251; rw [hw]; omega
    have e : (tbl m).atD 1 ![(BitVec.ofNat 32 (i 0).val).toNat] = tbl m 1 (ix1 ⟨(i 0).val, by omega⟩) := by
      refine (dif_pos h).trans (congrArg (tbl m 1) ?_)
      refine (eq_ix1 _).trans (congrArg ix1 (Fin.ext ?_))
      exact hw i
    rw [e]
    exact ho _ h1
  refine ⟨?_, fun i a => ?_, fun i => ⟨inb_x, .inr (words_x _)⟩, fun i => ⟨inb_1, .inl rfl⟩, fun i => ⟨inb_1, .inl rfl⟩, fun i => ⟨inb_1, .inl rfl⟩,
    fun i => ⟨inb_w _ (ht i), .inr (words_w _ _)⟩, fun i => ⟨inb_ws _ (ht i), .inl rfl⟩, fun i => ⟨inb_m _ (fdw_lt _ (ht i)), .inl rfl⟩,
    fun i => ⟨inb_lg _ (by have := hc i; have := hw i; omega), .inl rfl⟩, fun i => ⟨inb_b, .inl rfl⟩, fun i => ⟨inb_1, .inl rfl⟩, fun i => ⟨inb_1, .inl rfl⟩, fun i => ⟨inb_1, .inl rfl⟩⟩
  · show (grid0.at (dynb0 (tbl m))).N + 2 < 2 ^ 31
    have e : (grid0.at (dynb0 (tbl m))).N = (tbl m 0 fun a => a.elim0 : BitVec 32).toNat := Nat.mul_one _
    omega
  · match a with
    | 0 => show (BitVec.ofNat 32 (i 0).val).toNat + 1 ≤ 251; have := hc i; have := hw i; omega

/-- The grid's bound is the number of listed blocks. -/
theorem tbl_0 : (tbl m 0 fun a => a.elim0 : BitVec 32) = (m (((0 : Dev nD) : Thread nD τ).loc main_arg1) (ix1 0) : BitVec 32) := by
  have e : ∀ i : S_.Idx, (show IVec S_ 32 from V m 0 main_v0) i = (show IVec S1 32 from m (((0 : Dev nD) : Thread nD τ).loc main_arg1)) (ix1 0) := fun i => by
    dsimp only
    entry_read
    exact congrArg (m _) ((eq_ix1 _).trans (congrArg ix1 (Subsingleton.elim (α := Fin 1) _ _)))
  exact e _

theorem tbl_1 (j : Fin 251) : (tbl m 1 (ix1 j) : BitVec 32) = (m (((0 : Dev nD) : Thread nD τ).loc main_arg0) (ix1 j) : BitVec 32) :=
  congrFun (V_main_arg0 m 0) (ix1 j)

end Cert.Fwd.Gen
-- ==== Proof.FWI.Runs.lean ====
/- What the frame of the forward kernel needs besides the body runs: the tables, the blocks, the condition of the first point. -/
module

public import proofs.«01_k».proof.Proof.Gen.FwdIdeal.Launch
public import proofs.«01_k».proof.Proof.Gen.FwdIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Core `c`'s buffers when the region is entered: after the one host operation, the reshape of `n_act`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  exact rfl

set_option maxHeartbeats 800000 in
/-- @main up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host operation changes its own result only. -/
theorem V_of_ne (c : Dev nD) (b : Ref sig .tc) (hb : main_v0 ≠ b) : V m c b = m ((c : Thread nD τ).loc b) :=
  StableHlo.reshape_result_ne main_arg1 main_v0 _ _ _ _ (fun b => m (c, b)) hb.symm
theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)
theorem V_main_arg3 (c : Dev nD) : V m c main_arg3 = m ((c : Thread nD τ).loc main_arg3) := V_of_ne m c _ (by decide)
theorem V_main_arg4 (c : Dev nD) : V m c main_arg4 = m ((c : Thread nD τ).loc main_arg4) := V_of_ne m c _ (by decide)
theorem V_main_arg5 (c : Dev nD) : V m c main_arg5 = m ((c : Thread nD τ).loc main_arg5) := V_of_ne m c _ (by decide)
theorem V_main_arg6 (c : Dev nD) : V m c main_arg6 = m ((c : Thread nD τ).loc main_arg6) := V_of_ne m c _ (by decide)
theorem V_main_arg7 (c : Dev nD) : V m c main_arg7 = m ((c : Thread nD τ).loc main_arg7) := V_of_ne m c _ (by decide)
theorem V_main_arg8 (c : Dev nD) : V m c main_arg8 = m ((c : Thread nD τ).loc main_arg8) := V_of_ne m c _ (by decide)

/-- The tables' contents when the region is entered. -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl
/-- The pipeline's side condition of the tables' contents. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Each table as a memref: the grid's bound, the list of blocks, the number of listed blocks. -/
abbrev tbM0_0 : Memref sig .tc .smem S_ .i32 := Memref.whole main_v0
abbrev tbM0_1 : Memref sig .tc .smem S251 .i32 := Memref.whole main_arg0
abbrev htbM0_1 : tbM0_1.IsWhole := Memref.isWhole_whole _
abbrev tbM0_2 : Memref sig .tc .smem S1 .i32 := Memref.whole main_arg1
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_FwdIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      (Pipeline.RDat.FramePost.arr_in h c 0 rfl).trans ((hA c 0).trans (V_main_arg2 m c)),
      (Pipeline.RDat.FramePost.arr_in h c 1 rfl).trans ((hA c 1).trans (V_main_arg3 m c)),
      (Pipeline.RDat.FramePost.arr_in h c 2 rfl).trans ((hA c 2).trans (V_main_arg4 m c)),
      (Pipeline.RDat.FramePost.arr_in h c 3 rfl).trans ((hA c 3).trans (V_main_arg5 m c)),
      (Pipeline.RDat.FramePost.arr_in h c 4 rfl).trans ((hA c 4).trans (V_main_arg6 m c)),
      (Pipeline.RDat.FramePost.arr_in h c 5 rfl).trans ((hA c 5).trans (V_main_arg7 m c)),
      (Pipeline.RDat.FramePost.arr_in h c 6 rfl).trans ((hA c 6).trans (V_main_arg8 m c))⟩) h

/-! ## The words the body reads -/

/-- The condition of the first point, of the point's word. -/
abbrev cond0_0 (w : BitVec 32) : Prop := (Scalar.cmpi .ne (Scalar.extui (Scalar.cmpi .eq w 0#32)) 0#32) = 1#1

/-- The number of listed blocks, as the body reads it. -/
abbrev actw (c : Dev nD) (xt2 : TbBuf0 (F := F) c tbM0_2) : BitVec 32 :=
  View.readAt (Elt F) tbM0_2.view (Rect.unit (s := S1) ![0] S1.size inb_S1_S1_0).toLoadRect xt2 (Shape.Idx.first (numel1_S1.symm ▸ Nat.one_pos))

/-- The block number of a point, as the body reads it. -/
abbrev blkw (c : Dev nD) (xt1 : TbBuf0 (F := F) c tbM0_1) (w : BitVec 32) (hw : k0_chk1 w) : BitVec 32 :=
  View.readAt (Elt F) tbM0_1.view (Rect.unit (s := S251) (k0_off2 w) S1.size (k0_off2_inb w hw)).toLoadRect xt1 (Shape.Idx.first (numel1_S1.symm ▸ Nat.one_pos))

/-- The word of point `t`. -/
abbrev ptw (hO : Ok m) (t : Fin (cfgM m hO).N) : BitVec 32 := BitVec.ofNat 32 ((cfgM m hO).grid.coords t 0).val

/-- Each window's current staging memref at point `t`, spelled as the pipeline passes it (`bodyAt0`), and its wholeness. -/
abbrev ms0_0 (hO : Ok m) (t : Fin (cfgM m hO).N) : Memref sig .tc .vmem S960x3072 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S960x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S960x1 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S960x1 .i32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x3072 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x512 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S960x128 .i32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x960x512 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S960x256 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S960x1 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S960x1 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S960x1 .f32 := spec0_11.stage ((cfgM m hO).slots t 11)
abbrev hs0_11 (hO : Ok m) (t : Fin (cfgM m hO).N) : (ms0_11 m hO t).IsWhole := hstage0_11 (((cfgM m hO).slots t 11).cast nbuf0_11)
/-- The scratch operands: whole scoped buffers of the kernel's own, passed beside the windows. -/
abbrev scM0_0 : Memref sig .tc .vmem S960x1 .f32 := Memref.whole cc0_scratch0
abbrev scM0_1 : Memref sig .tc .vmem S960x1 .f32 := Memref.whole cc0_scratch1
abbrev scM0_2 : Memref sig .tc .vmem S960x1 .f32 := Memref.whole cc0_scratch2
abbrev scM0_3 : Memref sig .tc .vmem S960x1 .f32 := Memref.whole cc0_scratch3
/-- The body at point `t`, on what the pipeline calls it with. -/
abbrev bodyAt0 (a : (pcfg0 (F := F)).Adm) (t : Fin (cfg0 a).N) : Prog (TpuEff nD τ sig (Elt F) Λ₀ .tc) PUnit :=
  cc0_fwd (dynb0 a.1) (Pipeline.Grid.Coords.static grid0 ((cfg0 a).grid.coords t)) (BitVec.ofNat 32 ((cfg0 a).grid.coords t 0).val) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.FwdIdeal.Gen

end
-- ==== Proof.FWI.RunA.lean ====
/- The body of the forward kernel at the first point: what its stores leave in the block normalisers. -/
module

public import proofs.«01_k».proof.Proof.FWI.Runs

@[expose] public section

-- membership in a rectangle of production extents (`View.cover_of_tiled`): the elaborator's structural look
-- recurses once per coordinate of the long axes
set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6052000 in
/-- What the body's stores leave in the block normalisers at the first point, as pieces (last first), with the proof
    that the body runs to the continuation with the inputs as they were, the block normalisers with the pieces written, and the
    other outputs and the scratch buffers at some contents: whether the point is the last or not. -/
noncomputable def kernelRun0_A (c : Dev nD) (b : grid0.Bounds) (i : grid0.Static) (w : BitVec 32) (hw : k0_chk1 w) (arg3 : Memref sig .tc .vmem S960x3072 .fp8e4m3) (harg3 : arg3.IsWhole) (arg4 : Memref sig .tc .vmem S960x1 .f32) (harg4 : arg4.IsWhole) (arg5 : Memref sig .tc .vmem S960x1 .i32) (harg5 : arg5.IsWhole) (arg6 : Memref sig .tc .vmem S960x1 .i32) (harg6 : arg6.IsWhole) (arg7 : Memref sig .tc .vmem S512x3072 .fp8e4m3) (harg7 : arg7.IsWhole) (arg8 : Memref sig .tc .vmem S1x1x512 .f32) (harg8 : arg8.IsWhole) (arg9 : Memref sig .tc .vmem S960x128 .i32) (harg9 : arg9.IsWhole) (arg10 : Memref sig .tc .vmem S1x960x512 .f32) (harg10 : arg10.IsWhole) (arg11 : Memref sig .tc .vmem S960x256 .f32) (harg11 : arg11.IsWhole) (arg12 : Memref sig .tc .vmem S960x1 .f32) (harg12 : arg12.IsWhole) (arg13 : Memref sig .tc .vmem S960x1 .f32) (harg13 : arg13.IsWhole) (arg14 : Memref sig .tc .vmem S960x1 .f32) (harg14 : arg14.IsWhole) (arg15 : Memref sig .tc .vmem S960x1 .f32) (harg15 : arg15.IsWhole) (arg16 : Memref sig .tc .vmem S960x1 .f32) (harg16 : arg16.IsWhole) (arg17 : Memref sig .tc .vmem S960x1 .f32) (harg17 : arg17.IsWhole) (arg18 : Memref sig .tc .vmem S960x1 .f32) (harg18 : arg18.IsWhole) (hc0 : cond0_0 w)
    (x0 : Vec F S960x3072 .fp8e4m3) (x1 : Vec F S960x1 .f32) (x2 : Vec F S960x1 .i32) (x3 : Vec F S960x1 .i32) (x4 : Vec F S512x3072 .fp8e4m3) (x5 : Vec F S1x1x512 .f32) (x6 : Vec F S960x128 .i32) (xt1 : TbBuf0 (F := F) c tbM0_1) (xt2 : TbBuf0 (F := F) c tbM0_2) :
    { L8 : List (View.Piece (Elt F) S960x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_1 xt1 ∗ tbPt0 c tbM0_2 xt2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ f, arg11.view.loc (c : Thread nD τ) ↦[arg11.view.set]{fullShare} arg11.view.writes (Elt F) f L8) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_1 xt1 ∗ tbPt0 c tbM0_2 xt2) -∗ K ⟨⟩))
          ⊢ wp frame (wpE (defs₀ (F := F)) Variants.none c none) E (cc0_fwd b i w tbM0_1 htbM0_1 tbM0_2 htbM0_2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_fwd_eq_skeleton]; unfold cc0_fwd_skel
    simp only [k0_part87_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part88_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, HT1, HT2, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    rcases Classical.em (k0_cond2 w (actw c xt2) = 1#1) with hc1 | hc1 <;>
    · sl_exec (disch := first | sl_exact hc0 | sl_exact hc1 | sl_exact hw)
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _; isplitr; · ipureintro; exact harg9.read_unread _
        iexact H6
      isplitl [H7]
      · iexists _, _; isplitr; swap; · iexact H7
        ipureintro; rfl
      isplitl [H8]; · iexists _; iexact H8
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [HT1]; · iexact HT1
      iexact HT2

end Cert.FwdIdeal.Gen

end
-- ==== Proof.FWI.RunB.lean ====
/- The body of the forward kernel at a point after the first: what its stores leave in the block normalisers. -/
module

public import proofs.«01_k».proof.Proof.FWI.RunA

@[expose] public section

-- membership in a rectangle of production extents (`View.cover_of_tiled`): the elaborator's structural look
-- recurses once per coordinate of the long axes
set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6052000 in
/-- What the body's stores leave in the block normalisers at a later point, as pieces (last first), with the proof
    that the body runs to the continuation with the inputs as they were, the block normalisers with the pieces written, and the
    other outputs and the scratch buffers at some contents: whether the point is the last or not. -/
noncomputable def kernelRun0_B (c : Dev nD) (b : grid0.Bounds) (i : grid0.Static) (w : BitVec 32) (hw : k0_chk1 w) (arg3 : Memref sig .tc .vmem S960x3072 .fp8e4m3) (harg3 : arg3.IsWhole) (arg4 : Memref sig .tc .vmem S960x1 .f32) (harg4 : arg4.IsWhole) (arg5 : Memref sig .tc .vmem S960x1 .i32) (harg5 : arg5.IsWhole) (arg6 : Memref sig .tc .vmem S960x1 .i32) (harg6 : arg6.IsWhole) (arg7 : Memref sig .tc .vmem S512x3072 .fp8e4m3) (harg7 : arg7.IsWhole) (arg8 : Memref sig .tc .vmem S1x1x512 .f32) (harg8 : arg8.IsWhole) (arg9 : Memref sig .tc .vmem S960x128 .i32) (harg9 : arg9.IsWhole) (arg10 : Memref sig .tc .vmem S1x960x512 .f32) (harg10 : arg10.IsWhole) (arg11 : Memref sig .tc .vmem S960x256 .f32) (harg11 : arg11.IsWhole) (arg12 : Memref sig .tc .vmem S960x1 .f32) (harg12 : arg12.IsWhole) (arg13 : Memref sig .tc .vmem S960x1 .f32) (harg13 : arg13.IsWhole) (arg14 : Memref sig .tc .vmem S960x1 .f32) (harg14 : arg14.IsWhole) (arg15 : Memref sig .tc .vmem S960x1 .f32) (harg15 : arg15.IsWhole) (arg16 : Memref sig .tc .vmem S960x1 .f32) (harg16 : arg16.IsWhole) (arg17 : Memref sig .tc .vmem S960x1 .f32) (harg17 : arg17.IsWhole) (arg18 : Memref sig .tc .vmem S960x1 .f32) (harg18 : arg18.IsWhole) (hc0 : ¬cond0_0 w)
    (x0 : Vec F S960x3072 .fp8e4m3) (x1 : Vec F S960x1 .f32) (x2 : Vec F S960x1 .i32) (x3 : Vec F S960x1 .i32) (x4 : Vec F S512x3072 .fp8e4m3) (x5 : Vec F S1x1x512 .f32) (x6 : Vec F S960x128 .i32) (x8 : Vec F S960x256 .f32) (xt1 : TbBuf0 (F := F) c tbM0_1) (xt2 : TbBuf0 (F := F) c tbM0_2) :
    { L8 : List (View.Piece (Elt F) S960x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_1 xt1 ∗ tbPt0 c tbM0_2 xt2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ f, arg11.view.loc (c : Thread nD τ) ↦[arg11.view.set]{fullShare} arg11.view.writes (Elt F) f L8) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_1 xt1 ∗ tbPt0 c tbM0_2 xt2) -∗ K ⟨⟩))
          ⊢ wp frame (wpE (defs₀ (F := F)) Variants.none c none) E (cc0_fwd b i w tbM0_1 htbM0_1 tbM0_2 htbM0_2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_fwd_eq_skeleton]; unfold cc0_fwd_skel
    simp only [k0_part87_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part88_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, HT1, HT2, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hf8
    rcases Classical.em (k0_cond2 w (actw c xt2) = 1#1) with hc1 | hc1 <;>
    · sl_exec (disch := first | sl_exact hc0 | sl_exact hc1 | sl_exact hw)
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _; isplitr; · ipureintro; exact harg9.read_unread _
        iexact H6
      isplitl [H7]
      · iexists _, _; isplitr; swap; · iexact H7
        ipureintro; rfl
      isplitl [H8]; · iexists _; iexact H8
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [HT1]; · iexact HT1
      iexact HT2

end Cert.FwdIdeal.Gen

end
-- ==== Proof.FWI.Frame.lean ====
/- The frame of the forward kernel: what the body leaves at each point, the body obligation, the launch. -/
module

public import proofs.«01_k».proof.Proof.FWI.RunB
public import Idealize.ShloMosaic.Lib.Claim

@[expose] public section

-- membership in a rectangle of production extents (`View.cover_of_tiled`): the elaborator's structural look
-- recurses once per coordinate of the long axes
set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem N_eq (hO : Ok m) : (cfgM m hO).N = dynb0 (tbl m) 0 := by
  show (grid0.at (dynb0 (tbl m))).N = _
  exact Nat.mul_one _

/-- The coordinate of a point is its number. -/
theorem coord_eq (hO : Ok m) (t : Fin (cfgM m hO).N) : ((cfgM m hO).grid.coords t 0).val = t.val := by
  have e := Pipeline.Grid.coords_val (G := (cfgM m hO).grid) t 0 (S := 1) (B := dynb0 (tbl m) 0) rfl rfl
  rw [e, Nat.div_one, Nat.mod_eq_of_lt (lt_of_lt_of_eq t.isLt (N_eq m hO))]

/-- The assumption of the body: the point's entry of the list is inside the list. -/
theorem chk (hO : Ok m) (t : Fin (cfgM m hO).N) : k0_chk1 (ptw m hO t) := hO.2.1 _

theorem ptw_toNat (hO : Ok m) (t : Fin (cfgM m hO).N) : (ptw m hO t).toNat ≤ 250 := by
  have h := chk m hO t 0
  have h' : (ptw m hO t).toNat + 1 ≤ 251 := h
  omega

/-- Fewer points than blocks. -/
theorem pt_lt (hO : Ok m) (t : Fin (cfgM m hO).N) : (ptw m hO t).toNat = t.val := by
  show (BitVec.ofNat 32 ((cfgM m hO).grid.coords t 0).val).toNat = t.val
  rw [coord_eq, BitVec.toNat_ofNat]
  have hA : (cfgM m hO).N + 2 < 2 ^ 31 := hO.1
  have := t.isLt
  omega

theorem first_iff (hO : Ok m) (t : Fin (cfgM m hO).N) : cond0_0 (ptw m hO t) ↔ t.val = 0 := by
  rw [← pt_lt m hO t]
  generalize ptw m hO t = w
  constructor
  · intro h
    by_contra hw
    have hw' : ¬w = 0#32 := fun e => hw (by rw [e]; rfl)
    revert h
    have hb : (w == 0#32) = false := by simpa using hw'
    simp [cond0_0, Scalar.cmpi, Scalar.extui, IntOp.cmpi, hb]
  · intro h
    have hw : w = 0#32 := BitVec.eq_of_toNat_eq h
    subst hw; decide

/-! ## What the body leaves in the block normalisers -/

/-- The body's run at the first point, on what the pipeline calls it with. -/
abbrev runA (hO : Ok m) (c : Dev nD) (t : Fin (cfgM m hO).N) (h0 : cond0_0 (ptw m hO t)) :=
  kernelRun0_A (F := F) c (dynb0 (tbl m)) (Pipeline.Grid.Coords.static grid0 ((cfgM m hO).grid.coords t)) (ptw m hO t) (chk m hO t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) h0
    (iblk m hO c 0 t) (iblk m hO c 1 t) (iblk m hO c 2 t) (iblk m hO c 3 t) (iblk m hO c 4 t) (iblk m hO c 5 t) (iblk m hO c 6 t) (tbl m 1) (tbl m 2)

/-- The body's run at a later point, on what the pipeline calls it with. -/
abbrev runB (hO : Ok m) (c : Dev nD) (t : Fin (cfgM m hO).N) (h0 : ¬cond0_0 (ptw m hO t)) (x8 : Vec F S960x256 .f32) :=
  kernelRun0_B (F := F) c (dynb0 (tbl m)) (Pipeline.Grid.Coords.static grid0 ((cfgM m hO).grid.coords t)) (ptw m hO t) (chk m hO t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) h0
    (iblk m hO c 0 t) (iblk m hO c 1 t) (iblk m hO c 2 t) (iblk m hO c 3 t) (iblk m hO c 4 t) (iblk m hO c 5 t) (iblk m hO c 6 t) x8 (tbl m 1) (tbl m 2)

theorem coverA (hO : Ok m) (c : Dev nD) (t : Fin (cfgM m hO).N) (h0 : cond0_0 (ptw m hO t)) (y : S960x256.Idx) :
    ∃ pc ∈ (runA m hO c t h0).1, y ∈ pc.1.set :=
  View.cover_of_wholeMem (runA m hO c t h0).1 (by sl_whole_mem) y

theorem coverB (hO : Ok m) (c : Dev nD) (t : Fin (cfgM m hO).N) (h0 : ¬cond0_0 (ptw m hO t)) (x8 : Vec F S960x256 .f32) (y : S960x256.Idx) :
    ∃ pc ∈ (runB m hO c t h0 x8).1, y ∈ pc.1.set :=
  View.cover_of_tiledL (runB m hO c t h0 x8).1 S64x256.size (by sl_kernel_rfl) y

/-- What the block normalisers hold after a point, from what they held before it (read at the first point never). -/
def stepAt (hO : Ok m) (c : Dev nD) (t : Fin (cfgM m hO).N) (x8 : Vec F S960x256 .f32) : Vec F S960x256 .f32 :=
  if h0 : cond0_0 (ptw m hO t) then (ms0_8 m hO t).view.read (Elt F) ((ms0_8 m hO t).view.writes (Elt F) (ms0_8 m hO t).view.junk (runA m hO c t h0).1)
  else (ms0_8 m hO t).view.read (Elt F) ((ms0_8 m hO t).view.writes (Elt F) (ms0_8 m hO t).view.junk (runB m hO c t h0 x8).1)

/-- After the points up to `n`. -/
def outsAt0 (hO : Ok m) (c : Dev nD) : (n : ℕ) → n < (cfgM m hO).N → Vec F S960x256 .f32
  | 0, hn => stepAt m hO c ⟨0, hn⟩ ((ms0_8 m hO ⟨0, hn⟩).view.read (Elt F) (ms0_8 m hO ⟨0, hn⟩).view.junk)
  | n + 1, hn => stepAt m hO c ⟨n + 1, hn⟩ (outsAt0 hO c n (Nat.lt_of_succ_lt hn))

theorem outsAt0_first (hO : Ok m) (c : Dev nD) (t : Fin (cfgM m hO).N) (h0 : cond0_0 (ptw m hO t)) :
    outsAt0 m hO c t.val t.isLt = (ms0_8 m hO t).view.read (Elt F) ((ms0_8 m hO t).view.writes (Elt F) (ms0_8 m hO t).view.junk (runA m hO c t h0).1) := by
  obtain ⟨n, hn⟩ := t
  cases n with
  | zero => exact dif_pos h0
  | succ n => exact dif_pos h0

theorem outsAt0_later (hO : Ok m) (c : Dev nD) (t : Fin (cfgM m hO).N) (h0 : ¬cond0_0 (ptw m hO t)) (hp : t.val - 1 < (cfgM m hO).N) :
    outsAt0 m hO c t.val t.isLt = (ms0_8 m hO t).view.read (Elt F) ((ms0_8 m hO t).view.writes (Elt F) (ms0_8 m hO t).view.junk (runB m hO c t h0 (outsAt0 m hO c (t.val - 1) hp)).1) := by
  obtain ⟨n, hn⟩ := t
  cases n with
  | zero => exact absurd ((first_iff m hO ⟨0, hn⟩).mpr rfl) h0
  | succ n => exact dif_neg h0

/-! ## The proof data -/

/-- The outputs of which nothing is said: the logits, the normaliser, the target's log-probability, the gradient's range. -/
def forgets0 : Fin 12 → Bool := fun w => w.val == 7 || w.val == 9 || w.val == 10 || w.val == 11

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => Pipeline.Dat.unnamed (cfg := (cfgM m hO)) ⟨7, h⟩ t
    | ⟨8, _⟩ => outsAt0 m hO c t.val t.isLt
    | ⟨9, h⟩ => Pipeline.Dat.unnamed (cfg := (cfgM m hO)) ⟨9, h⟩ t
    | ⟨10, h⟩ => Pipeline.Dat.unnamed (cfg := (cfgM m hO)) ⟨10, h⟩ t
    | ⟨11, h⟩ => Pipeline.Dat.unnamed (cfg := (cfgM m hO)) ⟨11, h⟩ t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem after0_1 (hO : Ok m) (c : Dev nD) (t : Fin (cfgM m hO).N) : (dats m hO 0 c).after 1 t = iblk m hO c 1 t := by dsimp only [dats]; try rfl
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem after0_2 (hO : Ok m) (c : Dev nD) (t : Fin (cfgM m hO).N) : (dats m hO 0 c).after 2 t = iblk m hO c 2 t := by dsimp only [dats]; try rfl
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem after0_3 (hO : Ok m) (c : Dev nD) (t : Fin (cfgM m hO).N) : (dats m hO 0 c).after 3 t = iblk m hO c 3 t := by dsimp only [dats]; try rfl
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem after0_4 (hO : Ok m) (c : Dev nD) (t : Fin (cfgM m hO).N) : (dats m hO 0 c).after 4 t = iblk m hO c 4 t := by dsimp only [dats]; try rfl
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem after0_5 (hO : Ok m) (c : Dev nD) (t : Fin (cfgM m hO).N) : (dats m hO 0 c).after 5 t = iblk m hO c 5 t := by dsimp only [dats]; try rfl
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem after0_6 (hO : Ok m) (c : Dev nD) (t : Fin (cfgM m hO).N) : (dats m hO 0 c).after 6 t = iblk m hO c 6 t := by dsimp only [dats]; try rfl
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem after0_8 (hO : Ok m) (c : Dev nD) (t : Fin (cfgM m hO).N) : (dats m hO 0 c).after 8 t = outsAt0 m hO c t.val t.isLt := by dsimp only [dats]; try rfl

/-- The block normalisers are written back after the last point only. -/
theorem flush0_8 (hO : Ok m) (t : Fin (cfgM m hO).N) (ht : t.val + 1 < (cfgM m hO).N) : ((cfgM m hO).win 8).flush t = false := by
  rw [Pipeline.Window.flush_eq_flushOf]
  unfold Pipeline.Window.flushOf
  rw [decide_eq_false (Nat.ne_of_lt ht), decide_eq_false (fun h => h.2 rfl)]
  exact Bool.and_false _

/-- A later point finds in the block normalisers what the point before left. -/
theorem before0_8 (hO : Ok m) (c : Dev nD) (t : Fin (cfgM m hO).N) (hz : t.val ≠ 0) (d) :
    (dats m hO 0 c).before 8 t d = outsAt0 m hO c (t.val - 1) (Nat.lt_of_le_of_lt (Nat.sub_le _ _) t.isLt) := by
  rw [(dats m hO 0 c).before_of_pos 8 t hz (by first | rfl | exact fun h => Bool.noConfusion h) d]
  have hf := flush0_8 m hO ⟨t.val - 1, Nat.lt_of_le_of_lt (Nat.sub_le _ _) t.isLt⟩ (by show t.val - 1 + 1 < _; omega)
  rw [hf, if_neg Bool.false_ne_true]
  unfold Dat.left
  rw [show (cfgM m hO).idle 8 ((cfgM m hO).grid.coords ⟨t.val - 1, Nat.lt_of_le_of_lt (Nat.sub_le _ _) t.isLt⟩) = false from rfl]
  exact after0_8 m hO c ⟨t.val - 1, Nat.lt_of_le_of_lt (Nat.sub_le _ _) t.isLt⟩

theorem leaves0_0 (hO : Ok m) (c : Dev nD) (t : Fin (cfgM m hO).N) :
    (dats m hO 0 c).leavesExact 0 t = owns (c : Thread nD τ) (ms0_0 m hO t) fullShare (iblk m hO c 0 t) := by
  rw [← after0_0]; unfold Dat.leavesExact; rw [show (cfgM m hO).idle 0 ((cfgM m hO).grid.coords t) = false from rfl]; rfl
theorem leaves0_1 (hO : Ok m) (c : Dev nD) (t : Fin (cfgM m hO).N) :
    (dats m hO 0 c).leavesExact 1 t = owns (c : Thread nD τ) (ms0_1 m hO t) fullShare (iblk m hO c 1 t) := by
  rw [← after0_1]; unfold Dat.leavesExact; rw [show (cfgM m hO).idle 1 ((cfgM m hO).grid.coords t) = false from rfl]; rfl
theorem leaves0_2 (hO : Ok m) (c : Dev nD) (t : Fin (cfgM m hO).N) :
    (dats m hO 0 c).leavesExact 2 t = owns (c : Thread nD τ) (ms0_2 m hO t) fullShare (iblk m hO c 2 t) := by
  rw [← after0_2]; unfold Dat.leavesExact; rw [show (cfgM m hO).idle 2 ((cfgM m hO).grid.coords t) = false from rfl]; rfl
theorem leaves0_3 (hO : Ok m) (c : Dev nD) (t : Fin (cfgM m hO).N) :
    (dats m hO 0 c).leavesExact 3 t = owns (c : Thread nD τ) (ms0_3 m hO t) fullShare (iblk m hO c 3 t) := by
  rw [← after0_3]; unfold Dat.leavesExact; rw [show (cfgM m hO).idle 3 ((cfgM m hO).grid.coords t) = false from rfl]; rfl
theorem leaves0_4 (hO : Ok m) (c : Dev nD) (t : Fin (cfgM m hO).N) :
    (dats m hO 0 c).leavesExact 4 t = owns (c : Thread nD τ) (ms0_4 m hO t) fullShare (iblk m hO c 4 t) := by
  rw [← after0_4]; unfold Dat.leavesExact; rw [show (cfgM m hO).idle 4 ((cfgM m hO).grid.coords t) = false from rfl]; rfl
theorem leaves0_5 (hO : Ok m) (c : Dev nD) (t : Fin (cfgM m hO).N) :
    (dats m hO 0 c).leavesExact 5 t = owns (c : Thread nD τ) (ms0_5 m hO t) fullShare (iblk m hO c 5 t) := by
  rw [← after0_5]; unfold Dat.leavesExact; rw [show (cfgM m hO).idle 5 ((cfgM m hO).grid.coords t) = false from rfl]; rfl
theorem leaves0_6 (hO : Ok m) (c : Dev nD) (t : Fin (cfgM m hO).N) :
    (dats m hO 0 c).leavesExact 6 t = owns (c : Thread nD τ) (ms0_6 m hO t) fullShare (iblk m hO c 6 t) := by
  rw [← after0_6]; unfold Dat.leavesExact; rw [show (cfgM m hO).idle 6 ((cfgM m hO).grid.coords t) = false from rfl]; rfl
theorem leaves0_8 (hO : Ok m) (c : Dev nD) (t : Fin (cfgM m hO).N) :
    (dats m hO 0 c).leavesExact 8 t = owns (c : Thread nD τ) (ms0_8 m hO t) fullShare (outsAt0 m hO c t.val t.isLt) := by
  rw [← after0_8]; unfold Dat.leavesExact; rw [show (cfgM m hO).idle 8 ((cfgM m hO).grid.coords t) = false from rfl]; rfl

/-! ## The body obligation -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare d)
    ∗ (∃ d, owns (c : Thread nD τ) (ms0_8 m hO t) fullShare ((dats m hO 0 c).before 8 t d))
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (∃ d, owns (c : Thread nD τ) (ms0_7 m hO t) fullShare d)
    ∗ (dats m hO 0 c).leavesExact 8 t
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d))

set_option maxHeartbeats 19200000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl,
    show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiT0_eq, PhiA0_eq,
    leaves0_0, leaves0_1, leaves0_2, leaves0_3, leaves0_4, leaves0_5, leaves0_6, leaves0_8]
  by_cases h0 : cond0_0 (ptw m hO t)
  · rw [outsAt0_first m hO c t h0]
    iintro ⟨⟨⟨⟨HS0, HS1, HS2, HS3⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA m hO c t h0).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    isplitl [HT1]; · iexact HT1
    isplitl [HT2]; · iexact HT2
    iintro ⟨H0, H1, H2, H3, H4, H5, H6, H7, ⟨%e8, H8⟩, H9, H10, H11, HS0, HS1, HS2, HS3, HT1, HT2⟩
    isplitl [HS0 HS1 HS2 HS3 Hg HT0 HT1 HT2]
    · isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverA m hO c t h0)
    isplitl [H9]; · iexact H9
    isplitl [H10]; · iexact H10
    iexact H11
  · have hz : t.val ≠ 0 := fun h => h0 ((first_iff m hO t).mpr h)
    simp only [before0_8 m hO c t hz]
    rw [outsAt0_later m hO c t h0 (Nat.lt_of_le_of_lt (Nat.sub_le _ _) t.isLt)]
    iintro ⟨⟨⟨⟨HS0, HS1, HS2, HS3⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runB m hO c t h0 _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    isplitl [HT1]; · iexact HT1
    isplitl [HT2]; · iexact HT2
    iintro ⟨H0, H1, H2, H3, H4, H5, H6, H7, ⟨%e8, H8⟩, H9, H10, H11, HS0, HS1, HS2, HS3, HT1, HT2⟩
    isplitl [HS0 HS1 HS2 HS3 Hg HT0 HT1 HT2]
    · isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverB m hO c t h0 _)
    isplitl [H9]; · iexact H9
    isplitl [H10]; · iexact H10
    iexact H11

theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

theorem hout (hO : Ok m) (c : Dev nD) : (dats m hO 0 c).Φ (Fin.last (cfgM m hO).N) ⊢ Pipeline.ΦA spec0 c := by
  rw [show (dats m hO 0 c).Φ (Fin.last (cfgM m hO).N) = iprop(Pipeline.ΦA spec0 c ∗ Pipeline.ΦT pre0 (tbl m) c) from rfl]
  iintro ⟨H, -⟩
  iexact H

/-! ## The launch -/

set_option backward.isDefEq.respectTransparency.types false in
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_track_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun c => Idealize.SL.BI.Entails.refl _) (hout := hout m hO)

theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- The argument arrays end unchanged and the semaphores at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ hO (fun c => (dats m hO 0 c).toRForget forgets0) (A_eq m hO) (run_main m ρ hO))
    ((θ_run defs _ _).mono (fun _ h => h.2) (run_main_quiescent m ρ hO))

end Cert.FwdIdeal.Gen

end
-- ==== Proof.FWI.Ok.lean ====
/- The forward pipeline's side condition of the tables, from the list's range. -/
module

public import proofs.«01_k».proof.Proof.FWI.Frame
public import Idealize.ShloMosaic.Lib.Affine
public import Idealize.ShloMosaic.Lib.Pipeline.ValueKit
public import Idealize.ShloMosaic.Lib.Pointwise
public import Idealize.ShloMosaic.Lib.Claim

@[expose] public section

set_option maxRecDepth 16384

namespace Cert.FwdIdeal.Gen

open Idealize.ShloMosaic Idealize.ShloMosaic.TcCoe

variable {F : FTy → Type} [FloatOps F]
variable (m : (ℓ : Loc nD τ sig) → Buf (Elt F) ℓ)

theorem inb_w (n : Nat) (h : n < 251) : ∀ a, (![n, 0] a + 1) * S512x3072.size a ≤ S128512x3072.size a := by
  intro a
  fin_cases a
  · show (n + 1) * 512 ≤ 128512; omega
  · show (0 + 1) * 3072 ≤ 3072; omega

theorem inb_ws (n : Nat) (h : n < 251) : ∀ a, (![n, 0, 0] a + 1) * S1x1x512.size a ≤ S251x1x512.size a := by
  intro a
  fin_cases a
  · show (n + 1) * 1 ≤ 251; omega
  · show (0 + 1) * 1 ≤ 1; omega
  · show (0 + 1) * 512 ≤ 512; omega

theorem inb_lg (n : Nat) (h : n < 251) : ∀ a, (![n, 0, 0] a + 1) * S1x960x512.size a ≤ S251x960x512.size a := by
  intro a
  fin_cases a
  · show (n + 1) * 1 ≤ 251; omega
  · show (0 + 1) * 960 ≤ 960; omega
  · show (0 + 1) * 512 ≤ 512; omega

theorem inb_m (n : Nat) (h : n < 32) : ∀ a, (![0, n] a + 1) * S960x128.size a ≤ S960x4096.size a := by
  intro a
  fin_cases a
  · show (0 + 1) * 960 ≤ 960; omega
  · show (n + 1) * 128 ≤ 4096; omega

theorem words_w (n : Nat) (h : ∀ a, (![n, 0] a + 1) * S512x3072.size a ≤ S128512x3072.size a) :
    (Rect.block (s := S128512x3072) S512x3072.size ![n, 0] h).WholeWords (EltTy.packing .fp8e4m3) := by
  exact Affine.block_words_dvd (of_decide_eq_true rfl) (by decide)

theorem words_x (h : ∀ a, (![0, 0] a + 1) * S960x3072.size a ≤ S960x3072.size a) :
    (Rect.block (s := S960x3072) S960x3072.size ![0, 0] h).WholeWords (EltTy.packing .fp8e4m3) := by
  exact Affine.block_words_dvd (of_decide_eq_true rfl) (by decide)

theorem inb_x : ∀ a : Fin 2, ((![0, 0] : Fin 2 → ℕ) a + 1) * S960x3072.size a ≤ S960x3072.size a := by decide +kernel
theorem inb_1 : ∀ a : Fin 2, ((![0, 0] : Fin 2 → ℕ) a + 1) * S960x1.size a ≤ S960x1.size a := by decide +kernel
theorem inb_b : ∀ a : Fin 2, ((![0, 0] : Fin 2 → ℕ) a + 1) * S960x256.size a ≤ S960x256.size a := by decide +kernel

/-- The quotient by 8, rounded down, as the index map of the mask computes it. -/
def fdw (v1 : BitVec 32) : BitVec 32 :=
  Scalar.select (Scalar.andi
      (Scalar.cmpi .ne (Scalar.subi (Scalar.extui (Scalar.cmpi .sgt v1 0#32)) (Scalar.extui (Scalar.cmpi .slt v1 0#32)))
        (Scalar.subi (Scalar.extui (Scalar.cmpi .sgt 8#32 0#32)) (Scalar.extui (Scalar.cmpi .slt 8#32 0#32))))
      (Scalar.cmpi .ne (Scalar.remsi v1 8#32) 0#32))
    (Scalar.subi (Scalar.divsi v1 8#32) 1#32) (Scalar.divsi v1 8#32)

theorem fdw_ofNat : ∀ n : Fin 251, (fdw (BitVec.ofNat 32 n.val)).toNat < 32 := by decide +kernel

theorem fdw_lt (w : BitVec 32) (h : w.toNat < 251) : (fdw w).toNat < 32 := by
  have e : w = BitVec.ofNat 32 w.toNat := BitVec.eq_of_toNat_eq (by rw [BitVec.toNat_ofNat, Nat.mod_eq_of_lt (by omega)])
  rw [e]
  exact fdw_ofNat ⟨w.toNat, h⟩

/-- A list in range: the pipeline's side condition. -/
theorem ok_of (hk : (tbl m 0 fun a => a.elim0 : BitVec 32).toNat ≤ 251)
    (ho : ∀ j : Fin 251, j.val < (tbl m 0 fun a => a.elim0 : BitVec 32).toNat → (tbl m 1 (ix1 j) : BitVec 32).toNat < 251) : Ok m := by
  have hc : ∀ i : (grid0.at (dynb0 (tbl m))).Coords, (i 0).val < (tbl m 0 fun a => a.elim0 : BitVec 32).toNat := fun i => (i 0).isLt
  have hw : ∀ i : (grid0.at (dynb0 (tbl m))).Coords, (BitVec.ofNat 32 (i 0).val).toNat = (i 0).val := fun i => by
    have := hc i
    rw [BitVec.toNat_ofNat, Nat.mod_eq_of_lt (by omega)]
  have ht : ∀ i : (grid0.at (dynb0 (tbl m))).Coords, ((tbl m).atD 1 ![(BitVec.ofNat 32 (i 0).val).toNat] : BitVec 32).toNat < 251 := fun i => by
    have h1 := hc i
    have h : ∀ a, (![(BitVec.ofNat 32 (i 0).val).toNat] : Fin 1 → ℕ) a + 1 ≤ S251.size a := fun a => by
      match a with
      | 0 => show (BitVec.ofNat 32 (i 0).val).toNat + 1 ≤ 251; rw [hw]; omega
    have e : (tbl m).atD 1 ![(BitVec.ofNat 32 (i 0).val).toNat] = tbl m 1 (ix1 ⟨(i 0).val, by omega⟩) := by
      refine (dif_pos h).trans (congrArg (tbl m 1) ?_)
      refine (eq_ix1 _).trans (congrArg ix1 (Fin.ext ?_))
      exact hw i
    rw [e]
    exact ho _ h1
  refine ⟨?_, fun i a => ?_, fun i => ⟨inb_x, .inr (words_x _)⟩, fun i => ⟨inb_1, .inl rfl⟩, fun i => ⟨inb_1, .inl rfl⟩, fun i => ⟨inb_1, .inl rfl⟩,
    fun i => ⟨inb_w _ (ht i), .inr (words_w _ _)⟩, fun i => ⟨inb_ws _ (ht i), .inl rfl⟩, fun i => ⟨inb_m _ (fdw_lt _ (ht i)), .inl rfl⟩,
    fun i => ⟨inb_lg _ (by have := hc i; have := hw i; omega), .inl rfl⟩, fun i => ⟨inb_b, .inl rfl⟩, fun i => ⟨inb_1, .inl rfl⟩, fun i => ⟨inb_1, .inl rfl⟩, fun i => ⟨inb_1, .inl rfl⟩⟩
  · show (grid0.at (dynb0 (tbl m))).N + 2 < 2 ^ 31
    have e : (grid0.at (dynb0 (tbl m))).N = (tbl m 0 fun a => a.elim0 : BitVec 32).toNat := Nat.mul_one _
    omega
  · match a with
    | 0 => show (BitVec.ofNat 32 (i 0).val).toNat + 1 ≤ 251; have := hc i; have := hw i; omega

/-- The grid's bound is the number of listed blocks. -/
theorem tbl_0 : (tbl m 0 fun a => a.elim0 : BitVec 32) = (m (((0 : Dev nD) : Thread nD τ).loc main_arg1) (ix1 0) : BitVec 32) := by
  have e : ∀ i : S_.Idx, (show IVec S_ 32 from V m 0 main_v0) i = (show IVec S1 32 from m (((0 : Dev nD) : Thread nD τ).loc main_arg1)) (ix1 0) := fun i => by
    dsimp only
    entry_read
    exact congrArg (m _) ((eq_ix1 _).trans (congrArg ix1 (Subsingleton.elim (α := Fin 1) _ _)))
  exact e _

theorem tbl_1 (j : Fin 251) : (tbl m 1 (ix1 j) : BitVec 32) = (m (((0 : Dev nD) : Thread nD τ).loc main_arg0) (ix1 j) : BitVec 32) :=
  congrFun (V_main_arg0 m 0) (ix1 j)

end Cert.FwdIdeal.Gen
-- ==== Proof.FWI.Chunk.lean ====
/- One chunk of 64 rows of the forward kernel's body: the masked logits of a block of 512 columns and the row's block normaliser,
   in the body's own operations, whatever the block and the chunk. -/
module

public import proofs.«01_k».proof.Proof.Gen.FwdIdeal.Skeleton
public import Idealize.ShloMosaic.Lib.Pointwise
public import Idealize.ShloMosaic.PureOps.Ideal.Laws

@[expose] public section

set_option maxRecDepth 16384

noncomputable section

namespace Cert.FwdIdeal.Gen

open Idealize.ShloMosaic Idealize.ShloMosaic.TcCoe

variable {F : FTy → Type} [FloatOps F]

/-- The block's remainder modulo 8, as the body computes it. -/
def rem8 (b : BitVec 32) : BitVec 32 :=
  let d := Scalar.select (Scalar.cmpi .eq 8#32 0#32) 1#32 8#32
  let q := Scalar.remsi b d
  Scalar.select (Scalar.andi (Scalar.xori (Scalar.cmpi .slt q 0#32) (Scalar.cmpi .slt d 0#32)) (Scalar.cmpi .ne q 0#32)) (Scalar.addi q d) q

/-- The lane numbers of a group of 128 columns. -/
def lane : IVec S64x128 32 := iota .tc S64x128 32 [1] iota_S64x128_d1_w32

/-- The mask words of a group of 128 columns: word `off + lane / 32` of the block's sixteen. -/
def words (b : BitVec 32) (mw : Vec F S64x128 .i32) (off : BitVec 32) : IVec S64x128 32 :=
  let i := addi (broadcast S64x128 (Scalar.addi (Scalar.muli (rem8 b) 16#32) off)) (shrsi lane (broadcast S64x128 5#32))
  dynamicGather 1 mw (shapeCast S64x128 (shapeCast S64x128x1 (select (cmpi .slt i (broadcast S64x128 0#32)) (addi i (broadcast S64x128 128#32)) i)
    shapeCasts_S64x128_S64x128x1) shapeCasts_S64x128x1_S64x128)

/-- Where a group's columns are allowed: the mask's bit is set and the column is below 128256. -/
def okAt (b : BitVec 32) (mw : Vec F S64x128 .i32) (off col : BitVec 32) : IVec S64x128 1 :=
  andi (cmpi .ne (andi (words b mw off) (shli (broadcast S64x128 1#32) (andi lane (broadcast S64x128 31#32)))) (broadcast S64x128 0#32))
    (cmpi .slt (addi lane (broadcast S64x128 (Scalar.addi (Scalar.muli b 512#32) col))) (broadcast S64x128 128256#32))

/-- The chunk's logits. -/
def lgc (b : BitVec 32) (w : Vec F S512x3072 .fp8e4m3) (ws : Vec F S1x1x512 .f32) (xq : Vec F S64x3072 .fp8e4m3) (xs : Vec F S64x1 .f32) : FVec F S64x512 .f32 :=
  mulf (mulf (matmul dot_S64x3072_S512x3072_S64x512_1_1_0_0_n_n none xq (k0_pay12 (F := F) b w) (constant S64x512 .f32 0x00000000#32))
    (broadcastTo S64x512 xs broadcasts_S64x1_S64x512)) (broadcastTo S64x512 (k0_pay13 ws) broadcasts_S1x512_S64x512)

/-- The chunk's masked logits. -/
def msk (b : BitVec 32) (lg : FVec F S64x512 .f32) (mw : Vec F S64x128 .i32) : FVec F S64x512 .f32 :=
  let ninf : FVec F S64x128 .f32 := broadcast S64x128 (Scalar.ofBits .f32 0xFF800000#32)
  concatenate S64x512 1 [⟨S64x128, select (okAt (F := F) b mw 0#32 0#32) (extractStridedSlice S64x128 ![0, 0] lg slices_S64x512_o0_0_S64x128) ninf⟩,
    ⟨S64x128, select (okAt (F := F) b mw 4#32 128#32) (extractStridedSlice S64x128 ![0, 128] lg slices_S64x512_o0_128_S64x128) ninf⟩,
    ⟨S64x128, select (okAt (F := F) b mw 8#32 256#32) (extractStridedSlice S64x128 ![0, 256] lg slices_S64x512_o0_256_S64x128) ninf⟩,
    ⟨S64x128, select (okAt (F := F) b mw 12#32 384#32) (extractStridedSlice S64x128 ![0, 384] lg slices_S64x512_o0_384_S64x128) ninf⟩]
    concatenates_S64x128_S64x128_S64x128_S64x128_S64x512_d1

/-- The greatest masked logit of each row. -/
def mxc (v : FVec F S64x512 .f32) : FVec F S64x1 .f32 :=
  shapeCast S64x1 (multiReduction .maximumf [1] S64 v 0xFF800000#32 reduces_S64x512_S64 (.inl rfl) rfl) shapeCasts_S64_S64x1

/-- Each row's block normaliser, from its masked logits. -/
def nrm (v : FVec F S64x512 .f32) : FVec F S64x1 .f32 :=
  let has := cmpf .ogt (mxc v) (broadcast S64x1 (Scalar.ofBits .f32 0xFF800000#32))
  let zero : FVec F S64x1 .f32 := broadcast S64x1 (Scalar.ofBits .f32 0x00000000#32)
  let bm := select has (mxc v) zero
  select has (addf bm (log (shapeCast S64x1 (multiReduction .add [1] S64 (exp (subf v (broadcastTo S64x512 bm broadcasts_S64x1_S64x512))) 0x00000000#32
    reduces_S64x512_S64 (.inl rfl) rfl) shapeCasts_S64_S64x1))) zero

/-- The chunk of the block normalisers as the body stores it: column `b` replaced. -/
def stc (b : BitVec 32) (n : FVec F S64x1 .f32) (old : Vec F S64x256 .f32) : FVec F S64x256 .f32 :=
  select (cmpi .eq (iota .tc S64x256 32 [1] iota_S64x256_d1_w32) (broadcast S64x256 b))
    (broadcastTo S64x256 (shapeCast S64x1 n shapeCasts_S64x1_S64x1) broadcasts_S64x1_S64x256) (shapeCast S64x256 old shapeCasts_S64x256_S64x256)

/-- The chunk stored, from the block of weights, its scales, and the chunk's rows. -/
def chunk (b : BitVec 32) (w : Vec F S512x3072 .fp8e4m3) (ws : Vec F S1x1x512 .f32) (xq : Vec F S64x3072 .fp8e4m3) (xs : Vec F S64x1 .f32)
    (mw : Vec F S64x128 .i32) (old : Vec F S64x256 .f32) : FVec F S64x256 .f32 :=
  stc b (nrm (msk b (lgc b w ws xq xs) mw)) old

end Cert.FwdIdeal.Gen
-- ==== Proof.FWI.Pieces.lean ====
/- The stores of the forward kernel's body into the block normalisers: fifteen chunks of 64 rows, each the generic chunk
   (`chunk`) of the block's columns and the chunk's rows. -/
module

public import proofs.«01_k».proof.Proof.FWI.RunB
public import proofs.«01_k».proof.Proof.FWI.Chunk

@[expose] public section

set_option maxRecDepth 16384

noncomputable section

namespace Cert.FwdIdeal.Gen

open Idealize.ShloMosaic Idealize.ShloMosaic.TcCoe Idealize.ShloMosaic.Tactic Idealize.SL.Sem

variable {F : FTy → Type} [FloatOps F]

theorem rows_inb (n k : ℕ) (hk : k < 15) (a : Fin 2) : (![64 * k, 0] : Fin 2 → ℕ) a + (![64, n] : Fin 2 → ℕ) a ≤ (⟨2, ![960, n]⟩ : Shape).size a := by
  match a with
  | 0 => show 64 * k + 64 ≤ 960; omega
  | 1 => show 0 + n ≤ n; omega

/-- Chunk `k` of a block of 960 rows. -/
def rows (n k : ℕ) (hk : k < 15) : Rect (⟨2, ![960, n]⟩ : Shape) := Rect.unit (s := ⟨2, ![960, n]⟩) ![64 * k, 0] ![64, n] (rows_inb n k hk)

/-- Chunk `k` as the body stores it, from the buffers' contents as it loads them. -/
def put (b : BitVec 32) (arg3 : Memref sig .tc .vmem S960x3072 .fp8e4m3) (harg3 : arg3.IsWhole) (arg4 : Memref sig .tc .vmem S960x1 .f32) (harg4 : arg4.IsWhole)
    (arg7 : Memref sig .tc .vmem S512x3072 .fp8e4m3) (harg7 : arg7.IsWhole) (arg8 : Memref sig .tc .vmem S1x1x512 .f32) (harg8 : arg8.IsWhole)
    (arg9 : Memref sig .tc .vmem S960x128 .i32) (harg9 : arg9.IsWhole)
    (x0 : Vec F S960x3072 .fp8e4m3) (x1 : Vec F S960x1 .f32) (x4 : Vec F S512x3072 .fp8e4m3) (x5 : Vec F S1x1x512 .f32) (x6 : Vec F S960x128 .i32)
    (k : ℕ) (hk : k < 15) (old : Vec F S64x256 .f32) : FVec F S64x256 .f32 :=
  chunk b (View.readAt (Elt F) arg7.view (Rect.unit (s := S512x3072) ![0, 0] S512x3072.size inb_S512x3072_S512x3072_0_0).toLoadRect (harg7.unread x4))
    (View.readAt (Elt F) arg8.view (Rect.unit (s := S1x1x512) ![0, 0, 0] S1x1x512.size inb_S1x1x512_S1x1x512_0_0_0).toLoadRect (harg8.unread x5))
    (View.readAt (Elt F) arg3.view (rows 3072 k hk).toLoadRect (harg3.unread x0))
    (View.readAt (Elt F) arg4.view (rows 1 k hk).toLoadRect (harg4.unread x1))
    (View.readAt (Elt F) arg9.view (rows 128 k hk).toLoadRect (harg9.unread x6)) old

/-- The first `k` chunks' stores over the zero fill, last first, each reading what the earlier ones left. -/
def pcsA (v : View sig .tc .vmem S960x256 .f32) (p : (k : ℕ) → k < 15 → Vec F S64x256 .f32 → FVec F S64x256 .f32) : (k : ℕ) → k ≤ 15 → List (View.Piece (Elt F) S960x256 .f32)
  | 0, _ => [⟨Rect.unit (s := S960x256) ![0, 0] S960x256.size inb_S960x256_S960x256_0_0, k0_pay11 (F := F)⟩]
  | k + 1, h => ⟨rows 256 k h, p k h (v.readCov (Val := Elt F) (pcsA v p k (Nat.le_of_succ_le h)) (rows 256 k h).toLoadRect)⟩ :: pcsA v p k (Nat.le_of_succ_le h)

/-- The first `k` chunks' stores, last first, each reading what was there before. -/
def pcsB (x : (k : ℕ) → k < 15 → Vec F S64x256 .f32) (p : (k : ℕ) → k < 15 → Vec F S64x256 .f32 → FVec F S64x256 .f32) : (k : ℕ) → k ≤ 15 → List (View.Piece (Elt F) S960x256 .f32)
  | 0, _ => []
  | k + 1, h => ⟨rows 256 k h, p k h (x k h)⟩ :: pcsB x p k (Nat.le_of_succ_le h)

end Cert.FwdIdeal.Gen
-- ==== Proof.FWI.Body.lean ====
/- What the forward kernel's body leaves in the block normalisers at a point: the block's column replaced. -/
module

public import proofs.«01_k».proof.Proof.FWI.Pieces

@[expose] public section

set_option maxRecDepth 16384

noncomputable section

namespace Cert.FwdIdeal.Gen

open Idealize.ShloMosaic Idealize.ShloMosaic.TcCoe Idealize.SL.Sem

variable {F : FTy → Type} [FloatOps F]

/-- Where chunk `k` lies in a block of 960 rows. -/
theorem rows_emb (n k : ℕ) (hk : k < 15) (r : Fin 64) (l : Fin n) :
    (rows n k hk).emb (ix2 r l) = (ix2 ⟨64 * k + r.val, by omega⟩ l : (⟨2, ![960, n]⟩ : Shape).Idx) := by
  refine (eq_ix2 _).trans ((ix2_inj ..).2 ⟨Fin.ext ?_, Fin.ext ?_⟩)
  · show 64 * k + 1 * r.val = 64 * k + r.val
    omega
  · show 0 + 1 * l.val = l.val
    omega

theorem row_split (k : ℕ) (y : Fin 960) (h : y.val < 64 * (k + 1)) (h' : ¬y.val < 64 * k) (h5 : k < 15) : ∃ (r : Fin 64) (h : 64 * k + r.val < 960), y = ⟨64 * k + r.val, h⟩ :=
  ⟨⟨y.val - 64 * k, by omega⟩, by show 64 * k + (y.val - 64 * k) < 960; omega, Fin.ext (by show y.val = 64 * k + (y.val - 64 * k); omega)⟩

/-- The stores over what was there, each replacing its chunk of rows as `G` says, leave `G` in the rows reached. -/
theorem read_pcsB {v : View sig .tc .vmem S960x256 .f32} (f : v.ty.Contents (Elt F)) (x : (k : ℕ) → k < 15 → Vec F S64x256 .f32)
    (p : (k : ℕ) → k < 15 → Vec F S64x256 .f32 → FVec F S64x256 .f32) (G : Fin 960 → Fin 256 → Elt F .f32)
    (hG : ∀ k hk (r : Fin 64) (l : Fin 256), p k hk (x k hk) (ix2 r l) = G ⟨64 * k + r.val, by omega⟩ l) :
    ∀ (k : ℕ) (h : k ≤ 15) (y : Fin 960) (l : Fin 256), y.val < 64 * k → v.read (Elt F) (v.writes (Elt F) f (pcsB x p k h)) (ix2 y l) = G y l
  | 0, _, y, _, hy => absurd hy (by omega)
  | k + 1, h, y, l, hy => by
    by_cases hy' : y.val < 64 * k
    · refine (View.read_writes_cons_miss_of_axis v f _ _ (ix2 y l) 0 (64 * k) 64 rfl rfl rfl (Or.inl hy')).trans ?_
      exact read_pcsB f x p G hG k _ y l hy'
    · obtain ⟨r, hr, rfl⟩ := row_split k y hy hy' h
      exact (View.read_writes_cons_hit v f (rows 256 k h) _ _ (ix2 r l) _ (rows_emb 256 k h r l)).trans (hG k h r l)

/-- The stores over the zero fill likewise, and 0 in the rows not reached. -/
theorem read_pcsA {v : View sig .tc .vmem S960x256 .f32} (f : v.ty.Contents (Elt F))
    (p : (k : ℕ) → k < 15 → Vec F S64x256 .f32 → FVec F S64x256 .f32) (G : Fin 960 → Fin 256 → Elt F .f32) (z : Elt F .f32)
    (hz : ∀ y : S960x256.Idx, k0_pay11 (F := F) y = z)
    (hG : ∀ k hk (old : Vec F S64x256 .f32) (_ : ∀ i, old i = z) (r : Fin 64) (l : Fin 256), p k hk old (ix2 r l) = G ⟨64 * k + r.val, by omega⟩ l) :
    ∀ (k : ℕ) (h : k ≤ 15) (f : v.ty.Contents (Elt F)) (y : Fin 960) (l : Fin 256),
      v.read (Elt F) (v.writes (Elt F) f (pcsA v p k h)) (ix2 y l) = if y.val < 64 * k then G y l else z
  | 0, _, f, y, l => by
    rw [if_neg (by omega)]
    refine (View.read_writes_cons_hit v f _ _ _ (ix2 y l) _ ?_).trans (hz _)
    refine (eq_ix2 _).trans ((ix2_inj ..).2 ⟨Fin.ext ?_, Fin.ext ?_⟩)
    · show 0 + 1 * y.val = y.val
      omega
    · show 0 + 1 * l.val = l.val
      omega
  | k + 1, h, f, y, l => by
    by_cases hy' : y.val < 64 * k
    · rw [if_pos (by omega)]
      refine (View.read_writes_cons_miss_of_axis v f _ _ (ix2 y l) 0 (64 * k) 64 rfl rfl rfl (Or.inl hy')).trans ?_
      rw [read_pcsA f p G z hz hG k _ f y l, if_pos hy']
    · by_cases hy : y.val < 64 * (k + 1)
      · rw [if_pos hy]
        obtain ⟨r, hr, rfl⟩ := row_split k y hy hy' h
        refine (View.read_writes_cons_hit v f (rows 256 k h) _ _ (ix2 r l) _ (rows_emb 256 k h r l)).trans (hG k h _ (fun i => ?_) r l)
        obtain ⟨r', l', rfl⟩ : ∃ (r' : Fin 64) (l' : Fin 256), i = ix2 r' l' := ⟨i 0, i 1, eq_ix2 i⟩
        show v.read (Elt F) (v.writes (Elt F) v.junk (pcsA v p k _)) ((rows 256 k h).emb (ix2 r' l')) = z
        rw [rows_emb, read_pcsA f p G z hz hG k _ v.junk _ l', if_neg (by show ¬64 * k + r'.val < 64 * k; omega)]
      · rw [if_neg hy]
        refine (View.read_writes_cons_miss_of_axis v f _ _ (ix2 y l) 0 (64 * k) 64 rfl rfl rfl (Or.inr (by show 64 * k + 64 ≤ y.val; omega))).trans ?_
        rw [read_pcsA f p G z hz hG k _ f y l, if_neg hy']

end Cert.FwdIdeal.Gen
-- ==== Proof.FWI.Point.lean ====
/- A chunk of the forward kernel's block normalisers at an element: the sums and the maximum over the block's columns as mathematics. -/
module

public import proofs.«01_k».proof.Proof.FWI.Chunk
public import Idealize.ShloMosaic.Lib.WordCmp

@[expose] public section

set_option maxRecDepth 16384

noncomputable section

namespace Cert.FwdIdeal.Gen

open Idealize.ShloMosaic Idealize.ShloMosaic.TcCoe Idealize.ShloMosaic.WordCmp

/-- The value of the bits of −∞. -/
abbrev ninf : EReal := Ideal.ofBits FTy.f32 0xFF800000#32

/-- The logarithm of the sum of the exponentials of a block's masked logits, by way of their greatest; 0 if none is above −∞. -/
def rowLse (f : Fin 512 → EReal) : EReal :=
  if ninf < Finset.fold max ninf f Finset.univ then
    (if ninf < Finset.fold max ninf f Finset.univ then Finset.fold max ninf f Finset.univ else 0)
      + Ideal.log (∑ x, Ideal.exp (f x - if ninf < Finset.fold max ninf f Finset.univ then Finset.fold max ninf f Finset.univ else 0))
  else 0

/-- A column's masked logit: −∞ where the mask's bit is clear or the column is past the vocabulary. -/
def masked (word : BitVec 32) (n : ℕ) (l : Fin 512) (lg : EReal) : EReal :=
  if word.getLsbD (l.val % 32) = true ∧ n * 512 + l.val < 128256 then lg else ninf

theorem mxc_at (v : FVec Ideal S64x512 .f32) (r : Fin 64) :
    mxc (F := Ideal) v (ix2 r 0) = (Finset.univ : Finset (Fin 512)).fold max ninf fun l => v (ix2 r l) := by
  unfold mxc
  pointwise

theorem nrm_at (v : FVec Ideal S64x512 .f32) (r : Fin 64) : nrm (F := Ideal) v (ix2 r 0) = rowLse fun l => v (ix2 r l) := by
  unfold nrm
  pointwise [mxc_at]
  rfl

/-- The block's weights with the rows past the vocabulary replaced by 0. -/
def wm (b : BitVec 32) (l : Fin 512) (x : EReal) : EReal :=
  Scalar.select (IntOp.andi (Scalar.cmpi CmpIPredicate.eq b 250#32) (IntOp.cmpi CmpIPredicate.sge (BitVec.ofNat 32 l.val) 256#32)) (Ideal.ofBits FTy.fp8e4m3 0#8) x

/-- The chunk's logits at an element. -/
theorem lgc_at (b : BitVec 32) (w : Vec Ideal S512x3072 .fp8e4m3) (ws : Vec Ideal S1x1x512 .f32) (xq : Vec Ideal S64x3072 .fp8e4m3) (xs : Vec Ideal S64x1 .f32) (r : Fin 64) (l : Fin 512) :
    lgc (F := Ideal) b w ws xq xs (ix2 r l) = ((∑ x : Fin 3072, (xq (ix2 r x) * wm b l (w (ix2 l x)) : EReal)) * xs (ix2 r 0) * ws (ix3 0 0 l) : EReal) := by
  unfold lgc k0_pay12 k0_pay13
  dsimp only
  pointwise
  rfl

theorem rem8_ofNat : ∀ n : Fin 251, rem8 (BitVec.ofNat 32 n.val) = BitVec.ofNat 32 (n.val % 8) := by decide +kernel

theorem idx_dec : ∀ (q : Fin 8) (c : Fin 4) (l : Fin 128),
    (Scalar.select (IntOp.cmpi .slt (IntOp.addi (Scalar.addi (Scalar.muli (BitVec.ofNat 32 q.val) 16#32) (BitVec.ofNat 32 (4 * c.val))) (IntOp.shrsi ArithUnit.vector (BitVec.ofNat 32 l.val) 5#32)) 0#32)
      (IntOp.addi (IntOp.addi (Scalar.addi (Scalar.muli (BitVec.ofNat 32 q.val) 16#32) (BitVec.ofNat 32 (4 * c.val))) (IntOp.shrsi ArithUnit.vector (BitVec.ofNat 32 l.val) 5#32)) 128#32)
      (IntOp.addi (Scalar.addi (Scalar.muli (BitVec.ofNat 32 q.val) 16#32) (BitVec.ofNat 32 (4 * c.val))) (IntOp.shrsi ArithUnit.vector (BitVec.ofNat 32 l.val) 5#32))).toNat % 128
      = q.val * 16 + (128 * c.val + l.val) / 32 := by decide +kernel

theorem bit_dec : ∀ l : Fin 128, IntOp.shli ArithUnit.vector (1#32) (IntOp.andi (BitVec.ofNat 32 l.val) 31#32) = BitVec.twoPow 32 (l.val % 32) := by decide +kernel

theorem bit_ne (w : BitVec 32) (k : ℕ) (hk : k < 32) : IntOp.cmpi .ne (IntOp.andi w (BitVec.twoPow 32 k)) 0#32 = 1#1 ↔ w.getLsbD k = true := by
  show BitVec.ofBool (w &&& BitVec.twoPow 32 k != 0#32) = 1#1 ↔ _
  rw [BitVec.and_twoPow]
  have h1 : BitVec.ofBool (BitVec.twoPow 32 k != 0#32) = 1#1 := (by decide +kernel : ∀ k : Fin 32, BitVec.ofBool (BitVec.twoPow 32 k.val != 0#32) = 1#1) ⟨k, hk⟩
  by_cases h : w.getLsbD k = true
  · rw [if_pos h]; exact ⟨fun _ => h, fun _ => h1⟩
  · rw [if_neg h]; exact ⟨fun h' => absurd h' (by decide), fun h' => absurd h' h⟩

theorem col_word (n : Fin 251) (c : Fin 4) (l : Fin 128) :
    IntOp.cmpi .slt (IntOp.addi (BitVec.ofNat 32 l.val) (Scalar.addi (Scalar.muli (BitVec.ofNat 32 n.val) 512#32) (BitVec.ofNat 32 (128 * c.val)))) 128256#32 = 1#1
      ↔ n.val * 512 + (128 * c.val + l.val) < 128256 := by
  have e : IntOp.addi (BitVec.ofNat 32 l.val) (Scalar.addi (Scalar.muli (BitVec.ofNat 32 n.val) 512#32) (BitVec.ofNat 32 (128 * c.val)))
      = BitVec.ofNat 32 (n.val * 512 + (128 * c.val + l.val)) := by
    show BitVec.ofNat 32 l.val + (BitVec.ofNat 32 n.val * BitVec.ofNat 32 512 + BitVec.ofNat 32 (128 * c.val)) = _
    rw [← BitVec.ofNat_mul, ← BitVec.ofNat_add, ← BitVec.ofNat_add]
    congr 1; omega
  rw [e]
  have := n.isLt; have := c.isLt; have := l.isLt
  exact cmpi_slt_ofNat_eq_one_iff (w := 32) (by omega) (by omega)

/-- Where a group's columns are allowed. -/
theorem okAt_at (n : Fin 251) (c : Fin 4) (mw : Vec Ideal S64x128 .i32) (r : Fin 64) (l : Fin 128) (h : n.val % 8 * 16 + (128 * c.val + l.val) / 32 < 128) :
    okAt (F := Ideal) (BitVec.ofNat 32 n.val) mw (BitVec.ofNat 32 (4 * c.val)) (BitVec.ofNat 32 (128 * c.val)) (ix2 r l) = 1#1
      ↔ (show BitVec 32 from mw (ix2 r ⟨n.val % 8 * 16 + (128 * c.val + l.val) / 32, h⟩)).getLsbD ((128 * c.val + l.val) % 32) = true ∧ n.val * 512 + (128 * c.val + l.val) < 128256 := by
  unfold okAt words lane
  dsimp only
  pointwise
  rw [IntOp.andi_eq_one, col_word, bit_dec, bit_ne _ _ (Nat.mod_lt _ (by decide))]
  have e := idx_dec ⟨n.val % 8, Nat.mod_lt _ (by decide)⟩ c l
  rw [← rem8_ofNat n] at e
  have e2 : (128 * c.val + l.val) % 32 = l.val % 32 := by omega
  rw [e2]
  refine and_congr (iff_of_eq ?_) Iff.rfl
  congr 2
  exact congrArg mw (congrArg (ix2 r) (Fin.ext e))

theorem select_masked {c : BitVec 1} {word : BitVec 32} {n : ℕ} {l : Fin 512} (h : c = 1#1 ↔ word.getLsbD (l.val % 32) = true ∧ n * 512 + l.val < 128256) {x y : EReal} (hx : x = y) :
    Scalar.select c x ninf = masked word n l y := by
  subst hx
  unfold Scalar.select masked
  by_cases hc : c = 1#1
  · rw [if_pos (h.mp hc)]; simp [hc]
  · rw [if_neg (fun h' => hc (h.mpr h'))]; simp [hc]

/-- The chunk's masked logits at an element. -/
theorem msk_at (n : Fin 251) (lg : FVec Ideal S64x512 .f32) (mw : Vec Ideal S64x128 .i32) (r : Fin 64) (l : Fin 512) :
    msk (F := Ideal) (BitVec.ofNat 32 n.val) lg mw (ix2 r l) = masked (mw (ix2 r ⟨n.val % 8 * 16 + l.val / 32, by omega⟩)) n.val l (lg (ix2 r l)) := by
  unfold msk
  pointwise
  have key : ∀ (c : Fin 4) (l' : Fin 128) (hl : 128 * c.val + l'.val = l.val) (x : EReal), x = lg (ix2 r l) →
      Scalar.select (okAt (F := Ideal) (BitVec.ofNat 32 n.val) mw (BitVec.ofNat 32 (4 * c.val)) (BitVec.ofNat 32 (128 * c.val)) (ix2 r l')) x ninf
        = masked (mw (ix2 r ⟨n.val % 8 * 16 + l.val / 32, by omega⟩)) n.val l (lg (ix2 r l)) := by
    intro c l' hl x hx
    refine select_masked ?_ hx
    have h := okAt_at n c mw r l' (by omega)
    simp only [hl] at h
    exact h
  have hl := l.isLt
  by_cases h1 : l.val < 128
  · rw [dif_pos h1]; exact key 0 ⟨l.val, h1⟩ (Nat.zero_add _) _ rfl
  rw [dif_neg h1]
  by_cases h2 : l.val - 128 < 128
  · rw [dif_pos h2]
    exact key 1 ⟨l.val - 128, h2⟩ (by show 128 * 1 + (l.val - 128) = l.val; omega) _ (congrArg lg (congrArg (ix2 r) (Fin.ext (by show 128 + (l.val - 128) = l.val; omega))))
  rw [dif_neg h2]
  by_cases h3 : l.val - 128 - 128 < 128
  · rw [dif_pos h3]
    exact key 2 ⟨l.val - 128 - 128, h3⟩ (by show 128 * 2 + (l.val - 128 - 128) = l.val; omega) _ (congrArg lg (congrArg (ix2 r) (Fin.ext (by show 256 + (l.val - 128 - 128) = l.val; omega))))
  rw [dif_neg h3]
  exact key 3 ⟨l.val - 128 - 128 - 128, by omega⟩ (by show 128 * 3 + (l.val - 128 - 128 - 128) = l.val; omega) _
    (congrArg lg (congrArg (ix2 r) (Fin.ext (by show 384 + (l.val - 128 - 128 - 128) = l.val; omega))))

/-- The chunk stored, at an element. -/
theorem chunk_at (n : Fin 251) (w : Vec Ideal S512x3072 .fp8e4m3) (ws : Vec Ideal S1x1x512 .f32) (xq : Vec Ideal S64x3072 .fp8e4m3) (xs : Vec Ideal S64x1 .f32)
    (mw : Vec Ideal S64x128 .i32) (old : Vec Ideal S64x256 .f32) (r : Fin 64) (j : Fin 256) :
    chunk (F := Ideal) (BitVec.ofNat 32 n.val) w ws xq xs mw old (ix2 r j)
      = if j.val = n.val then rowLse fun l => masked (mw (ix2 r ⟨n.val % 8 * 16 + l.val / 32, by omega⟩)) n.val l
          ((∑ x : Fin 3072, (xq (ix2 r x) * wm (BitVec.ofNat 32 n.val) l (w (ix2 l x)) : EReal)) * xs (ix2 r 0) * ws (ix3 0 0 l) : EReal)
        else old (ix2 r j) := by
  unfold chunk stc
  pointwise [nrm_at, msk_at, lgc_at]
  have hc : IntOp.cmpi .eq (BitVec.ofNat 32 j.val) (BitVec.ofNat 32 n.val) = 1#1 ↔ j.val = n.val :=
    cmpi_eq_ofNat_eq_one_iff (w := 32) (by omega) (by omega)
  unfold Scalar.select
  by_cases h : j.val = n.val
  · rw [if_pos h]; simp [hc.mpr h]
  · rw [if_neg h]; simp [mt hc.mp h]

end Cert.FwdIdeal.Gen
-- ==== Proof.FWI.Put.lean ====
/- A chunk the forward kernel's body stores, at an element: the block's column replaced by its normaliser. -/
module

public import proofs.«01_k».proof.Proof.FWI.Body
public import proofs.«01_k».proof.Proof.FWI.Point

@[expose] public section

set_option maxRecDepth 16384

noncomputable section

namespace Cert.FwdIdeal.Gen

open Idealize.ShloMosaic Idealize.ShloMosaic.TcCoe Idealize.SL.Sem

/-- The normaliser of row `y` in block `n`, from the blocks of the operands. -/
def blkLse (n : Fin 251) (x0 : Vec Ideal S960x3072 .fp8e4m3) (x1 : Vec Ideal S960x1 .f32) (x4 : Vec Ideal S512x3072 .fp8e4m3)
    (x5 : Vec Ideal S1x1x512 .f32) (x6 : Vec Ideal S960x128 .i32) (y : Fin 960) : EReal :=
  rowLse fun l => masked (x6 (ix2 y ⟨n.val % 8 * 16 + l.val / 32, by omega⟩)) n.val l
    ((∑ x : Fin 3072, (x0 (ix2 y x) * wm (BitVec.ofNat 32 n.val) l (x4 (ix2 l x)) : EReal)) * x1 (ix2 y 0) * x5 (ix3 0 0 l) : EReal)

theorem whole2 (a b : ℕ) (h : ∀ i, (![0, 0] : Fin 2 → ℕ) i + (⟨2, ![a, b]⟩ : Shape).size i ≤ (⟨2, ![a, b]⟩ : Shape).size i) (l : Fin a) (x : Fin b) :
    (Rect.unit (s := ⟨2, ![a, b]⟩) ![0, 0] (⟨2, ![a, b]⟩ : Shape).size h).emb (ix2 l x) = (ix2 l x : (⟨2, ![a, b]⟩ : Shape).Idx) := by
  refine (eq_ix2 _).trans ((ix2_inj ..).2 ⟨Fin.ext ?_, Fin.ext ?_⟩)
  · show 0 + 1 * l.val = l.val
    omega
  · show 0 + 1 * x.val = x.val
    omega

theorem whole3 (h : ∀ i, (![0, 0, 0] : Fin 3 → ℕ) i + S1x1x512.size i ≤ S1x1x512.size i) (l : Fin 512) :
    (Rect.unit (s := S1x1x512) ![0, 0, 0] S1x1x512.size h).emb (ix3 0 0 l) = (ix3 0 0 l : S1x1x512.Idx) := by
  funext a
  refine Fin.ext ?_
  match a with
  | 0 => rfl
  | 1 => rfl
  | 2 => show 0 + 1 * l.val = l.val; omega

/-- The block of contents loaded through a buffer that is read back as them. -/
theorem load_at {s : Shape} {e : EltTy} {arg : Memref sig .tc .vmem s e} (harg : arg.IsWhole) (x : Vec Ideal s e) (r : Rect s) (j : r.shape.Idx) :
    View.readAt (Elt Ideal) arg.view r.toLoadRect (harg.unread x) j = x (r.emb j) := by
  show arg.view.read (Elt Ideal) (harg.unread x) (r.emb j) = x (r.emb j)
  rw [harg.read_unread]

theorem put_at (n : Fin 251) (arg3 : Memref sig .tc .vmem S960x3072 .fp8e4m3) (harg3 : arg3.IsWhole) (arg4 : Memref sig .tc .vmem S960x1 .f32) (harg4 : arg4.IsWhole)
    (arg7 : Memref sig .tc .vmem S512x3072 .fp8e4m3) (harg7 : arg7.IsWhole) (arg8 : Memref sig .tc .vmem S1x1x512 .f32) (harg8 : arg8.IsWhole)
    (arg9 : Memref sig .tc .vmem S960x128 .i32) (harg9 : arg9.IsWhole)
    (x0 : Vec Ideal S960x3072 .fp8e4m3) (x1 : Vec Ideal S960x1 .f32) (x4 : Vec Ideal S512x3072 .fp8e4m3) (x5 : Vec Ideal S1x1x512 .f32) (x6 : Vec Ideal S960x128 .i32)
    (k : ℕ) (hk : k < 15) (old : Vec Ideal S64x256 .f32) (r : Fin 64) (j : Fin 256) :
    put (F := Ideal) (BitVec.ofNat 32 n.val) arg3 harg3 arg4 harg4 arg7 harg7 arg8 harg8 arg9 harg9 x0 x1 x4 x5 x6 k hk old (ix2 r j)
      = if j.val = n.val then blkLse n x0 x1 x4 x5 x6 ⟨64 * k + r.val, by omega⟩ else old (ix2 r j) := by
  unfold put
  refine (chunk_at n _ _ _ _ _ old r j).trans ?_
  refine if_congr Iff.rfl ?_ rfl
  unfold blkLse
  refine congrArg rowLse (funext fun l => ?_)
  have e0 : ∀ x : Fin 3072, _ := fun x => (load_at harg3 x0 (rows 3072 k hk) (ix2 r x)).trans (congrArg x0 (rows_emb 3072 k hk r x))
  have e1 := (load_at harg4 x1 (rows 1 k hk) (ix2 r 0)).trans (congrArg x1 (rows_emb 1 k hk r 0))
  have e4 : ∀ x : Fin 3072, _ := fun x => (load_at harg7 x4 (Rect.unit (s := S512x3072) ![0, 0] S512x3072.size inb_S512x3072_S512x3072_0_0) (ix2 l x)).trans (congrArg x4 (whole2 512 3072 _ l x))
  have e5 := (load_at harg8 x5 (Rect.unit (s := S1x1x512) ![0, 0, 0] S1x1x512.size inb_S1x1x512_S1x1x512_0_0_0) (ix3 0 0 l)).trans (congrArg x5 (whole3 _ l))
  have e6 := (load_at harg9 x6 (rows 128 k hk) (ix2 r ⟨n.val % 8 * 16 + l.val / 32, by omega⟩)).trans (congrArg x6 (rows_emb 128 k hk r _))
  refine congrArg₂ (fun a b => masked a n.val l b) e6 ?_
  refine congrArg₂ (fun a b : EReal => a * b) (congrArg₂ (fun a b : EReal => a * b) (Finset.sum_congr rfl fun x _ => ?_) e1) e5
  exact congrArg₂ (fun a b : EReal => a * b) (e0 x) (congrArg (wm _ l) (e4 x))

end Cert.FwdIdeal.Gen
-- ==== Proof.FWI.Blocks.lean ====
/- Where the forward kernel's windows lie: the block of each operand at a point, at coordinates of its array. -/
module

public import proofs.«01_k».proof.Proof.FWI.Frame
public import Idealize.ShloMosaic.Lib.Pipeline.ValueKit
public import Idealize.ShloMosaic.Lib.Pointwise

@[expose] public section

set_option maxRecDepth 16384

noncomputable section

namespace Cert.FwdIdeal.Gen

open Idealize.ShloMosaic Idealize.ShloMosaic.TcCoe Idealize.SL.Sem

variable (m : (ℓ : Loc nD τ sig) → Buf (Elt Ideal) ℓ) (hO : Ok m) (c : Dev nD)

theorem ax_mul {z a s r q : ℕ} (e : z = a) (h : a * s + r = q) : z * s + r = q := e ▸ h
theorem ax_one {z a r q : ℕ} (e : z = a) (h : a + r = q) : z + r = q := e ▸ h

theorem t_lt (t : Fin (cfgM m hO).N) : t.val < 251 := by
  have h1 := ptw_toNat m hO t
  have h2 := pt_lt m hO t
  omega

/-- The block listed at point `t`, as a word. -/
def ord (t : Fin (cfgM m hO).N) : BitVec 32 := tbl m 1 (ix1 ⟨t.val, t_lt m hO t⟩)

theorem off2 (t : Fin (cfgM m hO).N) : k0_off2 (ptw m hO t) 0 = t.val := pt_lt m hO t

theorem word_ix (r : Rect S251) (y : r.shape.Idx) (n : Fin 251) (h0 : r.off 0 = n.val) (h1 : (y 0).val = 0) : r.emb y = (ix1 n : S251.Idx) := by
  refine (eq_ix1 _).trans (congrArg ix1 (Fin.ext ?_))
  show r.off 0 + r.stride 0 * (y 0).val = n.val
  rw [h1, h0]; rfl

/-- What the body reads of the list. -/
theorem blkw_eq (t : Fin (cfgM m hO).N) : blkw (F := Ideal) c (tbl m 1) (ptw m hO t) (chk m hO t) = ord m hO t := by
  refine (show _ = tbl m 1 ((Rect.unit (s := S251) (k0_off2 (ptw m hO t)) S1.size (k0_off2_inb (ptw m hO t) (chk m hO t))).emb (Shape.Idx.first (numel1_S1.symm ▸ Nat.one_pos))) from rfl).trans ?_
  rw [word_ix _ _ ⟨t.val, t_lt m hO t⟩ (off2 m hO t) rfl]
  rfl

/-- What the windows' index maps read of the list. -/
theorem atD_eq (t : Fin (cfgM m hO).N) : (tbl m).atD 1 ![(ptw m hO t).toNat] = ord m hO t := by
  have hp := pt_lt m hO t
  have ht := t_lt m hO t
  have h : ∀ a, (![(ptw m hO t).toNat] : Fin 1 → ℕ) a + 1 ≤ S251.size a := fun a => by
    match a with
    | 0 => show (ptw m hO t).toNat + 1 ≤ 251; omega
  refine (dif_pos h).trans (congrArg (tbl m 1) ?_)
  refine (eq_ix1 _).trans (congrArg ix1 (Fin.ext ?_))
  exact hp

/-- The quotient by 8, rounded down, as the index map of the mask computes it. -/
def fd8 (v1 : BitVec 32) : BitVec 32 :=
  Scalar.select (Scalar.andi
      (Scalar.cmpi .ne (Scalar.subi (Scalar.extui (Scalar.cmpi .sgt v1 0#32)) (Scalar.extui (Scalar.cmpi .slt v1 0#32)))
        (Scalar.subi (Scalar.extui (Scalar.cmpi .sgt 8#32 0#32)) (Scalar.extui (Scalar.cmpi .slt 8#32 0#32))))
      (Scalar.cmpi .ne (Scalar.remsi v1 8#32) 0#32))
    (Scalar.subi (Scalar.divsi v1 8#32) 1#32) (Scalar.divsi v1 8#32)

theorem fd8_ofNat : ∀ n : Fin 251, (fd8 (BitVec.ofNat 32 n.val)).toNat = n.val / 8 := by decide +kernel

theorem idx_0 (t : Fin (cfgM m hO).N) : ((cfgM m hO).win 0).index t = ![0, 0] := rfl
theorem idx_1 (t : Fin (cfgM m hO).N) : ((cfgM m hO).win 1).index t = ![0, 0] := rfl
theorem idx_8 (t : Fin (cfgM m hO).N) : ((cfgM m hO).win 8).index t = ![0, 0] := rfl
theorem idx_4 (t : Fin (cfgM m hO).N) : ((cfgM m hO).win 4).index t = ![(ord m hO t).toNat, 0] := by
  refine (show _ = ![((tbl m).atD 1 ![(ptw m hO t).toNat] : BitVec 32).toNat, 0] from rfl).trans ?_
  rw [atD_eq]
theorem idx_5 (t : Fin (cfgM m hO).N) : ((cfgM m hO).win 5).index t = ![(ord m hO t).toNat, 0, 0] := by
  refine (show _ = ![((tbl m).atD 1 ![(ptw m hO t).toNat] : BitVec 32).toNat, 0, 0] from rfl).trans ?_
  rw [atD_eq]
theorem idx_6 (t : Fin (cfgM m hO).N) : ((cfgM m hO).win 6).index t = ![0, (fd8 (ord m hO t)).toNat] := by
  refine (show _ = ![0, (fd8 ((tbl m).atD 1 ![(ptw m hO t).toNat])).toNat] from rfl).trans ?_
  rw [atD_eq]

/-- The listed blocks are blocks. -/
theorem ord_lt (t : Fin (cfgM m hO).N) : (ord m hO t).toNat < 251 := by
  obtain ⟨h, -⟩ := hO.2.2.2.2.2.2.1 ((cfgM m hO).grid.coords t)
  have h0 := h (0 : Fin 2)
  have e : cc0_transform_4 (tbl m) (dynb0 (tbl m)) ((cfgM m hO).grid.coords t) (0 : Fin 2) = ((tbl m).atD 1 ![(ptw m hO t).toNat] : BitVec 32).toNat := rfl
  rw [e, atD_eq] at h0
  have h1 : ((ord m hO t).toNat + 1) * 512 ≤ 128512 := h0
  omega

/-- The block of point `t`. -/
def blkOf (t : Fin (cfgM m hO).N) : Fin 251 := ⟨(ord m hO t).toNat, ord_lt m hO t⟩

theorem ord_eq (t : Fin (cfgM m hO).N) : ord m hO t = BitVec.ofNat 32 (blkOf m hO t).val :=
  BitVec.eq_of_toNat_eq (by
    rw [BitVec.toNat_ofNat, Nat.mod_eq_of_lt (lt_trans (blkOf m hO t).isLt (by decide))]
    rfl)

theorem blk_0 (t : Fin (cfgM m hO).N) (r : Fin 960) (x : Fin 3072) :
    (show FVec Ideal S960x3072 .fp8e4m3 from iblk m hO c 0 t) (ix2 r x) = (show FVec Ideal S960x3072 .fp8e4m3 from V m c main_arg2) (ix2 r x) := by
  have e : (pcfg0.win (adm m hO) 0).index t = _ := idx_0 m hO t
  blk_point [iblk, V, e]
  · exact ax_mul (congrFun e (0 : Fin 2)) (by simp)
  · exact ax_mul (congrFun e (1 : Fin 2)) (by simp)

theorem blk_1 (t : Fin (cfgM m hO).N) (r : Fin 960) :
    (show FVec Ideal S960x1 .f32 from iblk m hO c 1 t) (ix2 r 0) = (show FVec Ideal S960x1 .f32 from V m c main_arg3) (ix2 r 0) := by
  have e : (pcfg0.win (adm m hO) 1).index t = _ := idx_1 m hO t
  blk_point [iblk, V, e]
  · exact ax_mul (congrFun e (0 : Fin 2)) (by simp)
  · exact ax_one (congrFun e (1 : Fin 2)) (by simp)

theorem blk_4 (t : Fin (cfgM m hO).N) (k : Fin 512) (l : Fin 3072) :
    (show FVec Ideal S512x3072 .fp8e4m3 from iblk m hO c 4 t) (ix2 k l)
      = (show FVec Ideal S128512x3072 .fp8e4m3 from V m c main_arg6) (ix2 ⟨(blkOf m hO t).val * 512 + k.val, by omega⟩ l) := by
  have e : (pcfg0.win (adm m hO) 4).index t = _ := idx_4 m hO t
  blk_point [iblk, V, e]
  · exact ax_mul (congrFun e (0 : Fin 2)) rfl
  · exact ax_mul (congrFun e (1 : Fin 2)) (by simp)

theorem blk_5 (t : Fin (cfgM m hO).N) (k : Fin 512) :
    (show FVec Ideal S1x1x512 .f32 from iblk m hO c 5 t) (ix3 0 0 k) = (show FVec Ideal S251x1x512 .f32 from V m c main_arg7) (ix3 (blkOf m hO t) 0 k) := by
  have e : (pcfg0.win (adm m hO) 5).index t = _ := idx_5 m hO t
  blk_point [iblk, V, e]
  · exact ax_one (congrFun e (0 : Fin 3)) (Nat.add_zero _)
  · exact ax_one (congrFun e (1 : Fin 3)) (by simp)
  · exact ax_mul (congrFun e (2 : Fin 3)) (by simp)

theorem blk_6 (t : Fin (cfgM m hO).N) (r : Fin 960) (q : Fin 128) :
    (show Vec Ideal S960x128 .i32 from iblk m hO c 6 t) (ix2 r q)
      = (show Vec Ideal S960x4096 .i32 from V m c main_arg8) (ix2 r ⟨(blkOf m hO t).val / 8 * 128 + q.val, by omega⟩) := by
  have e : (pcfg0.win (adm m hO) 6).index t = _ := idx_6 m hO t
  have hf : (fd8 (ord m hO t)).toNat = (blkOf m hO t).val / 8 := (congrArg (fun w => (fd8 w).toNat) (ord_eq m hO t)).trans (fd8_ofNat _)
  blk_point [iblk, V, e]
  · exact ax_mul (congrFun e (0 : Fin 2)) (by simp)
  · exact ax_mul (congrFun e (1 : Fin 2)) (congrArg (fun z : ℕ => z * 128 + q.val) hf)

end Cert.FwdIdeal.Gen
-- ==== Proof.FWI.PiecesA.lean ====
/- The stores of the forward kernel's body at the first point, as generic chunks. -/
module

public import proofs.«01_k».proof.Proof.FWI.Pieces

@[expose] public section

set_option maxRecDepth 16384

noncomputable section

namespace Cert.FwdIdeal.Gen

open Idealize.ShloMosaic Idealize.ShloMosaic.TcCoe Idealize.ShloMosaic.Tactic Idealize.SL.Sem

variable {F : FTy → Type} [FloatOps F]

/-- The stores of the first point. -/
theorem run_A_pieces (c : Dev nD) (b : grid0.Bounds) (i : grid0.Static) (w : BitVec 32) (hw : k0_chk1 w) (arg3 : Memref sig .tc .vmem S960x3072 .fp8e4m3) (harg3 : arg3.IsWhole) (arg4 : Memref sig .tc .vmem S960x1 .f32) (harg4 : arg4.IsWhole) (arg5 : Memref sig .tc .vmem S960x1 .i32) (harg5 : arg5.IsWhole) (arg6 : Memref sig .tc .vmem S960x1 .i32) (harg6 : arg6.IsWhole) (arg7 : Memref sig .tc .vmem S512x3072 .fp8e4m3) (harg7 : arg7.IsWhole) (arg8 : Memref sig .tc .vmem S1x1x512 .f32) (harg8 : arg8.IsWhole) (arg9 : Memref sig .tc .vmem S960x128 .i32) (harg9 : arg9.IsWhole) (arg10 : Memref sig .tc .vmem S1x960x512 .f32) (harg10 : arg10.IsWhole) (arg11 : Memref sig .tc .vmem S960x256 .f32) (harg11 : arg11.IsWhole) (arg12 : Memref sig .tc .vmem S960x1 .f32) (harg12 : arg12.IsWhole) (arg13 : Memref sig .tc .vmem S960x1 .f32) (harg13 : arg13.IsWhole) (arg14 : Memref sig .tc .vmem S960x1 .f32) (harg14 : arg14.IsWhole) (arg15 : Memref sig .tc .vmem S960x1 .f32) (harg15 : arg15.IsWhole) (arg16 : Memref sig .tc .vmem S960x1 .f32) (harg16 : arg16.IsWhole) (arg17 : Memref sig .tc .vmem S960x1 .f32) (harg17 : arg17.IsWhole) (arg18 : Memref sig .tc .vmem S960x1 .f32) (harg18 : arg18.IsWhole) (hc0 : cond0_0 w)
    (x0 : Vec F S960x3072 .fp8e4m3) (x1 : Vec F S960x1 .f32) (x2 : Vec F S960x1 .i32) (x3 : Vec F S960x1 .i32) (x4 : Vec F S512x3072 .fp8e4m3) (x5 : Vec F S1x1x512 .f32) (x6 : Vec F S960x128 .i32) (xt1 : TbBuf0 (F := F) c tbM0_1) (xt2 : TbBuf0 (F := F) c tbM0_2) :
    (kernelRun0_A (F := F) c b i w hw arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 xt1 xt2).1
      = pcsA arg11.view (put (blkw c xt1 w hw) arg3 harg3 arg4 harg4 arg7 harg7 arg8 harg8 arg9 harg9 x0 x1 x4 x5 x6) 15 (le_refl _) := by
  sl_kernel_rfl

end Cert.FwdIdeal.Gen
-- ==== Proof.FWI.PiecesB.lean ====
/- The stores of the forward kernel's body at a later point, as generic chunks. -/
module

public import proofs.«01_k».proof.Proof.FWI.Pieces

@[expose] public section

set_option maxRecDepth 16384

noncomputable section

namespace Cert.FwdIdeal.Gen

open Idealize.ShloMosaic Idealize.ShloMosaic.TcCoe Idealize.ShloMosaic.Tactic Idealize.SL.Sem

variable {F : FTy → Type} [FloatOps F]

/-- The stores of a later point. -/
theorem run_B_pieces (c : Dev nD) (b : grid0.Bounds) (i : grid0.Static) (w : BitVec 32) (hw : k0_chk1 w) (arg3 : Memref sig .tc .vmem S960x3072 .fp8e4m3) (harg3 : arg3.IsWhole) (arg4 : Memref sig .tc .vmem S960x1 .f32) (harg4 : arg4.IsWhole) (arg5 : Memref sig .tc .vmem S960x1 .i32) (harg5 : arg5.IsWhole) (arg6 : Memref sig .tc .vmem S960x1 .i32) (harg6 : arg6.IsWhole) (arg7 : Memref sig .tc .vmem S512x3072 .fp8e4m3) (harg7 : arg7.IsWhole) (arg8 : Memref sig .tc .vmem S1x1x512 .f32) (harg8 : arg8.IsWhole) (arg9 : Memref sig .tc .vmem S960x128 .i32) (harg9 : arg9.IsWhole) (arg10 : Memref sig .tc .vmem S1x960x512 .f32) (harg10 : arg10.IsWhole) (arg11 : Memref sig .tc .vmem S960x256 .f32) (harg11 : arg11.IsWhole) (arg12 : Memref sig .tc .vmem S960x1 .f32) (harg12 : arg12.IsWhole) (arg13 : Memref sig .tc .vmem S960x1 .f32) (harg13 : arg13.IsWhole) (arg14 : Memref sig .tc .vmem S960x1 .f32) (harg14 : arg14.IsWhole) (arg15 : Memref sig .tc .vmem S960x1 .f32) (harg15 : arg15.IsWhole) (arg16 : Memref sig .tc .vmem S960x1 .f32) (harg16 : arg16.IsWhole) (arg17 : Memref sig .tc .vmem S960x1 .f32) (harg17 : arg17.IsWhole) (arg18 : Memref sig .tc .vmem S960x1 .f32) (harg18 : arg18.IsWhole) (hc0 : ¬cond0_0 w)
    (x0 : Vec F S960x3072 .fp8e4m3) (x1 : Vec F S960x1 .f32) (x2 : Vec F S960x1 .i32) (x3 : Vec F S960x1 .i32) (x4 : Vec F S512x3072 .fp8e4m3) (x5 : Vec F S1x1x512 .f32) (x6 : Vec F S960x128 .i32) (x8 : Vec F S960x256 .f32) (xt1 : TbBuf0 (F := F) c tbM0_1) (xt2 : TbBuf0 (F := F) c tbM0_2) :
    (kernelRun0_B (F := F) c b i w hw arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x8 xt1 xt2).1
      = pcsB (fun k hk => View.readAt (Elt F) arg11.view (rows 256 k hk).toLoadRect (harg11.unread x8))
        (put (blkw c xt1 w hw) arg3 harg3 arg4 harg4 arg7 harg7 arg8 harg8 arg9 harg9 x0 x1 x4 x5 x6) 15 (le_refl _) := by
  sl_kernel_rfl

end Cert.FwdIdeal.Gen
-- ==== Proof.FWI.Value.lean ====
/- The forward kernel's block normalisers after a point: the column of every block listed so far holds the block's normaliser,
   and the other columns hold 0. -/
module

public import proofs.«01_k».proof.Proof.FWI.Put
public import proofs.«01_k».proof.Proof.FWI.Blocks
public import proofs.«01_k».proof.Proof.FWI.PiecesA
public import proofs.«01_k».proof.Proof.FWI.PiecesB

@[expose] public section

set_option maxRecDepth 16384

noncomputable section

namespace Cert.FwdIdeal.Gen

open Idealize.ShloMosaic Idealize.ShloMosaic.TcCoe Idealize.SL.Sem

variable (m : (ℓ : Loc nD τ sig) → Buf (Elt Ideal) ℓ) (hO : Ok m) (c : Dev nD)

/-- The normaliser of row `y` in the block of point `t`, from the operands' blocks there. -/
def ptLse (t : Fin (cfgM m hO).N) (y : Fin 960) : EReal :=
  blkLse (blkOf m hO t) (iblk m hO c 0 t) (iblk m hO c 1 t) (iblk m hO c 4 t) (iblk m hO c 5 t) (iblk m hO c 6 t) y

theorem pay11_at (y : S960x256.Idx) : k0_pay11 (F := Ideal) y = (0 : EReal) := by
  obtain ⟨r, l, rfl⟩ : ∃ (r : Fin 960) (l : Fin 256), y = ix2 r l := ⟨y 0, y 1, eq_ix2 y⟩
  unfold k0_pay11
  pointwise

/-- The first point leaves its block's normalisers in the block's column and 0 elsewhere. -/
theorem step_first (t : Fin (cfgM m hO).N) (h0 : cond0_0 (ptw m hO t)) (y : Fin 960) (j : Fin 256) :
    outsAt0 m hO c t.val t.isLt (ix2 y j) = if j.val = (blkOf m hO t).val then ptLse m hO c t y else 0 := by
  rw [outsAt0_first m hO c t h0]
  have e : (runA m hO c t h0).1 = pcsA (ms0_8 m hO t).view (put (BitVec.ofNat 32 (blkOf m hO t).val) (ms0_0 m hO t) (hs0_0 m hO t) (ms0_1 m hO t) (hs0_1 m hO t) (ms0_4 m hO t) (hs0_4 m hO t) (ms0_5 m hO t) (hs0_5 m hO t) (ms0_6 m hO t) (hs0_6 m hO t) (iblk m hO c 0 t) (iblk m hO c 1 t) (iblk m hO c 4 t) (iblk m hO c 5 t) (iblk m hO c 6 t)) 15 (le_refl _) :=
    (run_A_pieces ..).trans (congrArg (fun b => pcsA (F := Ideal) (ms0_8 m hO t).view (put b (ms0_0 m hO t) (hs0_0 m hO t) (ms0_1 m hO t) (hs0_1 m hO t) (ms0_4 m hO t) (hs0_4 m hO t) (ms0_5 m hO t) (hs0_5 m hO t) (ms0_6 m hO t) (hs0_6 m hO t) (iblk m hO c 0 t) (iblk m hO c 1 t) (iblk m hO c 4 t) (iblk m hO c 5 t) (iblk m hO c 6 t)) 15 (le_refl _)) ((blkw_eq m hO c t).trans (ord_eq m hO t)))
  rw [e]
  refine (read_pcsA (ms0_8 m hO t).view.junk _ (fun y j => if j.val = (blkOf m hO t).val then ptLse m hO c t y else 0) (0 : EReal) pay11_at
    (fun k hk old hold r l => ?_) 15 (le_refl _) _ y j).trans (if_pos (by omega))
  exact (put_at ..).trans (if_congr Iff.rfl rfl (hold _))

/-- A later point replaces its block's column by the block's normalisers and leaves the others. -/
theorem step_later (t : Fin (cfgM m hO).N) (h0 : ¬cond0_0 (ptw m hO t)) (hp : t.val - 1 < (cfgM m hO).N) (y : Fin 960) (j : Fin 256) :
    outsAt0 m hO c t.val t.isLt (ix2 y j) = if j.val = (blkOf m hO t).val then ptLse m hO c t y else outsAt0 m hO c (t.val - 1) hp (ix2 y j) := by
  rw [outsAt0_later m hO c t h0 hp]
  have e : (runB m hO c t h0 (outsAt0 m hO c (t.val - 1) hp)).1 = pcsB (fun k hk => View.readAt (Elt Ideal) (ms0_8 m hO t).view (rows 256 k hk).toLoadRect ((hs0_8 m hO t).unread (outsAt0 m hO c (t.val - 1) hp))) (put (BitVec.ofNat 32 (blkOf m hO t).val) (ms0_0 m hO t) (hs0_0 m hO t) (ms0_1 m hO t) (hs0_1 m hO t) (ms0_4 m hO t) (hs0_4 m hO t) (ms0_5 m hO t) (hs0_5 m hO t) (ms0_6 m hO t) (hs0_6 m hO t) (iblk m hO c 0 t) (iblk m hO c 1 t) (iblk m hO c 4 t) (iblk m hO c 5 t) (iblk m hO c 6 t)) 15 (le_refl _) :=
    (run_B_pieces ..).trans (congrArg (fun b => pcsB (F := Ideal) (fun k hk => View.readAt (Elt Ideal) (ms0_8 m hO t).view (rows 256 k hk).toLoadRect ((hs0_8 m hO t).unread (outsAt0 m hO c (t.val - 1) hp))) (put b (ms0_0 m hO t) (hs0_0 m hO t) (ms0_1 m hO t) (hs0_1 m hO t) (ms0_4 m hO t) (hs0_4 m hO t) (ms0_5 m hO t) (hs0_5 m hO t) (ms0_6 m hO t) (hs0_6 m hO t) (iblk m hO c 0 t) (iblk m hO c 1 t) (iblk m hO c 4 t) (iblk m hO c 5 t) (iblk m hO c 6 t)) 15 (le_refl _)) ((blkw_eq m hO c t).trans (ord_eq m hO t)))
  rw [e]
  refine read_pcsB _ _ _ (fun y j => if j.val = (blkOf m hO t).val then ptLse m hO c t y else outsAt0 m hO c (t.val - 1) hp (ix2 y j))
    (fun k hk r l => ?_) 15 (le_refl _) y j (by omega)
  refine (put_at ..).trans (if_congr Iff.rfl rfl ?_)
  exact (load_at (hs0_8 m hO t) (outsAt0 m hO c (t.val - 1) hp) (rows 256 k hk) (ix2 r l)).trans (congrArg (outsAt0 m hO c (t.val - 1) hp) (rows_emb 256 k hk r l))

end Cert.FwdIdeal.Gen
-- ==== Proof.FWI.Global.lean ====
/- The forward kernel's block normalisers from the operands' arrays, and after the last point. -/
module

public import proofs.«01_k».proof.Proof.FWI.Value

@[expose] public section

set_option maxRecDepth 16384

noncomputable section

namespace Cert.FwdIdeal.Gen

open Idealize.ShloMosaic Idealize.ShloMosaic.TcCoe Idealize.SL.Sem

variable (m : (ℓ : Loc nD τ sig) → Buf (Elt Ideal) ℓ) (hO : Ok m) (c : Dev nD)

/-- The normaliser of row `y` in block `n`, from the operands. -/
def gLse (n : Fin 251) (y : Fin 960) : EReal :=
  rowLse fun l => masked ((show Vec Ideal S960x4096 .i32 from V m c main_arg8) (ix2 y ⟨n.val / 8 * 128 + (n.val % 8 * 16 + l.val / 32), by omega⟩)) n.val l
    ((∑ x : Fin 3072, ((show FVec Ideal S960x3072 .fp8e4m3 from V m c main_arg2) (ix2 y x)
        * wm (BitVec.ofNat 32 n.val) l ((show FVec Ideal S128512x3072 .fp8e4m3 from V m c main_arg6) (ix2 ⟨n.val * 512 + l.val, by omega⟩ x)) : EReal))
      * (show FVec Ideal S960x1 .f32 from V m c main_arg3) (ix2 y 0) * (show FVec Ideal S251x1x512 .f32 from V m c main_arg7) (ix3 n 0 l) : EReal)

theorem ptLse_eq (t : Fin (cfgM m hO).N) (y : Fin 960) : ptLse m hO c t y = gLse m c (blkOf m hO t) y := by
  unfold ptLse blkLse gLse
  refine congrArg rowLse (funext fun l => ?_)
  refine congrArg₂ (fun a b => masked a (blkOf m hO t).val l b) (blk_6 m hO c t y ⟨(blkOf m hO t).val % 8 * 16 + l.val / 32, by omega⟩) ?_
  refine congrArg₂ (fun a b : EReal => a * b) (congrArg₂ (fun a b : EReal => a * b) (Finset.sum_congr rfl fun x _ => ?_) (blk_1 m hO c t y)) (blk_5 m hO c t l)
  exact congrArg₂ (fun a b : EReal => a * b) (blk_0 m hO c t y x) (congrArg (wm _ l) (blk_4 m hO c t l x))

open Classical in
/-- After a point, the columns of the blocks listed so far hold their normalisers; the others hold 0. -/
theorem outs_at (n : ℕ) : ∀ (hn : n < (cfgM m hO).N) (y : Fin 960) (j : Fin 251),
    outsAt0 m hO c n hn (ix2 y ⟨j.val, by omega⟩) = if ∃ s : Fin (cfgM m hO).N, s.val ≤ n ∧ blkOf m hO s = j then gLse m c j y else 0 := by
  induction n with
  | zero =>
    intro hn y j
    refine (step_first m hO c ⟨0, hn⟩ ((first_iff m hO _).mpr rfl) y ⟨j.val, by omega⟩).trans ?_
    rw [ptLse_eq]
    by_cases h : j = blkOf m hO ⟨0, hn⟩
    · rw [if_pos (congrArg Fin.val h), if_pos ⟨⟨0, hn⟩, le_refl _, h.symm⟩, h]
    · rw [if_neg (fun e => h (Fin.ext e)), if_neg]
      rintro ⟨s, hs, e⟩
      have : s = ⟨0, hn⟩ := Fin.ext (Nat.le_zero.mp hs)
      exact h (by rw [← this, e])
  | succ n ih =>
    intro hn y j
    refine (step_later m hO c ⟨n + 1, hn⟩ (fun h => absurd ((first_iff m hO _).mp h) (Nat.succ_ne_zero n)) (Nat.lt_of_succ_lt hn) y ⟨j.val, by omega⟩).trans ?_
    rw [ptLse_eq]
    by_cases h : j = blkOf m hO ⟨n + 1, hn⟩
    · rw [if_pos (congrArg Fin.val h), if_pos ⟨⟨n + 1, hn⟩, le_refl _, h.symm⟩, h]
    · rw [if_neg (fun e => h (Fin.ext e))]
      refine (ih (Nat.lt_of_succ_lt hn) y j).trans (if_congr ⟨?_, ?_⟩ rfl rfl)
      · rintro ⟨s, hs, e⟩
        exact ⟨s, Nat.le_succ_of_le hs, e⟩
      · rintro ⟨s, hs, e⟩
        refine ⟨s, ?_, e⟩
        rcases Nat.lt_or_ge s.val (n + 1) with h' | h'
        · exact Nat.le_of_lt_succ h'
        · have hs' : s = ⟨n + 1, hn⟩ := Fin.ext (Nat.le_antisymm hs h')
          exact absurd (by rw [← hs', e]) h

theorem whole_8 (hN : 0 < (cfgM m hO).N) : ((cfgM m hO).win 8).WholeAt ⟨(cfgM m hO).N - 1, Nat.sub_lt hN Nat.one_pos⟩ := by
  refine ⟨?_, fun t h => Fin.ext ?_, (by decide +kernel : ∀ a : Fin 2, ![0, 0] a = 0 ∧ S960x256.size a = S960x256.size a)⟩
  · rw [Pipeline.Window.flush_eq_flushOf]
    unfold Pipeline.Window.flushOf
    rw [decide_eq_true (show (cfgM m hO).N - 1 + 1 = (cfgM m hO).N by omega)]
    rfl
  · have ht : t.val < (cfgM m hO).N := t.isLt
    by_contra hne
    have hne' : ¬t.val = (cfgM m hO).N - 1 := hne
    have ht' : t.val + 1 < (cfgM m hO).N := by
      generalize (cfgM m hO).N = N at ht hne' ⊢
      omega
    exact Bool.noConfusion ((flush0_8 m hO t ht').symm.trans h)

open Classical in
theorem arr_8 (hN : 0 < (cfgM m hO).N) (y : Fin 960) (j : Fin 251) :
    (show FVec Ideal S960x256 .f32 from (dats m hO 0 c).arrAt 8 (cfgM m hO).N) (ix2 y ⟨j.val, by omega⟩)
      = if ∃ s : Fin (cfgM m hO).N, blkOf m hO s = j then gLse m c j y else 0 := by
  have e : (dats m hO 0 c).arrAt 8 (cfgM m hO).N = outsAt0 m hO c ((cfgM m hO).N - 1) (Nat.sub_lt hN Nat.one_pos) := by
    refine (dats m hO 0 c).arrAt_eq_of_after_last 8 _ (whole_8 m hO hN) _ fun j => ?_
    blk_simp
    rw [after0_8]
    rfl
  refine (congrFun e _).trans ((outs_at m hO c _ _ y j).trans (if_congr ⟨?_, ?_⟩ rfl rfl))
  · rintro ⟨s, -, h⟩; exact ⟨s, h⟩
  · rintro ⟨s, h⟩; exact ⟨s, by have := s.isLt; omega, h⟩

/-- The columns past the blocks hold 0. -/
theorem outs_pad (n : ℕ) : ∀ (hn : n < (cfgM m hO).N) (y : Fin 960) (j : Fin 256), ¬j.val < 251 → outsAt0 m hO c n hn (ix2 y j) = (0 : EReal) := by
  induction n with
  | zero =>
    intro hn y j hj
    refine (step_first m hO c ⟨0, hn⟩ ((first_iff m hO _).mpr rfl) y j).trans (if_neg fun e => hj ?_)
    have := (blkOf m hO ⟨0, hn⟩).isLt
    omega
  | succ n ih =>
    intro hn y j hj
    refine (step_later m hO c ⟨n + 1, hn⟩ (fun h => absurd ((first_iff m hO _).mp h) (Nat.succ_ne_zero n)) (Nat.lt_of_succ_lt hn) y j).trans ((if_neg fun e => hj ?_).trans (ih _ y j hj))
    have := (blkOf m hO ⟨n + 1, hn⟩).isLt
    omega

theorem arr_8_eq (hN : 0 < (cfgM m hO).N) : (dats m hO 0 c).arrAt 8 (cfgM m hO).N = outsAt0 m hO c ((cfgM m hO).N - 1) (Nat.sub_lt hN Nat.one_pos) := by
  refine (dats m hO 0 c).arrAt_eq_of_after_last 8 _ (whole_8 m hO hN) _ fun j => ?_
  blk_simp
  rw [after0_8]
  rfl

theorem arr_8_pad (hN : 0 < (cfgM m hO).N) (y : Fin 960) (j : Fin 256) (hj : ¬j.val < 251) :
    (show FVec Ideal S960x256 .f32 from (dats m hO 0 c).arrAt 8 (cfgM m hO).N) (ix2 y j) = (0 : EReal) :=
  (congrFun (arr_8_eq m hO c hN) _).trans (outs_pad m hO c _ _ y j hj)

end Cert.FwdIdeal.Gen
-- ==== Proof.FRI.Defs.lean ====
/- The forward reference at coordinates: what its host operations and its one store hold. -/
module

public import proofs.«01_k».proof.Proof.Gen.FwdReferenceIdeal.Value
public import proofs.«01_k».proof.Proof.FWI.Point
public import Idealize.ShloMosaic.Lib.Pipeline.ValueKit
public import Idealize.ShloMosaic.Lib.Pointwise
public import Idealize.ShloMosaic.Lib.Claim

@[expose] public section

set_option maxRecDepth 16384

noncomputable section

namespace Cert.FwdReferenceIdeal.Gen

open Idealize.ShloMosaic Idealize.ShloMosaic.TcCoe Idealize.SL.Sem
open Cert.FwdIdeal.Gen (ninf rowLse masked)

/-- The logits masked, by blocks of 512 columns. -/
def lgv (x0 : Vec Ideal S960x3072 .fp8e4m3) (x2 : Vec Ideal S128512x3072 .fp8e4m3) (x1 : Vec Ideal S960x1 .f32) (x3 : Vec Ideal S1x128512 .f32) (x4 : Vec Ideal S960x128512 .i32) : FVec Ideal S960x128512 .f32 :=
  select (cmpi .eq (shapeCast S960x128512 x4 shapeCasts_S960x128512_S960x128512) (broadcast S960x128512 1#32))
    (mulf (mulf (matmul (φ₁ := .fp8e4m3) (φ₂ := .fp8e4m3) dot_S960x3072_S128512x3072_S960x128512_1_1_0_0_n_n none x0 x2 (constant S960x128512 .f32 0x00000000#32)) (broadcastTo S960x128512 x1 broadcasts_S960x1_S960x128512))
      (broadcastTo S960x128512 (shapeCast S1x128512 x3 shapeCasts_S1x128512_S1x128512) broadcasts_S1x128512_S960x128512))
    (broadcast S960x128512 (Scalar.ofBits .f32 0xFF800000#32))

/-- A block's greatest masked logit. -/
def mx3 (v : FVec Ideal S960x251x512 .f32) : FVec Ideal S960x251 .f32 :=
  multiReduction .maximumf [2] S960x251 v 0xFF800000#32 reduces_S960x251x512_S960x251 (.inl rfl) rfl

/-- A block's greatest masked logit, 0 where it is −∞. -/
def sel3 (m : FVec Ideal S960x251 .f32) : FVec Ideal S960x251 .f32 :=
  select (cmpf .ogt m (broadcast S960x251 (Scalar.ofBits .f32 0xFF800000#32))) m (broadcast S960x251 (Scalar.ofBits .f32 0x00000000#32))

/-- A block's sum of the exponentials of the masked logits less `s`. -/
def sum3 (v : FVec Ideal S960x251x512 .f32) (s : FVec Ideal S960x251 .f32) : FVec Ideal S960x251 .f32 :=
  multiReduction .add [2] S960x251 (exp (subf v (broadcastTo S960x251x512 (shapeCast S960x251x1 s shapeCasts_S960x251_S960x251x1)
    broadcasts_S960x251x1_S960x251x512))) 0x00000000#32 reduces_S960x251x512_S960x251 (.inl rfl) rfl

/-- A block's normaliser. -/
def nrm3 (v : FVec Ideal S960x251x512 .f32) : FVec Ideal S960x251 .f32 :=
  select (cmpf .ogt (mx3 v) (broadcast S960x251 (Scalar.ofBits .f32 0xFF800000#32)))
    (addf (sel3 (mx3 v)) (log (sum3 v (sel3 (mx3 v)))))
    (broadcast S960x251 (Scalar.ofBits .f32 0x00000000#32))

/-- The store's value. -/
def pad3 (v : FVec Ideal S960x251 .f32) : FVec Ideal S960x256 .f32 :=
  concatenate S960x256 1 [⟨S960x251, v⟩, ⟨S960x5, broadcast S960x5 (Scalar.ofBits .f32 0x00000000#32)⟩] concatenates_S960x251_S960x5_S960x256_d1

end Cert.FwdReferenceIdeal.Gen
-- ==== Proof.FRI.Pay.lean ====
/- The forward reference at coordinates: what its host operations and its one store hold. -/
module

public import proofs.«01_k».proof.Proof.FRI.Defs
public import proofs.«01_k».proof.Proof.FWI.Point
public import Idealize.ShloMosaic.Lib.Pipeline.ValueKit
public import Idealize.ShloMosaic.Lib.Pointwise
public import Idealize.ShloMosaic.Lib.Claim

@[expose] public section

set_option maxRecDepth 16384

noncomputable section

namespace Cert.FwdReferenceIdeal.Gen

open Idealize.ShloMosaic Idealize.ShloMosaic.TcCoe Idealize.SL.Sem
open Cert.FwdIdeal.Gen (ninf rowLse masked)

theorem pay_eq (x0 : Vec Ideal S960x3072 .fp8e4m3) (x2 : Vec Ideal S128512x3072 .fp8e4m3) (x1 : Vec Ideal S960x1 .f32) (x3 : Vec Ideal S1x128512 .f32) (x4 : Vec Ideal S960x128512 .i32) :
    k0_pay1 (F := Ideal) x0 x2 x1 x3 x4 = pad3 (nrm3 (shapeCast S960x251x512 (lgv x0 x2 x1 x3 x4) shapeCasts_S960x128512_S960x251x512)) := rfl

theorem pad3_at (v : FVec Ideal S960x251 .f32) (r : Fin 960) (j : Fin 256) : pad3 v (ix2 r j) = if h : j.val < 251 then v (ix2 r ⟨j.val, h⟩) else (0 : EReal) := by
  unfold pad3
  pointwise

theorem mx3_at (v : FVec Ideal S960x251x512 .f32) (r : Fin 960) (n : Fin 251) :
    mx3 v (ix2 r n) = (Finset.univ : Finset (Fin 512)).fold max ninf fun l => v (ix3 r n l) := by
  unfold mx3
  pointwise

theorem sel3_at (m : FVec Ideal S960x251 .f32) (r : Fin 960) (n : Fin 251) : sel3 m (ix2 r n) = if ninf < m (ix2 r n) then m (ix2 r n) else 0 := by
  unfold sel3
  pointwise
  try rfl

theorem sum3_at (v : FVec Ideal S960x251x512 .f32) (s : FVec Ideal S960x251 .f32) (r : Fin 960) (n : Fin 251) :
    sum3 v s (ix2 r n) = (∑ l : Fin 512, Ideal.exp ((v (ix3 r n l) : EReal) - (s (ix2 r n) : EReal)) : EReal) := by
  unfold sum3
  pointwise
  try rfl

theorem comb_at (m s l : FVec Ideal S960x251 .f32) (r : Fin 960) (n : Fin 251) :
    (select (cmpf .ogt m (broadcast S960x251 (Scalar.ofBits .f32 0xFF800000#32))) (addf s (log l)) (broadcast S960x251 (Scalar.ofBits .f32 0x00000000#32))
      : FVec Ideal S960x251 .f32) (ix2 r n) = if ninf < m (ix2 r n) then (s (ix2 r n) + Ideal.log (l (ix2 r n)) : EReal) else 0 := by
  pointwise
  try rfl

theorem nrm3_sel (v : FVec Ideal S960x251x512 .f32) (r : Fin 960) (n : Fin 251) :
    nrm3 v (ix2 r n) = if ninf < mx3 v (ix2 r n) then (sel3 (mx3 v) (ix2 r n) + Ideal.log (sum3 v (sel3 (mx3 v)) (ix2 r n)) : EReal) else 0 :=
  comb_at (mx3 v) (sel3 (mx3 v)) (sum3 v (sel3 (mx3 v))) r n

theorem nrm3_at (v : FVec Ideal S960x251x512 .f32) (r : Fin 960) (n : Fin 251) : nrm3 v (ix2 r n) = rowLse fun l => v (ix3 r n l) := by
  unfold rowLse
  rw [nrm3_sel, sum3_at, sel3_at, mx3_at]

end Cert.FwdReferenceIdeal.Gen
-- ==== Proof.FRI.Logits.lean ====
/- The forward reference at coordinates: what its host operations and its one store hold. -/
module

public import proofs.«01_k».proof.Proof.Gen.FwdReferenceIdeal.Value
public import proofs.«01_k».proof.Proof.FRI.Defs
public import Idealize.ShloMosaic.Lib.Pipeline.ValueKit
public import Idealize.ShloMosaic.Lib.Pointwise
public import Idealize.ShloMosaic.Lib.Claim

@[expose] public section

set_option maxRecDepth 16384

noncomputable section

namespace Cert.FwdReferenceIdeal.Gen

open Idealize.ShloMosaic Idealize.ShloMosaic.TcCoe Idealize.SL.Sem
open Cert.FwdIdeal.Gen (ninf rowLse masked)

/-- A masked logit of the reference. -/
def rlg (x0 : Vec Ideal S960x3072 .fp8e4m3) (x2 : Vec Ideal S128512x3072 .fp8e4m3) (x1 : Vec Ideal S960x1 .f32) (x3 : Vec Ideal S1x128512 .f32) (x4 : Vec Ideal S960x128512 .i32) (r : Fin 960) (v : Fin 128512) : EReal :=
  Scalar.select (IntOp.cmpi .eq (x4 (ix2 r v)) 1#32) ((∑ x : Fin 3072, (x0 (ix2 r x) * x2 (ix2 v x) : EReal)) * x1 (ix2 r 0) * x3 (ix2 0 v) : EReal) ninf

theorem lgv_at (x0 : Vec Ideal S960x3072 .fp8e4m3) (x2 : Vec Ideal S128512x3072 .fp8e4m3) (x1 : Vec Ideal S960x1 .f32) (x3 : Vec Ideal S1x128512 .f32) (x4 : Vec Ideal S960x128512 .i32) (r : Fin 960) (v : Fin 128512) :
    lgv x0 x2 x1 x3 x4 (ix2 r v) = rlg x0 x2 x1 x3 x4 r v := by
  unfold lgv rlg
  pointwise

theorem cast_at (v : FVec Ideal S960x128512 .f32) (r : Fin 960) (n : Fin 251) (l : Fin 512) :
    (shapeCast S960x251x512 v shapeCasts_S960x128512_S960x251x512 : FVec Ideal S960x251x512 .f32) (ix3 r n l) = v (ix2 r ⟨n.val * 512 + l.val, by omega⟩) := by
  pointwise

end Cert.FwdReferenceIdeal.Gen
-- ==== Proof.FRI.Mask.lean ====
/- The forward reference at coordinates: what its host operations and its one store hold. -/
module

public import proofs.«01_k».proof.Proof.Gen.FwdReferenceIdeal.Value
public import Idealize.ShloMosaic.Lib.Pipeline.ValueKit
public import Idealize.ShloMosaic.Lib.Pointwise
public import Idealize.ShloMosaic.Lib.Claim

@[expose] public section

set_option maxRecDepth 16384

noncomputable section

namespace Cert.FwdReferenceIdeal.Gen

open Idealize.ShloMosaic Idealize.ShloMosaic.TcCoe Idealize.SL.Sem

variable (m : (ℓ : Loc nD τ sig) → Buf (Elt Ideal) ℓ) (c : Dev nD)

theorem read_v8 (r : Fin 960) (w : Fin 4008) (k : Fin 32) : (show Vec Ideal S960x4008x32 .i32 from V m c main_v8) (ix3 r w k)
    = IntOp.andi (IntOp.shrsi ArithUnit.host ((show Vec Ideal S960x4096 .i32 from m (c.tc.loc main_arg8)) (ix2 r ⟨w.val, by omega⟩)) (BitVec.ofNat 32 k.val)) 1#32 := by
  dsimp only
  entry_read
  simp only [List.flatten_cons, List.flatten_nil, List.append_nil, hostOps0, hostOps0_1, List.cons_append, List.nil_append]
  after_results
  pointwise

theorem read_v9 (r : Fin 960) (v : Fin 128256) : (show Vec Ideal S960x128256 .i32 from V m c main_v9) (ix2 r v)
    = (show Vec Ideal S960x4008x32 .i32 from V m c main_v8) (ix3 r ⟨v.val / 32, by omega⟩ ⟨v.val % 32, Nat.mod_lt _ (by decide)⟩) := by
  dsimp only
  entry_read
  simp only [List.flatten_cons, List.flatten_nil, List.append_nil, hostOps0, hostOps0_1, hostOps0_2, List.cons_append, List.nil_append]
  after_results
  pointwise

theorem read_v10 (r : Fin 960) (v : Fin 128512) : (show Vec Ideal S960x128512 .i32 from V m c main_v10) (ix2 r v)
    = if h : v.val < 128256 then (show Vec Ideal S960x128256 .i32 from V m c main_v9) (ix2 r ⟨v.val, h⟩) else 0#32 := by
  dsimp only
  entry_read
  simp only [List.flatten_cons, List.flatten_nil, List.append_nil, hostOps0, hostOps0_1, hostOps0_2, List.cons_append, List.nil_append]
  after_results
  refine (pad_apply (s := S960x128256) (t := S960x128512) ![0, 0] ![0, 256] ![0, 0] _ _ pads_S960x128256_S960x128512_000_02560 h_S_ (ix2 r v)).trans ?_
  refine dite_congr (propext ⟨fun h => ?_, fun h a => ?_⟩) (fun h => congrArg _ ?_) (fun h => rfl)
  · have := (h (1 : Fin 2)).2.2
    have h1 : (v.val - 0) / (0 + 1) < 128256 := this
    omega
  · match a with
    | 0 => exact (show 0 ≤ r.val ∧ (r.val - 0) % (0 + 1) = 0 ∧ (r.val - 0) / (0 + 1) < 960 by omega)
    | 1 => exact (show 0 ≤ v.val ∧ (v.val - 0) % (0 + 1) = 0 ∧ (v.val - 0) / (0 + 1) < 128256 by omega)
  · refine (eq_ix2 _).trans ((ix2_inj ..).2 ⟨Fin.ext ?_, Fin.ext ?_⟩)
    · show (r.val - 0) / (0 + 1) = r.val
      omega
    · show (v.val - 0) / (0 + 1) = v.val
      omega

end Cert.FwdReferenceIdeal.Gen
-- ==== Proof.FRI.Scales.lean ====
/- The forward reference at coordinates: what its host operations and its one store hold. -/
module

public import proofs.«01_k».proof.Proof.Gen.FwdReferenceIdeal.Value
public import Idealize.ShloMosaic.Lib.Pipeline.ValueKit
public import Idealize.ShloMosaic.Lib.Pointwise
public import Idealize.ShloMosaic.Lib.Claim

@[expose] public section

set_option maxRecDepth 16384

noncomputable section

namespace Cert.FwdReferenceIdeal.Gen

open Idealize.ShloMosaic Idealize.ShloMosaic.TcCoe Idealize.SL.Sem

variable (m : (ℓ : Loc nD τ sig) → Buf (Elt Ideal) ℓ) (c : Dev nD)

theorem read_v11 (v : Fin 128512) : (show FVec Ideal S1x128512 .f32 from V m c main_v11) (ix2 0 v)
    = (show FVec Ideal S251x1x512 .f32 from m (c.tc.loc main_arg7)) (ix3 ⟨v.val / 512, by omega⟩ 0 ⟨v.val % 512, Nat.mod_lt _ (by decide)⟩) := by
  dsimp only
  entry_read
  simp only [List.flatten_cons, List.flatten_nil, List.append_nil, hostOps0, hostOps0_1, List.cons_append, List.nil_append]
  after_results
  pointwise

end Cert.FwdReferenceIdeal.Gen
-- ==== Proof.FRI.Arrays.lean ====
/- The forward reference's array at the end of the run, from its operands. -/
module

public import proofs.«01_k».proof.Proof.FRI.Pay
public import proofs.«01_k».proof.Proof.FRI.Logits
public import proofs.«01_k».proof.Proof.FRI.Mask
public import proofs.«01_k».proof.Proof.FRI.Scales

@[expose] public section

set_option maxRecDepth 16384

noncomputable section

namespace Cert.FwdReferenceIdeal.Gen

open Idealize.ShloMosaic Idealize.ShloMosaic.TcCoe Idealize.SL.Sem
open Cert.FwdIdeal.Gen (ninf rowLse masked)

variable (m : (ℓ : Loc nD τ sig) → Buf (Elt Ideal) ℓ) (c : Dev nD)

theorem blk_0 (j : S960x3072.Idx) : (show FVec Ideal S960x3072 .fp8e4m3 from iblk m c 0 t0_0) j = (show FVec Ideal S960x3072 .fp8e4m3 from V m c main_arg2) j := by
  have e : win0_0.index t0_0 = ![0, 0] := (by decide +kernel : ∀ t : Fin grid0.N, win0_0.index t = ![0, 0]) t0_0
  idx_vars j
  blk_point [iblk, e]

theorem blk_1 (j : S960x1.Idx) : (show FVec Ideal S960x1 .f32 from iblk m c 1 t0_0) j = (show FVec Ideal S960x1 .f32 from V m c main_arg3) j := by
  have e : win0_1.index t0_0 = ![0, 0] := (by decide +kernel : ∀ t : Fin grid0.N, win0_1.index t = ![0, 0]) t0_0
  idx_vars j
  blk_point [iblk, e]

theorem blk_2 (j : S128512x3072.Idx) : (show FVec Ideal S128512x3072 .fp8e4m3 from iblk m c 2 t0_0) j = (show FVec Ideal S128512x3072 .fp8e4m3 from V m c main_arg6) j := by
  have e : win0_2.index t0_0 = ![0, 0] := (by decide +kernel : ∀ t : Fin grid0.N, win0_2.index t = ![0, 0]) t0_0
  idx_vars j
  blk_point [iblk, e]

theorem blk_3 (j : S1x128512.Idx) : (show FVec Ideal S1x128512 .f32 from iblk m c 3 t0_0) j = (show FVec Ideal S1x128512 .f32 from V m c main_v11) j := by
  have e : win0_3.index t0_0 = ![0, 0] := (by decide +kernel : ∀ t : Fin grid0.N, win0_3.index t = ![0, 0]) t0_0
  idx_vars j
  blk_point [iblk, e]

theorem blk_4 (j : S960x128512.Idx) : (show Vec Ideal S960x128512 .i32 from iblk m c 4 t0_0) j = (show Vec Ideal S960x128512 .i32 from V m c main_v10) j := by
  have e : win0_4.index t0_0 = ![0, 0] := (by decide +kernel : ∀ t : Fin grid0.N, win0_4.index t = ![0, 0]) t0_0
  idx_vars j
  blk_point [iblk, e]

/-- The masked logit at a column, from the reference's operands. -/
def rlgAt (r : Fin 960) (v : Fin 128512) : EReal :=
  rlg (V m c main_arg2) (V m c main_arg6) (V m c main_arg3) (V m c main_v11) (V m c main_v10) r v

theorem pay_at (x0 : Vec Ideal S960x3072 .fp8e4m3) (x2 : Vec Ideal S128512x3072 .fp8e4m3) (x1 : Vec Ideal S960x1 .f32) (x3 : Vec Ideal S1x128512 .f32) (x4 : Vec Ideal S960x128512 .i32)
    (r : Fin 960) (n : Fin 251) : k0_pay1 x0 x2 x1 x3 x4 (ix2 r ⟨n.val, by omega⟩) = rowLse fun l => rlg x0 x2 x1 x3 x4 r ⟨n.val * 512 + l.val, by omega⟩ := by
  rw [pay_eq, pad3_at, dif_pos n.isLt, nrm3_at]
  refine congrArg rowLse (funext fun l => ?_)
  rw [cast_at, lgv_at]

theorem arr_5 (r : Fin 960) (n : Fin 251) : (show FVec Ideal S960x256 .f32 from (dats m 0 c).arrAt 5 cfg0.N) (ix2 r ⟨n.val, by omega⟩)
    = rowLse fun l => rlgAt m c r ⟨n.val * 512 + l.val, by omega⟩ := by
  refine ((dats m 0 c).arrAt_emb_eq_after_last 5 t0_0 (by decide +kernel) (ix2 r ⟨n.val, by omega⟩)).trans ?_
  blk_simp
  rw [after0_5]
  frame_out
  refine (pay_at (iblk m c 0 t0_0) (iblk m c 2 t0_0) (iblk m c 1 t0_0) (iblk m c 3 t0_0) (iblk m c 4 t0_0) r n).trans ?_
  have e0 : (show FVec Ideal S960x3072 .fp8e4m3 from iblk m c 0 t0_0) = V m c main_arg2 := funext (blk_0 m c)
  have e1 : (show FVec Ideal S960x1 .f32 from iblk m c 1 t0_0) = V m c main_arg3 := funext (blk_1 m c)
  have e2 : (show FVec Ideal S128512x3072 .fp8e4m3 from iblk m c 2 t0_0) = V m c main_arg6 := funext (blk_2 m c)
  have e3 : (show FVec Ideal S1x128512 .f32 from iblk m c 3 t0_0) = V m c main_v11 := funext (blk_3 m c)
  have e4 : (show Vec Ideal S960x128512 .i32 from iblk m c 4 t0_0) = V m c main_v10 := funext (blk_4 m c)
  dsimp only at e0 e1 e2 e3 e4 ⊢
  unfold rlgAt
  rw [e0, e1, e2, e3, e4]

theorem arr_5_pad (r : Fin 960) (j : Fin 256) (hj : ¬j.val < 251) : (show FVec Ideal S960x256 .f32 from (dats m 0 c).arrAt 5 cfg0.N) (ix2 r j) = (0 : EReal) := by
  refine ((dats m 0 c).arrAt_emb_eq_after_last 5 t0_0 (by decide +kernel) (ix2 r j)).trans ?_
  blk_simp
  rw [after0_5]
  frame_out
  have key : ∀ x0 x2 x1 x3 x4, k0_pay1 (F := Ideal) x0 x2 x1 x3 x4 (ix2 r j) = (0 : EReal) := fun x0 x2 x1 x3 x4 => by
    rw [pay_eq, pad3_at, dif_neg hj]
  exact key _ _ _ _ _

/-- A bit of a word shifted down to the bottom. -/
theorem bit_eq (w : BitVec 32) (k : ℕ) (hk : k < 32) :
    IntOp.cmpi .eq (IntOp.andi (IntOp.shrsi ArithUnit.host w (BitVec.ofNat 32 k)) 1#32) 1#32 = 1#1 ↔ w.getLsbD k = true := by
  have hs : IntOp.shrsi ArithUnit.host w (BitVec.ofNat 32 k) = w.sshiftRight k := by
    have e : (BitVec.ofNat 32 k).toNat = k := by rw [BitVec.toNat_ofNat, Nat.mod_eq_of_lt (by omega)]
    unfold IntOp.shrsi
    simp [e, hk]
  rw [hs]
  show BitVec.ofBool ((w.sshiftRight k &&& 1#32) == 1#32) = 1#1 ↔ _
  rw [BitVec.and_one_eq_setWidth_ofBool_getLsbD, BitVec.getLsbD_sshiftRight]
  have h0 : (0 + k < 32) := by omega
  have h2 : ¬ (32 ≤ 0) := by decide
  simp only [h0, h2, Nat.zero_add, Nat.add_zero, hk, if_true, decide_false, Bool.not_false, Bool.true_and]
  cases w.getLsbD k <;> decide

theorem v10_eq (r : Fin 960) (v : Fin 128512) (w : Fin 4096) (hw : w.val = v.val / 32) :
    IntOp.cmpi .eq ((show Vec Ideal S960x128512 .i32 from V m c main_v10) (ix2 r v) : BitVec 32) 1#32 = 1#1
      ↔ ((show Vec Ideal S960x4096 .i32 from m (c.tc.loc main_arg8)) (ix2 r w) : BitVec 32).getLsbD (v.val % 32) = true ∧ v.val < 128256 := by
  by_cases h : v.val < 128256
  · have e10 := read_v10 m c r v
    rw [dif_pos h] at e10
    have e9 := read_v9 m c r ⟨v.val, h⟩
    have e8 := read_v8 m c r ⟨v.val / 32, by omega⟩ ⟨v.val % 32, Nat.mod_lt _ (by decide)⟩
    have e := e10.trans (e9.trans e8)
    have hw' : w = ⟨v.val / 32, by omega⟩ := Fin.ext hw
    rw [hw', e]
    exact (bit_eq _ _ (Nat.mod_lt _ (by decide))).trans ⟨fun x => ⟨x, h⟩, fun x => x.1⟩
  · have e10 := read_v10 m c r v
    rw [dif_neg h] at e10
    rw [e10]
    exact ⟨fun x => absurd x (by decide), fun x => absurd x.2 h⟩

end Cert.FwdReferenceIdeal.Gen
-- ==== Proof.FwdFinal.lean ====
/- The forward kernel's block normalisers are the reference's, from equal arguments. -/
module

public import proofs.«01_k».proof.Proof.FWI.Global
public import proofs.«01_k».proof.Proof.FWI.Ok
public import proofs.«01_k».proof.Proof.FRI.Arrays
public import proofs.«01_k».proof.Proof.Lists

@[expose] public section

set_option maxRecDepth 16384

noncomputable section

namespace Cert.FwdFinal

open Idealize.ShloMosaic Idealize.ShloMosaic.TcCoe Idealize.SL.Sem
open Cert.FwdIdeal.Gen (ninf rowLse masked wm gLse)

theorem w_lt (w : Fin 4008) : w.val < 4096 := Nat.lt_trans w.isLt (by decide)

theorem col_lt (n : Fin 251) (l : Fin 512) : n.val * 512 + l.val < 128512 := by omega

/-- No logit above −∞: the normaliser is 0. -/
theorem rowLse_ninf (f : Fin 512 → EReal) (h : ∀ l, f l = ninf) : rowLse f = 0 := by
  unfold rowLse
  refine if_neg (not_lt.mpr ?_)
  rw [Finset.fold_max_le]
  exact ⟨le_refl _, fun l _ => le_of_eq (h l)⟩

/-- Within the vocabulary the weights are themselves. -/
theorem wm_eq (n : Fin 251) (l : Fin 512) (h : n.val * 512 + l.val < 128256) (x : EReal) : wm (BitVec.ofNat 32 n.val) l x = x := by
  have key : ¬(IntOp.andi (Scalar.cmpi CmpIPredicate.eq (BitVec.ofNat 32 n.val) 250#32) (IntOp.cmpi CmpIPredicate.sge (BitVec.ofNat 32 l.val) 256#32) = 1#1) := by
    intro e
    obtain ⟨e1, e2⟩ := IntOp.andi_eq_one.1 e
    have hb : ∀ b : Bool, BitVec.ofBool b = 1#1 → b = true := by decide
    have e1 : BitVec.ofBool (BitVec.ofNat 32 n.val == 250#32) = 1#1 := e1
    have h1 : BitVec.ofNat 32 n.val = 250#32 := eq_of_beq (hb _ e1)
    have h1' := congrArg BitVec.toNat h1
    have e2 : BitVec.ofBool (decide ((256#32).toInt ≤ (BitVec.ofNat 32 l.val).toInt)) = 1#1 := e2
    have h2 := of_decide_eq_true (hb _ e2)
    have hl : (BitVec.ofNat 32 l.val).toNat = l.val := by rw [BitVec.toNat_ofNat, Nat.mod_eq_of_lt (by omega)]
    rw [BitVec.toInt_eq_toNat_of_lt (x := BitVec.ofNat 32 l.val) (by omega), hl] at h2
    have h2' : (256 : ℤ) ≤ (l.val : ℤ) := h2
    have h1'' : n.val = 250 := by
      have : (BitVec.ofNat 32 n.val).toNat = n.val := by rw [BitVec.toNat_ofNat, Nat.mod_eq_of_lt (by omega)]
      rw [this] at h1'
      exact h1'
    omega
  unfold wm Scalar.select
  simp [key]

variable (m : (ℓ : Loc Cert.FwdIdeal.nD Cert.FwdIdeal.τ Cert.FwdIdeal.sig) → Buf (Elt Ideal) ℓ)
  (hO : Cert.FwdIdeal.Gen.Ok m)
  (m' : (ℓ : Loc Cert.FwdReferenceIdeal.nD Cert.FwdReferenceIdeal.τ Cert.FwdReferenceIdeal.sig) → Buf (Elt Ideal) ℓ)

/-- The arguments read agree. -/
structure Agree : Prop where
  a2 : (show FVec Ideal Cert.FwdIdeal.S960x3072 .fp8e4m3 from m' (((0 : Dev Cert.FwdIdeal.nD).tc : Thread Cert.FwdReferenceIdeal.nD Cert.FwdReferenceIdeal.τ).loc Cert.FwdReferenceIdeal.main_arg2)) = m (((0 : Dev Cert.FwdIdeal.nD).tc : Thread Cert.FwdIdeal.nD Cert.FwdIdeal.τ).loc Cert.FwdIdeal.main_arg2)
  a3 : (show FVec Ideal Cert.FwdIdeal.S960x1 .f32 from m' (((0 : Dev Cert.FwdIdeal.nD).tc : Thread Cert.FwdReferenceIdeal.nD Cert.FwdReferenceIdeal.τ).loc Cert.FwdReferenceIdeal.main_arg3)) = m (((0 : Dev Cert.FwdIdeal.nD).tc : Thread Cert.FwdIdeal.nD Cert.FwdIdeal.τ).loc Cert.FwdIdeal.main_arg3)
  a6 : (show FVec Ideal Cert.FwdIdeal.S128512x3072 .fp8e4m3 from m' (((0 : Dev Cert.FwdIdeal.nD).tc : Thread Cert.FwdReferenceIdeal.nD Cert.FwdReferenceIdeal.τ).loc Cert.FwdReferenceIdeal.main_arg6)) = m (((0 : Dev Cert.FwdIdeal.nD).tc : Thread Cert.FwdIdeal.nD Cert.FwdIdeal.τ).loc Cert.FwdIdeal.main_arg6)
  a7 : (show FVec Ideal Cert.FwdIdeal.S251x1x512 .f32 from m' (((0 : Dev Cert.FwdIdeal.nD).tc : Thread Cert.FwdReferenceIdeal.nD Cert.FwdReferenceIdeal.τ).loc Cert.FwdReferenceIdeal.main_arg7)) = m (((0 : Dev Cert.FwdIdeal.nD).tc : Thread Cert.FwdIdeal.nD Cert.FwdIdeal.τ).loc Cert.FwdIdeal.main_arg7)
  a8 : (show Vec Ideal Cert.FwdIdeal.S960x4096 .i32 from m' (((0 : Dev Cert.FwdIdeal.nD).tc : Thread Cert.FwdReferenceIdeal.nD Cert.FwdReferenceIdeal.τ).loc Cert.FwdReferenceIdeal.main_arg8)) = m (((0 : Dev Cert.FwdIdeal.nD).tc : Thread Cert.FwdIdeal.nD Cert.FwdIdeal.τ).loc Cert.FwdIdeal.main_arg8)

variable (hA : Agree m m')

include hA in
/-- A block's normaliser, the kernel's and the reference's. -/
theorem lse_eq (n : Fin 251) (y : Fin 960) : gLse m 0 n y = rowLse fun l => Cert.FwdReferenceIdeal.Gen.rlgAt m' 0 y ⟨n.val * 512 + l.val, col_lt n l⟩ := by
  unfold gLse
  refine congrArg rowLse (funext fun l => ?_)
  unfold Cert.FwdReferenceIdeal.Gen.rlgAt Cert.FwdReferenceIdeal.Gen.rlg
  have hm := Cert.FwdReferenceIdeal.Gen.v10_eq m' 0 y ⟨n.val * 512 + l.val, by omega⟩ ⟨n.val / 8 * 128 + (n.val % 8 * 16 + l.val / 32), by omega⟩
    (by show n.val / 8 * 128 + (n.val % 8 * 16 + l.val / 32) = (n.val * 512 + l.val) / 32; omega)
  have e8 := congrFun (hA.a8.trans (Cert.FwdIdeal.Gen.V_main_arg8 m 0).symm) (ix2 y ⟨n.val / 8 * 128 + (n.val % 8 * 16 + l.val / 32), by omega⟩)
  have hl : (n.val * 512 + l.val) % 32 = l.val % 32 := by omega
  have hm' := hm.trans (and_congr (Iff.of_eq (congrArg (fun k => ((show Vec Ideal Cert.FwdIdeal.S960x4096 .i32 from m' (((0 : Dev Cert.FwdIdeal.nD).tc : Thread Cert.FwdReferenceIdeal.nD Cert.FwdReferenceIdeal.τ).loc Cert.FwdReferenceIdeal.main_arg8)) (ix2 y ⟨n.val / 8 * 128 + (n.val % 8 * 16 + l.val / 32), by omega⟩) : BitVec 32).getLsbD k = true) hl)) Iff.rfl)
  have hm'' := hm'.trans (and_congr (Iff.of_eq (congrArg (fun w : BitVec 32 => w.getLsbD (l.val % 32) = true) e8)) Iff.rfl)
  clear hm hm'
  unfold masked
  unfold Scalar.select
  by_cases hc : n.val * 512 + l.val < 128256
  · refine (if_congr hm''.symm ?_ rfl).trans rfl
    refine congrArg₂ (fun a b : EReal => a * b) (congrArg₂ (fun a b : EReal => a * b) (Finset.sum_congr rfl fun x _ => ?_) ?_) ?_
    · rw [wm_eq n l hc]
      refine congrArg₂ (fun a b : EReal => a * b) ?_ ?_
      · exact (congrFun (((Cert.FwdReferenceIdeal.Gen.V_main_arg2 m' 0).trans hA.a2).trans (Cert.FwdIdeal.Gen.V_main_arg2 m 0).symm) (ix2 y x)).symm
      · exact (congrFun (((Cert.FwdReferenceIdeal.Gen.V_main_arg6 m' 0).trans hA.a6).trans (Cert.FwdIdeal.Gen.V_main_arg6 m 0).symm) _).symm
    · exact (congrFun (((Cert.FwdReferenceIdeal.Gen.V_main_arg3 m' 0).trans hA.a3).trans (Cert.FwdIdeal.Gen.V_main_arg3 m 0).symm) _).symm
    · refine ((Cert.FwdReferenceIdeal.Gen.read_v11 m' 0 ⟨n.val * 512 + l.val, by omega⟩).trans
        ((congrFun (hA.a7.trans (Cert.FwdIdeal.Gen.V_main_arg7 m 0).symm) _).trans (congrArg _ ?_))).symm
      funext a
      refine Fin.ext ?_
      match a with
      | 0 => show (n.val * 512 + l.val) / 512 = n.val; omega
      | 1 => rfl
      | 2 => show (n.val * 512 + l.val) % 512 = l.val; omega
  · refine (if_neg (fun h => hc h.2)).trans (if_neg (fun h => ?_)).symm
    exact hc ((hm''.mp (by simpa using h)).2)

/-- A block with no allowed column has the normaliser 0. -/
theorem lse_zero (n : Fin 251) (y : Fin 960)
    (h : ∀ w : Fin 4008, w.val / 16 = n.val → ((show Vec Ideal Cert.FwdIdeal.S960x4096 .i32 from Cert.FwdIdeal.Gen.V m 0 Cert.FwdIdeal.main_arg8) (ix2 y ⟨w.val, w_lt w⟩) : BitVec 32) = 0#32) :
    gLse m 0 n y = 0 := by
  refine rowLse_ninf _ fun l => ?_
  unfold masked
  refine if_neg ?_
  rintro ⟨h1, h2⟩
  have e := h ⟨(n.val * 512 + l.val) / 32, by omega⟩ (by show (n.val * 512 + l.val) / 32 / 16 = n.val; omega)
  have ei : (⟨n.val / 8 * 128 + (n.val % 8 * 16 + l.val / 32), by omega⟩ : Fin 4096) = ⟨(n.val * 512 + l.val) / 32, by omega⟩ :=
    Fin.ext (by show n.val / 8 * 128 + (n.val % 8 * 16 + l.val / 32) = (n.val * 512 + l.val) / 32; omega)
  rw [ei] at h1
  have h1' := (congrArg (fun w : BitVec 32 => w.getLsbD (l.val % 32)) e).symm.trans h1
  simp at h1'

variable (hk : 1 ≤ (Cert.FwdIdeal.Gen.tbl m 0 fun a => a.elim0 : BitVec 32).toNat)
  (hC : ∀ (r : Fin 960) (w : Fin 4008), (∃ j : Fin 251, j.val < (Cert.FwdIdeal.Gen.tbl m 0 fun a => a.elim0 : BitVec 32).toNat ∧ (Cert.FwdIdeal.Gen.tbl m 1 (ix1 j) : BitVec 32) = BitVec.ofNat 32 (w.val / 16))
    ∨ ((show Vec Ideal Cert.FwdIdeal.S960x4096 .i32 from Cert.FwdIdeal.Gen.V m 0 Cert.FwdIdeal.main_arg8) (ix2 r ⟨w.val, w_lt w⟩) : BitVec 32) = 0#32)

include hA hk hC in
/-- The block normalisers. -/
theorem blocks : (show FVec Ideal Cert.FwdIdeal.S960x256 .f32 from (Cert.FwdIdeal.Gen.dats m hO 0 0).arrAt 8 (Cert.FwdIdeal.Gen.cfgM m hO).N)
    = (show FVec Ideal Cert.FwdIdeal.S960x256 .f32 from (Cert.FwdReferenceIdeal.Gen.dats m' 0 0).arrAt 5 Cert.FwdReferenceIdeal.cfg0.N) := by
  have hN : (Cert.FwdIdeal.Gen.cfgM m hO).N = (Cert.FwdIdeal.Gen.tbl m 0 fun a => a.elim0 : BitVec 32).toNat := Cert.FwdIdeal.Gen.N_eq m hO
  have h0 : 0 < (Cert.FwdIdeal.Gen.cfgM m hO).N := lt_of_lt_of_eq (Nat.lt_of_lt_of_le Nat.one_pos hk) hN.symm
  funext i
  obtain ⟨y, j, rfl⟩ : ∃ (y : Fin 960) (j : Fin 256), i = ix2 y j := ⟨i 0, i 1, eq_ix2 i⟩
  by_cases hj : j.val < 251
  · refine (Cert.FwdIdeal.Gen.arr_8 m hO 0 h0 y ⟨j.val, hj⟩).trans (Eq.trans ?_ (Cert.FwdReferenceIdeal.Gen.arr_5 m' 0 y ⟨j.val, hj⟩).symm)
    rw [← lse_eq m m' hA ⟨j.val, hj⟩ y]
    split
    · rfl
    · rename_i hne
      refine (lse_zero m ⟨j.val, hj⟩ y fun w hw => ?_).symm
      rcases hC y w with ⟨q, hq, e⟩ | e
      · refine absurd ⟨⟨q.val, lt_of_lt_of_eq hq hN.symm⟩, Fin.ext ?_⟩ hne
        show (Cert.FwdIdeal.Gen.ord m hO ⟨q.val, _⟩).toNat = j.val
        have hw' : w.val / 16 = j.val := hw
        have e' : (Cert.FwdIdeal.Gen.tbl m 1 (ix1 q) : BitVec 32).toNat = j.val := by
          rw [e, BitVec.toNat_ofNat, hw', Nat.mod_eq_of_lt (by omega)]
        exact e'
      · exact e
  · exact (Cert.FwdIdeal.Gen.arr_8_pad m hO 0 h0 y j hj).trans (Cert.FwdReferenceIdeal.Gen.arr_5_pad m' 0 y j hj).symm

end Cert.FwdFinal
-- ==== Proof.lean ====
/- The proof of the claims: frames of the two kernels, of their idealizations and of the references, preservation, and
   the equality of the idealized kernels' results with the references'. -/
module

public import proofs.«01_k».proof.Proof.Gen.Fwd
public import proofs.«01_k».proof.Proof.Gen.Fwd.Skeleton
public import proofs.«01_k».proof.Proof.Gen.Fwd.Launch
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdReferenceIdeal
public import proofs.«01_k».proof.Proof.Gen.FwdReferenceIdeal.Skeleton
public import proofs.«01_k».proof.Proof.Gen.FwdReferenceIdeal.Launch
public import proofs.«01_k».proof.Proof.Gen.FwdReferenceIdeal.Points
public import proofs.«01_k».proof.Proof.Gen.FwdReferenceIdeal.Frame
public import proofs.«01_k».proof.Proof.Gen.FwdReferenceIdeal.Value
public import proofs.«01_k».proof.Proof.Gen.Pre_list_in_range
public import proofs.«01_k».proof.Proof.Gen.Pre_list_complete
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_tables_in_range
public import proofs.«01_k».proof.Proof.Gen.Pre_tables_ok

public import proofs.«01_k».proof.Proof.Tables
public import proofs.«01_k».proof.Proof.K.Frame
public import proofs.«01_k».proof.Proof.K.Ok
public import proofs.«01_k».proof.Proof.KI.Frame
public import proofs.«01_k».proof.Proof.KI.Ok
public import proofs.«01_k».proof.Proof.Final
public import proofs.«01_k».proof.Proof.Lists
public import proofs.«01_k».proof.Proof.FW.Frame
public import proofs.«01_k».proof.Proof.FW.Ok
public import proofs.«01_k».proof.Proof.FWI.Frame
public import proofs.«01_k».proof.Proof.FWI.Ok
public import proofs.«01_k».proof.Proof.FwdFinal

@[expose] public section

noncomputable section

namespace Cert.Proof

open Idealize.ShloMosaic Idealize.SL.Sem

/-- The tables in range: the kernel's side condition. -/
theorem ok_K (m : (ℓ : Loc Cert.Kernel.nD Cert.Kernel.τ Cert.Kernel.sig) → Buf (Elt Bits) ℓ) (h : Cert.Pre_Kernel m) : Cert.Kernel.Gen.Ok m :=
  Cert.Kernel.Gen.ok_of m (fun j => (Cert.Tables.in_range _ _ _ _ _ _ _ _ _ _ (h 0) j).1) (fun j => (Cert.Tables.in_range _ _ _ _ _ _ _ _ _ _ (h 0) j).2)

/-- The same of the idealized kernel, -/
theorem ok_KI (m : (ℓ : Loc Cert.KernelIdeal.nD Cert.KernelIdeal.τ Cert.KernelIdeal.sig) → Buf (Elt Ideal) ℓ) (h : Cert.Pre_KernelIdeal m) : Cert.KernelIdeal.Gen.Ok m :=
  Cert.KernelIdeal.Gen.ok_of m (fun j => (Cert.Tables.in_range _ _ _ _ _ _ _ _ _ _ (h 0) j).1) (fun j => (Cert.Tables.in_range _ _ _ _ _ _ _ _ _ _ (h 0) j).2)

/-- and from the stronger precondition. -/
theorem ok_KI' (m : (ℓ : Loc Cert.KernelIdeal.nD Cert.KernelIdeal.τ Cert.KernelIdeal.sig) → Buf (Elt Ideal) ℓ) (h : Cert.Pre_KernelIdeal_tables_ok m) : Cert.KernelIdeal.Gen.Ok m :=
  Cert.KernelIdeal.Gen.ok_of m (fun j => (Cert.Tables.ok _ _ _ _ _ _ _ _ _ _ (h 0) j).1) (fun j => (Cert.Tables.ok _ _ _ _ _ _ _ _ _ _ (h 0) j).2.1)

/-- The idealized kernel's run, its results named. -/
theorem run_K (m : (ℓ : Loc Cert.KernelIdeal.nD Cert.KernelIdeal.τ Cert.KernelIdeal.sig) → Buf (Elt Ideal) ℓ) (g : Dev Cert.KernelIdeal.nD → PrngReg)
    (hO : Cert.KernelIdeal.Gen.Ok m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v0_0) = Cert.KernelIdeal.Gen.gArr m hO c
      ∧ r.2.mem ((c.tc : Thread Cert.KernelIdeal.nD Cert.KernelIdeal.τ).loc Cert.KernelIdeal.main_v0_1) = Cert.KernelIdeal.Gen.dxArr m hO c) :=
  (θ_run _ _ _).mono (fun _ h c => ⟨((h c).1 7).trans (Cert.KernelIdeal.Gen.arr_7 m hO c), ((h c).1 8).trans (Cert.KernelIdeal.Gen.arr_8 m hO c)⟩)
    (Cert.KernelIdeal.Gen.run_main m g hO)

theorem algebraic : @Cert.algebraic_KernelIdeal_ReferenceIdeal_pre_tables_ok Cert.KernelIdeal.Gen.facts Cert.ReferenceIdeal.Gen.facts Cert.Pre_tables_ok.Gen.facts := by
  intro m g m' g' h hA
  have hO := ok_KI' m h
  have hP := fun j => (Cert.Tables.ok _ _ _ _ _ _ _ _ _ _ (h 0) j).1
  have hW := fun n : Fin 251 => (Cert.Tables.ok _ _ _ _ _ _ _ _ _ _ (h 0) (ix1 n)).2.2
  refine ⟨fun c => Cert.KernelIdeal.Gen.gArr m hO c, fun c => Cert.KernelIdeal.Gen.dxArr m hO c, ?_, ?_⟩
  · exact (θ_run _ _ _).mono (fun _ h c => ⟨(h.1 c).1, (h.1 c).2, h.2 c⟩)
      (θ_run_and (run_K m g hO) (Cert.KernelIdeal.Gen.unchanged m g hO))
  · refine (θ_run _ _ _).mono (fun r h c => ?_) (Cert.ReferenceIdeal.Value.run_blocks m' g')
    obtain rfl : c = 0 := Subsingleton.elim _ _
    exact ⟨(h 0).1.trans (Cert.Final.codes m hO m' hA hP).symm, (h 0).2.1.trans (Cert.Final.dx m hO m' hA hP hW).symm, (h 0).2.2⟩

/-- The list in range: the forward kernel's side condition. -/
theorem ok_F (m : (ℓ : Loc Cert.Fwd.nD Cert.Fwd.τ Cert.Fwd.sig) → Buf (Elt Bits) ℓ) (h : Cert.Pre_Fwd m) : Cert.Fwd.Gen.Ok m := by
  have H := Cert.Lists.in_range _ _ _ _ _ _ _ _ _ (h 0)
  have e0 := congrArg BitVec.toNat (Cert.Fwd.Gen.tbl_0 m)
  exact Cert.Fwd.Gen.ok_of m (le_of_eq_of_le e0 H.1.2) (fun j hj => lt_of_eq_of_lt (congrArg BitVec.toNat (Cert.Fwd.Gen.tbl_1 m j)) (H.2 j (lt_of_lt_of_eq hj e0)))

/-- The same of the idealized forward kernel, -/
theorem ok_FI (m : (ℓ : Loc Cert.FwdIdeal.nD Cert.FwdIdeal.τ Cert.FwdIdeal.sig) → Buf (Elt Ideal) ℓ) (h : Cert.Pre_FwdIdeal m) : Cert.FwdIdeal.Gen.Ok m := by
  have H := Cert.Lists.in_range _ _ _ _ _ _ _ _ _ (h 0)
  have e0 := congrArg BitVec.toNat (Cert.FwdIdeal.Gen.tbl_0 m)
  exact Cert.FwdIdeal.Gen.ok_of m (le_of_eq_of_le e0 H.1.2) (fun j hj => lt_of_eq_of_lt (congrArg BitVec.toNat (Cert.FwdIdeal.Gen.tbl_1 m j)) (H.2 j (lt_of_lt_of_eq hj e0)))

/-- and from the stronger precondition. -/
theorem ok_FI' (m : (ℓ : Loc Cert.FwdIdeal.nD Cert.FwdIdeal.τ Cert.FwdIdeal.sig) → Buf (Elt Ideal) ℓ) (h : Cert.Pre_FwdIdeal_list_complete m) : Cert.FwdIdeal.Gen.Ok m := by
  have H := (Cert.Lists.complete _ _ _ _ _ _ _ _ _ (h 0)).1
  have e0 := congrArg BitVec.toNat (Cert.FwdIdeal.Gen.tbl_0 m)
  exact Cert.FwdIdeal.Gen.ok_of m (le_of_eq_of_le e0 H.1.2) (fun j hj => lt_of_eq_of_lt (congrArg BitVec.toNat (Cert.FwdIdeal.Gen.tbl_1 m j)) (H.2 j (lt_of_lt_of_eq hj e0)))

/-- The idealized forward kernel's run, its result named. -/
theorem run_F (m : (ℓ : Loc Cert.FwdIdeal.nD Cert.FwdIdeal.τ Cert.FwdIdeal.sig) → Buf (Elt Ideal) ℓ) (g : Dev Cert.FwdIdeal.nD → PrngReg)
    (hO : Cert.FwdIdeal.Gen.Ok m) :
    θ_run (Cert.FwdIdeal.defs (F := Ideal)) (onTc (τ := Cert.FwdIdeal.τ) (Cert.FwdIdeal.main (F := Ideal))) ⟨m, fun _ => 0, g⟩ (fun r => ∀ c : Dev Cert.FwdIdeal.nD,
      r.2.mem ((c.tc : Thread Cert.FwdIdeal.nD Cert.FwdIdeal.τ).loc Cert.FwdIdeal.main_v1_1) = (Cert.FwdIdeal.Gen.dats m hO 0 c).arrAt 8 (Cert.FwdIdeal.Gen.cfgM m hO).N) :=
  (θ_run _ _ _).mono (fun _ h c => ((Cert.FwdIdeal.Gen.dats m hO 0 c).toRForget_arrAt_iff (fgt := Cert.FwdIdeal.Gen.forgets0) (w := 8) rfl _ _).1 ((h c).1 8))
    (Cert.FwdIdeal.Gen.run_main m g hO)

theorem algebraic_F : @Cert.algebraic_FwdIdeal_FwdReferenceIdeal_pre_list_complete Cert.FwdIdeal.Gen.facts Cert.FwdReferenceIdeal.Gen.facts Cert.Pre_list_complete.Gen.facts := by
  intro m g m' g' h hA
  have hO := ok_FI' m h
  have H := Cert.Lists.complete _ _ _ _ _ _ _ _ _ (h 0)
  have e0 := congrArg BitVec.toNat (Cert.FwdIdeal.Gen.tbl_0 m)
  have hE := Cert.FwdFinal.blocks m hO m'
    ⟨(hA 0).2.2.1, (hA 0).2.2.2.1, (hA 0).2.2.2.2.2.2.1, (hA 0).2.2.2.2.2.2.2.1, (hA 0).2.2.2.2.2.2.2.2⟩
    (le_of_le_of_eq H.1.1.1 e0.symm)
    (fun r w => (H.2 r w).imp (fun ⟨j, hj, e⟩ => ⟨j, lt_of_lt_of_eq hj e0.symm, (Cert.FwdIdeal.Gen.tbl_1 m j).trans e⟩)
      fun e => (congrFun (Cert.FwdIdeal.Gen.V_main_arg8 m 0) _).trans e)
  refine ⟨fun c => (Cert.FwdIdeal.Gen.dats m hO 0 c).arrAt 8 (Cert.FwdIdeal.Gen.cfgM m hO).N, ?_, ?_⟩
  · exact (θ_run _ _ _).mono (fun _ h c => ⟨h.1 c, h.2.1 c⟩) (θ_run_and (run_F m g hO) (Cert.FwdIdeal.Gen.frame m g hO))
  · refine (θ_run _ _ _).mono (fun r h c => ?_) (Cert.FwdReferenceIdeal.Value.run_blocks m' g')
    obtain rfl : c = 0 := Subsingleton.elim _ _
    exact ⟨(h 0).1.trans hE.symm, (h 0).2⟩

theorem claim : Cert.Claim := ⟨Cert.Kernel.Gen.facts, Cert.KernelIdeal.Gen.facts, Cert.ReferenceIdeal.Gen.facts,
  Cert.Fwd.Gen.facts, Cert.FwdIdeal.Gen.facts, Cert.FwdReferenceIdeal.Gen.facts,
  Cert.Pre_tables_in_range.Gen.facts, Cert.Pre_tables_ok.Gen.facts, Cert.Pre_list_in_range.Gen.facts, Cert.Pre_list_complete.Gen.facts,
  fun m ρ h => Cert.Kernel.Gen.frame m ρ (ok_K m h),
  fun m ρ h => Cert.KernelIdeal.Gen.frame m ρ (ok_KI m h),
  fun m ρ h => Cert.KernelIdeal.Gen.frame m ρ (ok_KI' m h),
  fun m ρ _ => Cert.ReferenceIdeal.Gen.frame m ρ,
  fun m ρ _ => Cert.ReferenceIdeal.Gen.frame m ρ,
  fun m ρ h => Cert.Fwd.Gen.frame m ρ (ok_F m h),
  fun m ρ h => Cert.FwdIdeal.Gen.frame m ρ (ok_FI m h),
  fun m ρ h => Cert.FwdIdeal.Gen.frame m ρ (ok_FI' m h),
  fun m ρ _ => Cert.FwdReferenceIdeal.Gen.frame m ρ,
  fun m ρ _ => Cert.FwdReferenceIdeal.Gen.frame m ρ,
  trivial,
  algebraic,
  trivial,
  algebraic_F⟩

end Cert.Proof

end
